-- ==== Defs.lean ====
def Pre_Rows [hPre_idx_in_rows : Cert.Pre_idx_in_rows.Facts] (m : (ℓ : Loc Cert.Rows.nD Cert.Rows.τ Cert.Rows.sig) → Buf (Elt Bits) ℓ) : Prop :=
  ∀ c : Dev Cert.Rows.nD,
    (Cert.Pre_idx_in_rows.fn (F := Bits) (m ((c.tc : Thread Cert.Rows.nD Cert.Rows.τ).loc Cert.Rows.main_arg0)) (m ((c.tc : Thread Cert.Rows.nD Cert.Rows.τ).loc Cert.Rows.main_arg1))) = (fun _ => 1#1)

def Pre_RowsIdeal [hPre_idx_in_rows : Cert.Pre_idx_in_rows.Facts] (m : (ℓ : Loc Cert.RowsIdeal.nD Cert.RowsIdeal.τ Cert.RowsIdeal.sig) → Buf (Elt Ideal) ℓ) : Prop :=
  ∀ c : Dev Cert.RowsIdeal.nD,
    (Cert.Pre_idx_in_rows.fn (F := Ideal) (m ((c.tc : Thread Cert.RowsIdeal.nD Cert.RowsIdeal.τ).loc Cert.RowsIdeal.main_arg0)) (m ((c.tc : Thread Cert.RowsIdeal.nD Cert.RowsIdeal.τ).loc Cert.RowsIdeal.main_arg1))) = (fun _ => 1#1)

def Pre_RowsRefIdeal [hPre_idx_in_rows : Cert.Pre_idx_in_rows.Facts] (m : (ℓ : Loc Cert.RowsRefIdeal.nD Cert.RowsRefIdeal.τ Cert.RowsRefIdeal.sig) → Buf (Elt Ideal) ℓ) : Prop :=
  ∀ c : Dev Cert.RowsRefIdeal.nD,
    (Cert.Pre_idx_in_rows.fn (F := Ideal) (m ((c.tc : Thread Cert.RowsRefIdeal.nD Cert.RowsRefIdeal.τ).loc Cert.RowsRefIdeal.main_arg0)) (m ((c.tc : Thread Cert.RowsRefIdeal.nD Cert.RowsRefIdeal.τ).loc Cert.RowsRefIdeal.main_arg1))) = (fun _ => 1#1)

def Pre_SimRows [hPre_idx_in_sims : Cert.Pre_idx_in_sims.Facts] (m : (ℓ : Loc Cert.SimRows.nD Cert.SimRows.τ Cert.SimRows.sig) → Buf (Elt Bits) ℓ) : Prop :=
  ∀ c : Dev Cert.SimRows.nD,
    (Cert.Pre_idx_in_sims.fn (F := Bits) (m ((c.tc : Thread Cert.SimRows.nD Cert.SimRows.τ).loc Cert.SimRows.main_arg0)) (m ((c.tc : Thread Cert.SimRows.nD Cert.SimRows.τ).loc Cert.SimRows.main_arg1))) = (fun _ => 1#1)

def Pre_SimRowsIdeal [hPre_idx_in_sims : Cert.Pre_idx_in_sims.Facts] (m : (ℓ : Loc Cert.SimRowsIdeal.nD Cert.SimRowsIdeal.τ Cert.SimRowsIdeal.sig) → Buf (Elt Ideal) ℓ) : Prop :=
  ∀ c : Dev Cert.SimRowsIdeal.nD,
    (Cert.Pre_idx_in_sims.fn (F := Ideal) (m ((c.tc : Thread Cert.SimRowsIdeal.nD Cert.SimRowsIdeal.τ).loc Cert.SimRowsIdeal.main_arg0)) (m ((c.tc : Thread Cert.SimRowsIdeal.nD Cert.SimRowsIdeal.τ).loc Cert.SimRowsIdeal.main_arg1))) = (fun _ => 1#1)

def Pre_SimRowsRefIdeal [hPre_idx_in_sims : Cert.Pre_idx_in_sims.Facts] (m : (ℓ : Loc Cert.SimRowsRefIdeal.nD Cert.SimRowsRefIdeal.τ Cert.SimRowsRefIdeal.sig) → Buf (Elt Ideal) ℓ) : Prop :=
  ∀ c : Dev Cert.SimRowsRefIdeal.nD,
    (Cert.Pre_idx_in_sims.fn (F := Ideal) (m ((c.tc : Thread Cert.SimRowsRefIdeal.nD Cert.SimRowsRefIdeal.τ).loc Cert.SimRowsRefIdeal.main_arg0)) (m ((c.tc : Thread Cert.SimRowsRefIdeal.nD Cert.SimRowsRefIdeal.τ).loc Cert.SimRowsRefIdeal.main_arg1))) = (fun _ => 1#1)

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Rows [hRows : Cert.Rows.Facts] [hPre_idx_in_rows : Cert.Pre_idx_in_rows.Facts] : Prop :=
  ∀ (m : (ℓ : Loc Cert.Rows.nD Cert.Rows.τ Cert.Rows.sig) → Buf (Elt Bits) ℓ) (g : Dev Cert.Rows.nD → PrngReg), Pre_Rows m →
    θ_run (Cert.Rows.defs (F := Bits)) (Cert.Rows.threads (F := Bits)) ⟨m, fun _ => 0, g⟩ (fun r => (∀ c : Dev Cert.Rows.nD,
      r.2.mem ((c.tc : Thread Cert.Rows.nD Cert.Rows.τ).loc Cert.Rows.main_arg0) = m ((c.tc : Thread Cert.Rows.nD Cert.Rows.τ).loc Cert.Rows.main_arg0)
      ∧ r.2.mem ((c.tc : Thread Cert.Rows.nD Cert.Rows.τ).loc Cert.Rows.main_arg1) = m ((c.tc : Thread Cert.Rows.nD Cert.Rows.τ).loc Cert.Rows.main_arg1))
      ∧ r.2.sem = fun _ => 0)

def quiescent_RowsIdeal [hRowsIdeal : Cert.RowsIdeal.Facts] [hPre_idx_in_rows : Cert.Pre_idx_in_rows.Facts] : Prop :=
  ∀ (m : (ℓ : Loc Cert.RowsIdeal.nD Cert.RowsIdeal.τ Cert.RowsIdeal.sig) → Buf (Elt Ideal) ℓ) (g : Dev Cert.RowsIdeal.nD → PrngReg), Pre_RowsIdeal m →
    θ_run (Cert.RowsIdeal.defs (F := Ideal)) (Cert.RowsIdeal.threads (F := Ideal)) ⟨m, fun _ => 0, g⟩ (fun r => (∀ c : Dev Cert.RowsIdeal.nD,
      r.2.mem ((c.tc : Thread Cert.RowsIdeal.nD Cert.RowsIdeal.τ).loc Cert.RowsIdeal.main_arg0) = m ((c.tc : Thread Cert.RowsIdeal.nD Cert.RowsIdeal.τ).loc Cert.RowsIdeal.main_arg0)
      ∧ r.2.mem ((c.tc : Thread Cert.RowsIdeal.nD Cert.RowsIdeal.τ).loc Cert.RowsIdeal.main_arg1) = m ((c.tc : Thread Cert.RowsIdeal.nD Cert.RowsIdeal.τ).loc Cert.RowsIdeal.main_arg1))
      ∧ r.2.sem = fun _ => 0)

def quiescent_RowsRefIdeal [hRowsRefIdeal : Cert.RowsRefIdeal.Facts] [hPre_idx_in_rows : Cert.Pre_idx_in_rows.Facts] : Prop :=
  ∀ (m : (ℓ : Loc Cert.RowsRefIdeal.nD Cert.RowsRefIdeal.τ Cert.RowsRefIdeal.sig) → Buf (Elt Ideal) ℓ) (g : Dev Cert.RowsRefIdeal.nD → PrngReg), Pre_RowsRefIdeal m →
    θ_run (Cert.RowsRefIdeal.defs (F := Ideal)) (onTc (τ := Cert.RowsRefIdeal.τ) (Cert.RowsRefIdeal.main (F := Ideal))) ⟨m, fun _ => 0, g⟩ (fun r => (∀ c : Dev Cert.RowsRefIdeal.nD,
      r.2.mem ((c.tc : Thread Cert.RowsRefIdeal.nD Cert.RowsRefIdeal.τ).loc Cert.RowsRefIdeal.main_arg0) = m ((c.tc : Thread Cert.RowsRefIdeal.nD Cert.RowsRefIdeal.τ).loc Cert.RowsRefIdeal.main_arg0)
      ∧ r.2.mem ((c.tc : Thread Cert.RowsRefIdeal.nD Cert.RowsRefIdeal.τ).loc Cert.RowsRefIdeal.main_arg1) = m ((c.tc : Thread Cert.RowsRefIdeal.nD Cert.RowsRefIdeal.τ).loc Cert.RowsRefIdeal.main_arg1))
      ∧ r.2.sem = fun _ => 0)

def quiescent_SimRows [hSimRows : Cert.SimRows.Facts] [hPre_idx_in_sims : Cert.Pre_idx_in_sims.Facts] : Prop :=
  ∀ (m : (ℓ : Loc Cert.SimRows.nD Cert.SimRows.τ Cert.SimRows.sig) → Buf (Elt Bits) ℓ) (g : Dev Cert.SimRows.nD → PrngReg), Pre_SimRows m →
    θ_run (Cert.SimRows.defs (F := Bits)) (Cert.SimRows.threads (F := Bits)) ⟨m, fun _ => 0, g⟩ (fun r => (∀ c : Dev Cert.SimRows.nD,
      r.2.mem ((c.tc : Thread Cert.SimRows.nD Cert.SimRows.τ).loc Cert.SimRows.main_arg0) = m ((c.tc : Thread Cert.SimRows.nD Cert.SimRows.τ).loc Cert.SimRows.main_arg0)
      ∧ r.2.mem ((c.tc : Thread Cert.SimRows.nD Cert.SimRows.τ).loc Cert.SimRows.main_arg1) = m ((c.tc : Thread Cert.SimRows.nD Cert.SimRows.τ).loc Cert.SimRows.main_arg1))
      ∧ r.2.sem = fun _ => 0)

def quiescent_SimRowsIdeal [hSimRowsIdeal : Cert.SimRowsIdeal.Facts] [hPre_idx_in_sims : Cert.Pre_idx_in_sims.Facts] : Prop :=
  ∀ (m : (ℓ : Loc Cert.SimRowsIdeal.nD Cert.SimRowsIdeal.τ Cert.SimRowsIdeal.sig) → Buf (Elt Ideal) ℓ) (g : Dev Cert.SimRowsIdeal.nD → PrngReg), Pre_SimRowsIdeal m →
    θ_run (Cert.SimRowsIdeal.defs (F := Ideal)) (Cert.SimRowsIdeal.threads (F := Ideal)) ⟨m, fun _ => 0, g⟩ (fun r => (∀ c : Dev Cert.SimRowsIdeal.nD,
      r.2.mem ((c.tc : Thread Cert.SimRowsIdeal.nD Cert.SimRowsIdeal.τ).loc Cert.SimRowsIdeal.main_arg0) = m ((c.tc : Thread Cert.SimRowsIdeal.nD Cert.SimRowsIdeal.τ).loc Cert.SimRowsIdeal.main_arg0)
      ∧ r.2.mem ((c.tc : Thread Cert.SimRowsIdeal.nD Cert.SimRowsIdeal.τ).loc Cert.SimRowsIdeal.main_arg1) = m ((c.tc : Thread Cert.SimRowsIdeal.nD Cert.SimRowsIdeal.τ).loc Cert.SimRowsIdeal.main_arg1))
      ∧ r.2.sem = fun _ => 0)

def quiescent_SimRowsRefIdeal [hSimRowsRefIdeal : Cert.SimRowsRefIdeal.Facts] [hPre_idx_in_sims : Cert.Pre_idx_in_sims.Facts] : Prop :=
  ∀ (m : (ℓ : Loc Cert.SimRowsRefIdeal.nD Cert.SimRowsRefIdeal.τ Cert.SimRowsRefIdeal.sig) → Buf (Elt Ideal) ℓ) (g : Dev Cert.SimRowsRefIdeal.nD → PrngReg), Pre_SimRowsRefIdeal m →
    θ_run (Cert.SimRowsRefIdeal.defs (F := Ideal)) (onTc (τ := Cert.SimRowsRefIdeal.τ) (Cert.SimRowsRefIdeal.main (F := Ideal))) ⟨m, fun _ => 0, g⟩ (fun r => (∀ c : Dev Cert.SimRowsRefIdeal.nD,
      r.2.mem ((c.tc : Thread Cert.SimRowsRefIdeal.nD Cert.SimRowsRefIdeal.τ).loc Cert.SimRowsRefIdeal.main_arg0) = m ((c.tc : Thread Cert.SimRowsRefIdeal.nD Cert.SimRowsRefIdeal.τ).loc Cert.SimRowsRefIdeal.main_arg0)
      ∧ r.2.mem ((c.tc : Thread Cert.SimRowsRefIdeal.nD Cert.SimRowsRefIdeal.τ).loc Cert.SimRowsRefIdeal.main_arg1) = m ((c.tc : Thread Cert.SimRowsRefIdeal.nD Cert.SimRowsRefIdeal.τ).loc Cert.SimRowsRefIdeal.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Rows_RowsIdeal : Prop :=
  True

def algebraic_RowsIdeal_RowsRefIdeal [hRowsIdeal : Cert.RowsIdeal.Facts] [hRowsRefIdeal : Cert.RowsRefIdeal.Facts] [hPre_idx_in_rows : Cert.Pre_idx_in_rows.Facts] : Prop :=
  ∀ (m : (ℓ : Loc Cert.RowsIdeal.nD Cert.RowsIdeal.τ Cert.RowsIdeal.sig) → Buf (Elt Ideal) ℓ) (g : Dev Cert.RowsIdeal.nD → PrngReg)
    (m' : (ℓ : Loc Cert.RowsRefIdeal.nD Cert.RowsRefIdeal.τ Cert.RowsRefIdeal.sig) → Buf (Elt Ideal) ℓ) (g' : Dev Cert.RowsRefIdeal.nD → PrngReg), Pre_RowsIdeal m →
    (∀ c : Dev Cert.RowsIdeal.nD,
      m' ((c.tc : Thread Cert.RowsRefIdeal.nD Cert.RowsRefIdeal.τ).loc Cert.RowsRefIdeal.main_arg0) = m ((c.tc : Thread Cert.RowsIdeal.nD Cert.RowsIdeal.τ).loc Cert.RowsIdeal.main_arg0)
      ∧ m' ((c.tc : Thread Cert.RowsRefIdeal.nD Cert.RowsRefIdeal.τ).loc Cert.RowsRefIdeal.main_arg1) = m ((c.tc : Thread Cert.RowsIdeal.nD Cert.RowsIdeal.τ).loc Cert.RowsIdeal.main_arg1)) →
    ∃ (v0 : (c : Dev Cert.RowsIdeal.nD) → Buf (Elt Ideal) ((c.tc : Thread Cert.RowsIdeal.nD Cert.RowsIdeal.τ).loc Cert.RowsIdeal.main_v0)),
      θ_run (Cert.RowsIdeal.defs (F := Ideal)) (Cert.RowsIdeal.threads (F := Ideal)) ⟨m, fun _ => 0, g⟩ (fun r => ∀ c : Dev Cert.RowsIdeal.nD,
          r.2.mem ((c.tc : Thread Cert.RowsIdeal.nD Cert.RowsIdeal.τ).loc Cert.RowsIdeal.main_v0) = v0 c
          ∧ r.2.mem ((c.tc : Thread Cert.RowsIdeal.nD Cert.RowsIdeal.τ).loc Cert.RowsIdeal.main_arg0) = m ((c.tc : Thread Cert.RowsIdeal.nD Cert.RowsIdeal.τ).loc Cert.RowsIdeal.main_arg0)
          ∧ r.2.mem ((c.tc : Thread Cert.RowsIdeal.nD Cert.RowsIdeal.τ).loc Cert.RowsIdeal.main_arg1) = m ((c.tc : Thread Cert.RowsIdeal.nD Cert.RowsIdeal.τ).loc Cert.RowsIdeal.main_arg1))
      ∧ θ_run (Cert.RowsRefIdeal.defs (F := Ideal)) (onTc (τ := Cert.RowsRefIdeal.τ) (Cert.RowsRefIdeal.main (F := Ideal))) ⟨m', fun _ => 0, g'⟩ (fun r => ∀ c : Dev Cert.RowsRefIdeal.nD,
          r.2.mem ((c.tc : Thread Cert.RowsRefIdeal.nD Cert.RowsRefIdeal.τ).loc Cert.RowsRefIdeal.main_v6) = v0 c
          ∧ r.2.mem ((c.tc : Thread Cert.RowsRefIdeal.nD Cert.RowsRefIdeal.τ).loc Cert.RowsRefIdeal.main_arg0) = m' ((c.tc : Thread Cert.RowsRefIdeal.nD Cert.RowsRefIdeal.τ).loc Cert.RowsRefIdeal.main_arg0)
          ∧ r.2.mem ((c.tc : Thread Cert.RowsRefIdeal.nD Cert.RowsRefIdeal.τ).loc Cert.RowsRefIdeal.main_arg1) = m' ((c.tc : Thread Cert.RowsRefIdeal.nD Cert.RowsRefIdeal.τ).loc Cert.RowsRefIdeal.main_arg1))

def preserves_SimRows_SimRowsIdeal : Prop :=
  True

def algebraic_SimRowsIdeal_SimRowsRefIdeal [hSimRowsIdeal : Cert.SimRowsIdeal.Facts] [hSimRowsRefIdeal : Cert.SimRowsRefIdeal.Facts] [hPre_idx_in_sims : Cert.Pre_idx_in_sims.Facts] : Prop :=
  ∀ (m : (ℓ : Loc Cert.SimRowsIdeal.nD Cert.SimRowsIdeal.τ Cert.SimRowsIdeal.sig) → Buf (Elt Ideal) ℓ) (g : Dev Cert.SimRowsIdeal.nD → PrngReg)
    (m' : (ℓ : Loc Cert.SimRowsRefIdeal.nD Cert.SimRowsRefIdeal.τ Cert.SimRowsRefIdeal.sig) → Buf (Elt Ideal) ℓ) (g' : Dev Cert.SimRowsRefIdeal.nD → PrngReg), Pre_SimRowsIdeal m →
    (∀ c : Dev Cert.SimRowsIdeal.nD,
      m' ((c.tc : Thread Cert.SimRowsRefIdeal.nD Cert.SimRowsRefIdeal.τ).loc Cert.SimRowsRefIdeal.main_arg0) = m ((c.tc : Thread Cert.SimRowsIdeal.nD Cert.SimRowsIdeal.τ).loc Cert.SimRowsIdeal.main_arg0)
      ∧ m' ((c.tc : Thread Cert.SimRowsRefIdeal.nD Cert.SimRowsRefIdeal.τ).loc Cert.SimRowsRefIdeal.main_arg1) = m ((c.tc : Thread Cert.SimRowsIdeal.nD Cert.SimRowsIdeal.τ).loc Cert.SimRowsIdeal.main_arg1)) →
    ∃ (v0 : (c : Dev Cert.SimRowsIdeal.nD) → Buf (Elt Ideal) ((c.tc : Thread Cert.SimRowsIdeal.nD Cert.SimRowsIdeal.τ).loc Cert.SimRowsIdeal.main_v0)),
      θ_run (Cert.SimRowsIdeal.defs (F := Ideal)) (Cert.SimRowsIdeal.threads (F := Ideal)) ⟨m, fun _ => 0, g⟩ (fun r => ∀ c : Dev Cert.SimRowsIdeal.nD,
          r.2.mem ((c.tc : Thread Cert.SimRowsIdeal.nD Cert.SimRowsIdeal.τ).loc Cert.SimRowsIdeal.main_v0) = v0 c
          ∧ r.2.mem ((c.tc : Thread Cert.SimRowsIdeal.nD Cert.SimRowsIdeal.τ).loc Cert.SimRowsIdeal.main_arg0) = m ((c.tc : Thread Cert.SimRowsIdeal.nD Cert.SimRowsIdeal.τ).loc Cert.SimRowsIdeal.main_arg0)
          ∧ r.2.mem ((c.tc : Thread Cert.SimRowsIdeal.nD Cert.SimRowsIdeal.τ).loc Cert.SimRowsIdeal.main_arg1) = m ((c.tc : Thread Cert.SimRowsIdeal.nD Cert.SimRowsIdeal.τ).loc Cert.SimRowsIdeal.main_arg1))
      ∧ θ_run (Cert.SimRowsRefIdeal.defs (F := Ideal)) (onTc (τ := Cert.SimRowsRefIdeal.τ) (Cert.SimRowsRefIdeal.main (F := Ideal))) ⟨m', fun _ => 0, g'⟩ (fun r => ∀ c : Dev Cert.SimRowsRefIdeal.nD,
          r.2.mem ((c.tc : Thread Cert.SimRowsRefIdeal.nD Cert.SimRowsRefIdeal.τ).loc Cert.SimRowsRefIdeal.main_v6) = v0 c
          ∧ r.2.mem ((c.tc : Thread Cert.SimRowsRefIdeal.nD Cert.SimRowsRefIdeal.τ).loc Cert.SimRowsRefIdeal.main_arg0) = m' ((c.tc : Thread Cert.SimRowsRefIdeal.nD Cert.SimRowsRefIdeal.τ).loc Cert.SimRowsRefIdeal.main_arg0)
          ∧ r.2.mem ((c.tc : Thread Cert.SimRowsRefIdeal.nD Cert.SimRowsRefIdeal.τ).loc Cert.SimRowsRefIdeal.main_arg1) = m' ((c.tc : Thread Cert.SimRowsRefIdeal.nD Cert.SimRowsRefIdeal.τ).loc Cert.SimRowsRefIdeal.main_arg1))

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hRows : Cert.Rows.Facts) (hRowsIdeal : Cert.RowsIdeal.Facts) (hRowsRefIdeal : Cert.RowsRefIdeal.Facts) (hSimRows : Cert.SimRows.Facts) (hSimRowsIdeal : Cert.SimRowsIdeal.Facts) (hSimRowsRefIdeal : Cert.SimRowsRefIdeal.Facts) (hKernelIdeal : Cert.KernelIdeal.Facts) (hReferenceIdeal : Cert.ReferenceIdeal.Facts) (hPre_idx_in_rows : Cert.Pre_idx_in_rows.Facts) (hPre_idx_in_sims : Cert.Pre_idx_in_sims.Facts),
    quiescent_Rows (hRows := hRows) (hPre_idx_in_rows := hPre_idx_in_rows)
    ∧ quiescent_RowsIdeal (hRowsIdeal := hRowsIdeal) (hPre_idx_in_rows := hPre_idx_in_rows)
    ∧ quiescent_RowsRefIdeal (hRowsRefIdeal := hRowsRefIdeal) (hPre_idx_in_rows := hPre_idx_in_rows)
    ∧ quiescent_SimRows (hSimRows := hSimRows) (hPre_idx_in_sims := hPre_idx_in_sims)
    ∧ quiescent_SimRowsIdeal (hSimRowsIdeal := hSimRowsIdeal) (hPre_idx_in_sims := hPre_idx_in_sims)
    ∧ quiescent_SimRowsRefIdeal (hSimRowsRefIdeal := hSimRowsRefIdeal) (hPre_idx_in_sims := hPre_idx_in_sims)
    ∧ quiescent_KernelIdeal (hKernelIdeal := hKernelIdeal)
    ∧ quiescent_ReferenceIdeal (hReferenceIdeal := hReferenceIdeal)
    ∧ preserves_Rows_RowsIdeal
    ∧ algebraic_RowsIdeal_RowsRefIdeal (hRowsIdeal := hRowsIdeal) (hRowsRefIdeal := hRowsRefIdeal) (hPre_idx_in_rows := hPre_idx_in_rows)
    ∧ preserves_SimRows_SimRowsIdeal
    ∧ algebraic_SimRowsIdeal_SimRowsRefIdeal (hSimRowsIdeal := hSimRowsIdeal) (hSimRowsRefIdeal := hSimRowsRefIdeal) (hPre_idx_in_sims := hPre_idx_in_sims)
    ∧ algebraic_KernelIdeal_ReferenceIdeal (hKernelIdeal := hKernelIdeal) (hReferenceIdeal := hReferenceIdeal)
-- ==== Pre_idx_in_rows.lean ====
abbrev S100000x128 : Shape := ⟨2, ![100000, 128]⟩
abbrev S16384 : Shape := ⟨1, ![16384]⟩
abbrev S_ : Shape := ⟨0, ![]⟩

class Facts : Prop where
  bcast_S_S16384 : S_.BroadcastsInDim S16384 (![] : Fin 0 → Fin S16384.rank)

variable [Facts]

def fn {F : FTy → Type} [FloatOps F] (main_arg0 : FVec F S100000x128 .f32) (main_arg1 : IVec S16384 32) : IVec S16384 1 :=
  let main_c : IVec S_ 32 := constantI S_ 32 0#32
  let main_v0 : IVec S16384 32 := broadcastInDim S16384 ![] bcast_S_S16384 main_c
  let main_v1 : IVec S16384 1 := cmpi .sge main_arg1 main_v0
  let main_c_0 : IVec S_ 32 := constantI S_ 32 100000#32
  let main_v2 : IVec S16384 32 := broadcastInDim S16384 ![] bcast_S_S16384 main_c_0
  let main_v3 : IVec S16384 1 := cmpi .slt main_arg1 main_v2
  let main_v4 : IVec S16384 1 := andi main_v1 main_v3
  main_v4
-- ==== Pre_idx_in_sims.lean ====
abbrev S1605632x128 : Shape := ⟨2, ![1605632, 128]⟩
abbrev S16384 : Shape := ⟨1, ![16384]⟩
abbrev S_ : Shape := ⟨0, ![]⟩

class Facts : Prop where
  bcast_S_S16384 : S_.BroadcastsInDim S16384 (![] : Fin 0 → Fin S16384.rank)

variable [Facts]

def fn {F : FTy → Type} [FloatOps F] (main_arg0 : FVec F S1605632x128 .f32) (main_arg1 : IVec S16384 32) : IVec S16384 1 :=
  let main_c : IVec S_ 32 := constantI S_ 32 0#32
  let main_v0 : IVec S16384 32 := broadcastInDim S16384 ![] bcast_S_S16384 main_c
  let main_v1 : IVec S16384 1 := cmpi .sge main_arg1 main_v0
  let main_c_0 : IVec S_ 32 := constantI S_ 32 1605632#32
  let main_v2 : IVec S16384 32 := broadcastInDim S16384 ![] bcast_S_S16384 main_c_0
  let main_v3 : IVec S16384 1 := cmpi .slt main_arg1 main_v2
  let main_v4 : IVec S16384 1 := andi main_v1 main_v3
  main_v4
-- ==== Rows.lean ====
abbrev S100000x128 : Shape := ⟨2, ![100000, 128]⟩
abbrev S16384 : Shape := ⟨1, ![16384]⟩
abbrev S16384x128 : Shape := ⟨2, ![16384, 128]⟩
abbrev S512 : Shape := ⟨1, ![512]⟩
abbrev S512x128 : Shape := ⟨2, ![512, 128]⟩
abbrev S_ : Shape := ⟨0, ![]⟩

abbrev nBuf : Table → Nat
  | .hbm => 3
  | .local .scVector .vmem => 2
  | _ => 0

abbrev bufTy : (tb : Table) → Fin (nBuf tb) → BufTy
  | .hbm, ⟨0, _⟩ => ⟨S100000x128, .f32⟩
  | .hbm, ⟨1, _⟩ => ⟨S16384, .i32⟩
  | .hbm, ⟨2, _⟩ => ⟨S16384x128, .f32⟩
  | .local .scVector .vmem, ⟨0, _⟩ => ⟨S512, .i32⟩
  | .local .scVector .vmem, ⟨1, _⟩ => ⟨S512x128, .f32⟩
  | _, _ => ⟨S100000x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_3_r1 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== RowsRefIdeal.lean ====
abbrev S100000x128 : Shape := ⟨2, ![100000, 128]⟩
abbrev S16384 : Shape := ⟨1, ![16384]⟩
abbrev S_ : Shape := ⟨0, ![]⟩
abbrev S16384x1 : Shape := ⟨2, ![16384, 1]⟩
abbrev S16384x128 : Shape := ⟨2, ![16384, 128]⟩

abbrev nBuf : Space → Nat
  | .hbm => 11
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S16384, .i32⟩
  | .hbm, ⟨2, _⟩ => ⟨S_, .i32⟩
  | .hbm, ⟨3, _⟩ => ⟨S16384, .i32⟩
  | .hbm, ⟨4, _⟩ => ⟨S16384, .i1⟩
  | .hbm, ⟨5, _⟩ => ⟨S_, .i32⟩
  | .hbm, ⟨6, _⟩ => ⟨S16384, .i32⟩
  | .hbm, ⟨7, _⟩ => ⟨S16384, .i32⟩
  | .hbm, ⟨8, _⟩ => ⟨S16384, .i32⟩
  | .hbm, ⟨9, _⟩ => ⟨S16384x1, .i32⟩
  | .hbm, ⟨10, _⟩ => ⟨S16384x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== SimRows.lean ====
abbrev S1605632x128 : Shape := ⟨2, ![1605632, 128]⟩
abbrev S16384 : Shape := ⟨1, ![16384]⟩
abbrev S16384x128 : Shape := ⟨2, ![16384, 128]⟩
abbrev S512 : Shape := ⟨1, ![512]⟩
abbrev S512x128 : Shape := ⟨2, ![512, 128]⟩
abbrev S_ : Shape := ⟨0, ![]⟩

abbrev nBuf : Table → Nat
  | .hbm => 3
  | .local .scVector .vmem => 2
  | _ => 0

abbrev bufTy : (tb : Table) → Fin (nBuf tb) → BufTy
  | .hbm, ⟨0, _⟩ => ⟨S1605632x128, .f32⟩
  | .hbm, ⟨1, _⟩ => ⟨S16384, .i32⟩
  | .hbm, ⟨2, _⟩ => ⟨S16384x128, .f32⟩
  | .local .scVector .vmem, ⟨0, _⟩ => ⟨S512, .i32⟩
  | .local .scVector .vmem, ⟨1, _⟩ => ⟨S512x128, .f32⟩
  | _, _ => ⟨S1605632x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_3_r1 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== SimRowsRefIdeal.lean ====
abbrev S1605632x128 : Shape := ⟨2, ![1605632, 128]⟩
abbrev S16384 : Shape := ⟨1, ![16384]⟩
abbrev S_ : Shape := ⟨0, ![]⟩
abbrev S16384x1 : Shape := ⟨2, ![16384, 1]⟩
abbrev S16384x128 : Shape := ⟨2, ![16384, 128]⟩

abbrev nBuf : Space → Nat
  | .hbm => 11
  | .vmem => 0
  | .smem => 0
  | _ => 0

abbrev bufTy : (tb : Table) → Fin (tcTables nBuf tb) → BufTy
  | .hbm, ⟨0, _⟩ => ⟨S1605632x128, .f32⟩
  | .hbm, ⟨1, _⟩ => ⟨S16384, .i32⟩
  | .hbm, ⟨2, _⟩ => ⟨S_, .i32⟩
  | .hbm, ⟨3, _⟩ => ⟨S16384, .i32⟩
  | .hbm, ⟨4, _⟩ => ⟨S16384, .i1⟩
  | .hbm, ⟨5, _⟩ => ⟨S_, .i32⟩
  | .hbm, ⟨6, _⟩ => ⟨S16384, .i32⟩
  | .hbm, ⟨7, _⟩ => ⟨S16384, .i32⟩
  | .hbm, ⟨8, _⟩ => ⟨S16384, .i32⟩
  | .hbm, ⟨9, _⟩ => ⟨S16384x1, .i32⟩
  | .hbm, ⟨10, _⟩ => ⟨S16384x128, .f32⟩
  | _, _ => ⟨S1605632x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== KernelIdeal.lean ====
abbrev S4x512x128 : Shape := ⟨3, ![4, 512, 128]⟩
abbrev S100000x128 : Shape := ⟨2, ![100000, 128]⟩
abbrev S128x128 : Shape := ⟨2, ![128, 128]⟩
abbrev S64x256 : Shape := ⟨2, ![64, 256]⟩
abbrev S64 : Shape := ⟨1, ![64]⟩
abbrev S1x64 : Shape := ⟨2, ![1, 64]⟩
abbrev S1 : Shape := ⟨1, ![1]⟩
abbrev S2048x128 : Shape := ⟨2, ![2048, 128]⟩
abbrev S2048 : Shape := ⟨1, ![2048]⟩
abbrev S2048x1 : Shape := ⟨2, ![2048, 1]⟩
abbrev S_ : Shape := ⟨0, ![]⟩
abbrev S100352x128 : Shape := ⟨2, ![100352, 128]⟩
abbrev S256x6272x128 : Shape := ⟨3, ![256, 6272, 128]⟩
abbrev S49x2048x16 : Shape := ⟨3, ![49, 2048, 16]⟩
abbrev S256x128x128 : Shape := ⟨3, ![256, 128, 128]⟩
abbrev S1x2048x16 : Shape := ⟨3, ![1, 2048, 16]⟩
abbrev S2048x2048 : Shape := ⟨2, ![2048, 2048]⟩
abbrev S256x8x128 : Shape := ⟨3, ![256, 8, 128]⟩
abbrev S2048x16 : Shape := ⟨2, ![2048, 16]⟩
abbrev S2048x49x16 : Shape := ⟨3, ![2048, 49, 16]⟩
abbrev S2048x784 : Shape := ⟨2, ![2048, 784]⟩
abbrev S2048x896 : Shape := ⟨2, ![2048, 896]⟩
abbrev S2048x8 : Shape := ⟨2, ![2048, 8]⟩
abbrev S1605632x128 : Shape := ⟨2, ![1605632, 128]⟩
abbrev S16384 : Shape := ⟨1, ![16384]⟩
abbrev S16384x128 : Shape := ⟨2, ![16384, 128]⟩
abbrev S512 : Shape := ⟨1, ![512]⟩
abbrev S512x128 : Shape := ⟨2, ![512, 128]⟩
abbrev S2048x8x128 : Shape := ⟨3, ![2048, 8, 128]⟩
abbrev S256x8 : Shape := ⟨2, ![256, 8]⟩
abbrev S256x8x1 : Shape := ⟨3, ![256, 8, 1]⟩
abbrev S256 : Shape := ⟨1, ![256]⟩
abbrev S256x1 : Shape := ⟨2, ![256, 1]⟩
abbrev S256x1x1 : Shape := ⟨3, ![256, 1, 1]⟩
abbrev S1x1 : Shape := ⟨2, ![1, 1]⟩
abbrev S1x65 : Shape := ⟨2, ![1, 65]⟩
abbrev S2048x1x128 : Shape := ⟨3, ![2048, 1, 128]⟩
abbrev S2048x256 : Shape := ⟨2, ![2048, 256]⟩
abbrev S2048x64 : Shape := ⟨2, ![2048, 64]⟩
abbrev S2048x65 : Shape := ⟨2, ![2048, 65]⟩

abbrev nBuf : Table → Nat
  | .hbm => 37
  | .local .tc .vmem => 29
  | .local .scVector .vmem => 4
  | _ => 0

abbrev bufTy : (tb : Table) → Fin (nBuf tb) → BufTy
  | .hbm, ⟨0, _⟩ => ⟨S4x512x128, .f32⟩
  | .hbm, ⟨1, _⟩ => ⟨S100000x128, .f32⟩
  | .hbm, ⟨2, _⟩ => ⟨S100000x128, .f32⟩
  | .hbm, ⟨3, _⟩ => ⟨S128x128, .f32⟩
  | .hbm, ⟨4, _⟩ => ⟨S128x128, .f32⟩
  | .hbm, ⟨5, _⟩ => ⟨S64x256, .f32⟩
  | .hbm, ⟨6, _⟩ => ⟨S64, .f32⟩
  | .hbm, ⟨7, _⟩ => ⟨S1x64, .f32⟩
  | .hbm, ⟨8, _⟩ => ⟨S1, .f32⟩
  | .hbm, ⟨9, _⟩ => ⟨S2048x128, .f32⟩
  | .hbm, ⟨10, _⟩ => ⟨S2048x128, .bf16⟩
  | .hbm, ⟨11, _⟩ => ⟨S_, .i32⟩
  | .hbm, ⟨12, _⟩ => ⟨S_, .f32⟩
  | .hbm, ⟨13, _⟩ => ⟨S100352x128, .f32⟩
  | .hbm, ⟨14, _⟩ => ⟨S256x6272x128, .f32⟩
  | .hbm, ⟨15, _⟩ => ⟨S49x2048x16, .f32⟩
  | .hbm, ⟨16, _⟩ => ⟨S2048x49x16, .f32⟩
  | .hbm, ⟨17, _⟩ => ⟨S2048x784, .f32⟩
  | .hbm, ⟨18, _⟩ => ⟨S_, .f32⟩
  | .hbm, ⟨19, _⟩ => ⟨S_, .f32⟩
  | .hbm, ⟨20, _⟩ => ⟨S2048x896, .f32⟩
  | .hbm, ⟨21, _⟩ => ⟨S2048x8, .i32⟩
  | .hbm, ⟨22, _⟩ => ⟨S2048x8, .i32⟩
  | .hbm, ⟨23, _⟩ => ⟨S1605632x128, .f32⟩
  | .hbm, ⟨24, _⟩ => ⟨S16384, .i32⟩
  | .hbm, ⟨25, _⟩ => ⟨S16384x128, .f32⟩
  | .hbm, ⟨26, _⟩ => ⟨S2048x8x128, .f32⟩
  | .hbm, ⟨27, _⟩ => ⟨S2048x8, .f32⟩
  | .hbm, ⟨28, _⟩ => ⟨S2048x8, .i32⟩
  | .hbm, ⟨29, _⟩ => ⟨S16384, .i32⟩
  | .hbm, ⟨30, _⟩ => ⟨S16384x128, .f32⟩
  | .hbm, ⟨31, _⟩ => ⟨S2048x8x128, .f32⟩
  | .hbm, ⟨32, _⟩ => ⟨S1x1, .f32⟩
  | .hbm, ⟨33, _⟩ => ⟨S1x65, .f32⟩
  | .hbm, ⟨34, _⟩ => ⟨S1x64, .f32⟩
  | .hbm, ⟨35, _⟩ => ⟨S2048x128, .f32⟩
  | .hbm, ⟨36, _⟩ => ⟨S4x512x128, .f32⟩
  | .local .tc .vmem, ⟨0, _⟩ => ⟨S2048x128, .f32⟩
  | .local .tc .vmem, ⟨1, _⟩ => ⟨S128x128, .f32⟩
  | .local .tc .vmem, ⟨2, _⟩ => ⟨S2048x128, .bf16⟩
  | .local .tc .vmem, ⟨3, _⟩ => ⟨S2048x128, .bf16⟩
  | .local .tc .vmem, ⟨4, _⟩ => ⟨S2048x128, .f32⟩
  | .local .tc .vmem, ⟨5, _⟩ => ⟨S2048x128, .f32⟩
  | .local .tc .vmem, ⟨6, _⟩ => ⟨S256x128x128, .f32⟩
  | .local .tc .vmem, ⟨7, _⟩ => ⟨S256x128x128, .f32⟩
  | .local .tc .vmem, ⟨8, _⟩ => ⟨S1x2048x16, .f32⟩
  | .local .tc .vmem, ⟨9, _⟩ => ⟨S1x2048x16, .f32⟩
  | .local .tc .vmem, ⟨10, _⟩ => ⟨S2048x896, .f32⟩
  | .local .tc .vmem, ⟨11, _⟩ => ⟨S2048x8, .i32⟩
  | .local .tc .vmem, ⟨12, _⟩ => ⟨S2048x8, .i32⟩
  | .local .tc .vmem, ⟨13, _⟩ => ⟨S256x8x128, .f32⟩
  | .local .tc .vmem, ⟨14, _⟩ => ⟨S256x8x128, .f32⟩
  | .local .tc .vmem, ⟨15, _⟩ => ⟨S256x8, .i32⟩
  | .local .tc .vmem, ⟨16, _⟩ => ⟨S256x8, .i32⟩
  | .local .tc .vmem, ⟨17, _⟩ => ⟨S256x8, .f32⟩
  | .local .tc .vmem, ⟨18, _⟩ => ⟨S256x8, .f32⟩
  | .local .tc .vmem, ⟨19, _⟩ => ⟨S256x8, .i32⟩
  | .local .tc .vmem, ⟨20, _⟩ => ⟨S256x8, .i32⟩
  | .local .tc .vmem, ⟨21, _⟩ => ⟨S2048x128, .f32⟩
  | .local .tc .vmem, ⟨22, _⟩ => ⟨S2048x8x128, .f32⟩
  | .local .tc .vmem, ⟨23, _⟩ => ⟨S2048x8, .f32⟩
  | .local .tc .vmem, ⟨24, _⟩ => ⟨S128x128, .f32⟩
  | .local .tc .vmem, ⟨25, _⟩ => ⟨S64x256, .f32⟩
  | .local .tc .vmem, ⟨26, _⟩ => ⟨S1x64, .f32⟩
  | .local .tc .vmem, ⟨27, _⟩ => ⟨S1x65, .f32⟩
  | .local .tc .vmem, ⟨28, _⟩ => ⟨S2048x128, .f32⟩
  | .local .scVector .vmem, ⟨0, _⟩ => ⟨S512, .i32⟩
  | .local .scVector .vmem, ⟨1, _⟩ => ⟨S512x128, .f32⟩
  | .local .scVector .vmem, ⟨2, _⟩ => ⟨S512, .i32⟩
  | .local .scVector .vmem, ⟨3, _⟩ => ⟨S512x128, .f32⟩
  | _, _ => ⟨S4x512x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => false
  | ⟨14, _⟩ => false
  | ⟨15, _⟩ => false
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => false
  | ⟨25, _⟩ => false
  | ⟨26, _⟩ => false
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTables nBuf rfl bufTy 4 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_call0_v0 : Ref sig .tc := ⟨.hbm, 12, rfl⟩
abbrev main_v2 : Ref sig .tc := ⟨.hbm, 13, rfl⟩
abbrev main_v3_0 : Ref sig .tc := ⟨.hbm, 14, rfl⟩
abbrev main_v3_1 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_call1_v0 : Ref sig .tc := ⟨.hbm, 19, rfl⟩
abbrev main_v6 : Ref sig .tc := ⟨.hbm, 20, rfl⟩
abbrev main_v7_0 : Ref sig .tc := ⟨.hbm, 21, rfl⟩
abbrev main_v7_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12_0 : Ref sig .tc := ⟨.hbm, 27, rfl⟩
abbrev main_v12_1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v8_scv : Ref sig .scVector := ⟨.hbm, 23, rfl⟩
abbrev main_v9_scv : Ref sig .scVector := ⟨.hbm, 24, rfl⟩
abbrev main_v10_scv : Ref sig .scVector := ⟨.hbm, 25, rfl⟩
abbrev main_arg2_scv : Ref sig .scVector := ⟨.hbm, 2, rfl⟩
abbrev main_v13_scv : Ref sig .scVector := ⟨.hbm, 29, rfl⟩
abbrev main_v14_scv : Ref sig .scVector := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg3_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg2_0 : Ref sig .tc := ⟨.vmem, 12, rfl⟩
abbrev cc4_stg0_0 : Ref sig .tc := ⟨.vmem, 13, rfl⟩
abbrev cc4_stg0_1 : Ref sig .tc := ⟨.vmem, 14, rfl⟩
abbrev cc4_stg1_0 : Ref sig .tc := ⟨.vmem, 15, rfl⟩
abbrev cc4_stg1_1 : Ref sig .tc := ⟨.vmem, 16, rfl⟩
abbrev cc4_stg2_0 : Ref sig .tc := ⟨.vmem, 17, rfl⟩
abbrev cc4_stg2_1 : Ref sig .tc := ⟨.vmem, 18, rfl⟩
abbrev cc4_stg3_0 : Ref sig .tc := ⟨.vmem, 19, rfl⟩
abbrev cc4_stg3_1 : Ref sig .tc := ⟨.vmem, 20, rfl⟩
abbrev cc6_stg0_0 : Ref sig .tc := ⟨.vmem, 21, rfl⟩
abbrev cc6_stg1_0 : Ref sig .tc := ⟨.vmem, 22, rfl⟩
abbrev cc6_stg2_0 : Ref sig .tc := ⟨.vmem, 23, rfl⟩
abbrev cc6_stg3_0 : Ref sig .tc := ⟨.vmem, 24, rfl⟩
abbrev cc6_stg4_0 : Ref sig .tc := ⟨.vmem, 25, rfl⟩
abbrev cc6_stg5_0 : Ref sig .tc := ⟨.vmem, 26, rfl⟩
abbrev cc6_stg6_0 : Ref sig .tc := ⟨.vmem, 27, rfl⟩
abbrev cc6_stg7_0 : Ref sig .tc := ⟨.vmem, 28, rfl⟩
abbrev cc3_scratch0 : Ref sig .scVector := ⟨.vmem, 0, rfl⟩
abbrev cc3_scratch1 : Ref sig .scVector := ⟨.vmem, 1, rfl⟩
abbrev cc5_scratch0 : Ref sig .scVector := ⟨.vmem, 2, rfl⟩
abbrev cc5_scratch1 : Ref sig .scVector := ⟨.vmem, 3, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem1_1 : DmaSem sig := 5
abbrev cc1_sem2_0 : DmaSem sig := 6
abbrev cc1_sem2_1 : DmaSem sig := 7
abbrev cc1_sem3_0 : DmaSem sig := 8
abbrev cc1_sem3_1 : DmaSem sig := 9
abbrev cc2_sem0_0 : DmaSem sig := 10
abbrev cc2_sem1_0 : DmaSem sig := 11
abbrev cc2_sem2_0 : DmaSem sig := 12
abbrev cc4_sem0_0 : DmaSem sig := 16
abbrev cc4_sem0_1 : DmaSem sig := 17
abbrev cc4_sem1_0 : DmaSem sig := 18
abbrev cc4_sem1_1 : DmaSem sig := 19
abbrev cc4_sem2_0 : DmaSem sig := 20
abbrev cc4_sem2_1 : DmaSem sig := 21
abbrev cc4_sem3_0 : DmaSem sig := 22
abbrev cc4_sem3_1 : DmaSem sig := 23
abbrev cc6_sem0_0 : DmaSem sig := 27
abbrev cc6_sem1_0 : DmaSem sig := 28
abbrev cc6_sem2_0 : DmaSem sig := 29
abbrev cc6_sem3_0 : DmaSem sig := 30
abbrev cc6_sem4_0 : DmaSem sig := 31
abbrev cc6_sem5_0 : DmaSem sig := 32
abbrev cc6_sem6_0 : DmaSem sig := 33
abbrev cc6_sem7_0 : DmaSem sig := 34
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![49], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S2048x128 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x128x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x2048x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := .none

abbrev stage2_0 : Fin 1 → Memref sig .tc .vmem S2048x896 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S2048x8 .i32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S2048x8 .i32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev grid3 : Pipeline.Grid := ⟨2, ![2, 16], ![false, false]⟩

def k3_off1 (i : grid3.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k3_off2 (i : grid3.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_3_r1 : BitVec 32 := 0#32
  ![v2.toNat, 0]
abbrev grid4 : Pipeline.Grid := ⟨1, ![8], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S256x8x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S256x8 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S256x8 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S256x8 .i32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨2, ![2, 16], ![false, false]⟩

def k5_off1 (i : grid5.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k5_off2 (i : grid5.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_3_r1 : BitVec 32 := 0#32
  ![v2.toNat, 0]
abbrev grid6 : Pipeline.Grid := .none

abbrev stage6_0 : Fin 1 → Memref sig .tc .vmem S2048x128 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))

abbrev stage6_1 : Fin 1 → Memref sig .tc .vmem S2048x8x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))

abbrev stage6_2 : Fin 1 → Memref sig .tc .vmem S2048x8 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))

abbrev stage6_3 : Fin 1 → Memref sig .tc .vmem S128x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))

abbrev stage6_4 : Fin 1 → Memref sig .tc .vmem S64x256 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))

abbrev stage6_5 : Fin 1 → Memref sig .tc .vmem S1x64 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))

abbrev stage6_6 : Fin 1 → Memref sig .tc .vmem S1x65 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))

abbrev stage6_7 : Fin 1 → Memref sig .tc .vmem S2048x128 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S4x512x128 : Shape := ⟨3, ![4, 512, 128]⟩
abbrev S100000x128 : Shape := ⟨2, ![100000, 128]⟩
abbrev S128x128 : Shape := ⟨2, ![128, 128]⟩
abbrev S64x256 : Shape := ⟨2, ![64, 256]⟩
abbrev S64 : Shape := ⟨1, ![64]⟩
abbrev S1x64 : Shape := ⟨2, ![1, 64]⟩
abbrev S1 : Shape := ⟨1, ![1]⟩
abbrev S_ : Shape := ⟨0, ![]⟩
abbrev S100000 : Shape := ⟨1, ![100000]⟩
abbrev S100000x1 : Shape := ⟨2, ![100000, 1]⟩
abbrev S4x512 : Shape := ⟨2, ![4, 512]⟩
abbrev S4x512x1 : Shape := ⟨3, ![4, 512, 1]⟩
abbrev S128x100000 : Shape := ⟨2, ![128, 100000]⟩
abbrev S4x512x100000 : Shape := ⟨3, ![4, 512, 100000]⟩
abbrev S4x512x8 : Shape := ⟨3, ![4, 512, 8]⟩
abbrev S4x512x8x1 : Shape := ⟨4, ![4, 512, 8, 1]⟩
abbrev S4x512x8x128 : Shape := ⟨4, ![4, 512, 8, 128]⟩
abbrev S4x512x256 : Shape := ⟨3, ![4, 512, 256]⟩
abbrev S256x64 : Shape := ⟨2, ![256, 64]⟩
abbrev S4x512x64 : Shape := ⟨3, ![4, 512, 64]⟩
abbrev S1x1x64 : Shape := ⟨3, ![1, 1, 64]⟩
abbrev S64x1 : Shape := ⟨2, ![64, 1]⟩
abbrev S1x1x1 : Shape := ⟨3, ![1, 1, 1]⟩

abbrev nBuf : Space → Nat
  | .hbm => 96
  | .vmem => 0
  | .smem => 0
  | _ => 0

abbrev bufTy : (tb : Table) → Fin (tcTables nBuf tb) → BufTy
  | .hbm, ⟨0, _⟩ => ⟨S4x512x128, .f32⟩
  | .hbm, ⟨1, _⟩ => ⟨S100000x128, .f32⟩
  | .hbm, ⟨2, _⟩ => ⟨S100000x128, .f32⟩
  | .hbm, ⟨3, _⟩ => ⟨S128x128, .f32⟩
  | .hbm, ⟨4, _⟩ => ⟨S128x128, .f32⟩
  | .hbm, ⟨5, _⟩ => ⟨S64x256, .f32⟩
  | .hbm, ⟨6, _⟩ => ⟨S64, .f32⟩
  | .hbm, ⟨7, _⟩ => ⟨S1x64, .f32⟩
  | .hbm, ⟨8, _⟩ => ⟨S1, .f32⟩
  | .hbm, ⟨9, _⟩ => ⟨S128x128, .f32⟩
  | .hbm, ⟨10, _⟩ => ⟨S4x512x128, .f32⟩
  | .hbm, ⟨11, _⟩ => ⟨S100000x128, .f32⟩
  | .hbm, ⟨12, _⟩ => ⟨S_, .f32⟩
  | .hbm, ⟨13, _⟩ => ⟨S100000, .f32⟩
  | .hbm, ⟨14, _⟩ => ⟨S100000x1, .f32⟩
  | .hbm, ⟨15, _⟩ => ⟨S100000x1, .f32⟩
  | .hbm, ⟨16, _⟩ => ⟨S_, .f32⟩
  | .hbm, ⟨17, _⟩ => ⟨S100000x1, .f32⟩
  | .hbm, ⟨18, _⟩ => ⟨S100000x1, .f32⟩
  | .hbm, ⟨19, _⟩ => ⟨S100000x128, .f32⟩
  | .hbm, ⟨20, _⟩ => ⟨S100000x128, .f32⟩
  | .hbm, ⟨21, _⟩ => ⟨S4x512x128, .f32⟩
  | .hbm, ⟨22, _⟩ => ⟨S_, .f32⟩
  | .hbm, ⟨23, _⟩ => ⟨S4x512, .f32⟩
  | .hbm, ⟨24, _⟩ => ⟨S4x512x1, .f32⟩
  | .hbm, ⟨25, _⟩ => ⟨S4x512x1, .f32⟩
  | .hbm, ⟨26, _⟩ => ⟨S_, .f32⟩
  | .hbm, ⟨27, _⟩ => ⟨S4x512x1, .f32⟩
  | .hbm, ⟨28, _⟩ => ⟨S4x512x1, .f32⟩
  | .hbm, ⟨29, _⟩ => ⟨S4x512x128, .f32⟩
  | .hbm, ⟨30, _⟩ => ⟨S4x512x128, .f32⟩
  | .hbm, ⟨31, _⟩ => ⟨S128x100000, .f32⟩
  | .hbm, ⟨32, _⟩ => ⟨S4x512x100000, .f32⟩
  | .hbm, ⟨33, _⟩ => ⟨S4x512x8, .f32⟩
  | .hbm, ⟨34, _⟩ => ⟨S4x512x8, .i32⟩
  | .hbm, ⟨35, _⟩ => ⟨S_, .f32⟩
  | .hbm, ⟨36, _⟩ => ⟨S4x512, .f32⟩
  | .hbm, ⟨37, _⟩ => ⟨S_, .f32⟩
  | .hbm, ⟨38, _⟩ => ⟨S4x512, .f32⟩
  | .hbm, ⟨39, _⟩ => ⟨S4x512, .f32⟩
  | .hbm, ⟨40, _⟩ => ⟨S4x512x1, .f32⟩
  | .hbm, ⟨41, _⟩ => ⟨S4x512x8, .f32⟩
  | .hbm, ⟨42, _⟩ => ⟨S4x512x8, .f32⟩
  | .hbm, ⟨43, _⟩ => ⟨S4x512x8, .f32⟩
  | .hbm, ⟨44, _⟩ => ⟨S_, .f32⟩
  | .hbm, ⟨45, _⟩ => ⟨S4x512, .f32⟩
  | .hbm, ⟨46, _⟩ => ⟨S4x512x1, .f32⟩
  | .hbm, ⟨47, _⟩ => ⟨S4x512x8, .f32⟩
  | .hbm, ⟨48, _⟩ => ⟨S4x512x8, .f32⟩
  | .hbm, ⟨49, _⟩ => ⟨S_, .i32⟩
  | .hbm, ⟨50, _⟩ => ⟨S4x512x8, .i32⟩
  | .hbm, ⟨51, _⟩ => ⟨S4x512x8, .i1⟩
  | .hbm, ⟨52, _⟩ => ⟨S_, .i32⟩
  | .hbm, ⟨53, _⟩ => ⟨S4x512x8, .i32⟩
  | .hbm, ⟨54, _⟩ => ⟨S4x512x8, .i32⟩
  | .hbm, ⟨55, _⟩ => ⟨S4x512x8, .i32⟩
  | .hbm, ⟨56, _⟩ => ⟨S4x512x8x1, .i32⟩
  | .hbm, ⟨57, _⟩ => ⟨S4x512x8x128, .f32⟩
  | .hbm, ⟨58, _⟩ => ⟨S4x512x8x1, .f32⟩
  | .hbm, ⟨59, _⟩ => ⟨S4x512x8x128, .f32⟩
  | .hbm, ⟨60, _⟩ => ⟨S4x512x8x128, .f32⟩
  | .hbm, ⟨61, _⟩ => ⟨S_, .f32⟩
  | .hbm, ⟨62, _⟩ => ⟨S4x512x128, .f32⟩
  | .hbm, ⟨63, _⟩ => ⟨S128x128, .f32⟩
  | .hbm, ⟨64, _⟩ => ⟨S4x512x128, .f32⟩
  | .hbm, ⟨65, _⟩ => ⟨S4x512x256, .f32⟩
  | .hbm, ⟨66, _⟩ => ⟨S256x64, .f32⟩
  | .hbm, ⟨67, _⟩ => ⟨S4x512x64, .f32⟩
  | .hbm, ⟨68, _⟩ => ⟨S1x1x64, .f32⟩
  | .hbm, ⟨69, _⟩ => ⟨S4x512x64, .f32⟩
  | .hbm, ⟨70, _⟩ => ⟨S4x512x64, .f32⟩
  | .hbm, ⟨71, _⟩ => ⟨S_, .f32⟩
  | .hbm, ⟨72, _⟩ => ⟨S4x512x64, .f32⟩
  | .hbm, ⟨73, _⟩ => ⟨S4x512x64, .f32⟩
  | .hbm, ⟨74, _⟩ => ⟨S4x512x64, .f32⟩
  | .hbm, ⟨75, _⟩ => ⟨S_, .f32⟩
  | .hbm, ⟨76, _⟩ => ⟨S4x512x64, .f32⟩
  | .hbm, ⟨77, _⟩ => ⟨S4x512x64, .f32⟩
  | .hbm, ⟨78, _⟩ => ⟨S4x512x64, .f32⟩
  | .hbm, ⟨79, _⟩ => ⟨S4x512x64, .f32⟩
  | .hbm, ⟨80, _⟩ => ⟨S64x1, .f32⟩
  | .hbm, ⟨81, _⟩ => ⟨S4x512x1, .f32⟩
  | .hbm, ⟨82, _⟩ => ⟨S1x1x1, .f32⟩
  | .hbm, ⟨83, _⟩ => ⟨S4x512x1, .f32⟩
  | .hbm, ⟨84, _⟩ => ⟨S4x512x1, .f32⟩
  | .hbm, ⟨85, _⟩ => ⟨S4x512x1, .f32⟩
  | .hbm, ⟨86, _⟩ => ⟨S4x512x1, .f32⟩
  | .hbm, ⟨87, _⟩ => ⟨S_, .f32⟩
  | .hbm, ⟨88, _⟩ => ⟨S4x512x1, .f32⟩
  | .hbm, ⟨89, _⟩ => ⟨S4x512x1, .f32⟩
  | .hbm, ⟨90, _⟩ => ⟨S_, .f32⟩
  | .hbm, ⟨91, _⟩ => ⟨S4x512x1, .f32⟩
  | .hbm, ⟨92, _⟩ => ⟨S4x512x1, .f32⟩
  | .hbm, ⟨93, _⟩ => ⟨S4x512x128, .f32⟩
  | .hbm, ⟨94, _⟩ => ⟨S4x512x128, .f32⟩
  | .hbm, ⟨95, _⟩ => ⟨S4x512x128, .f32⟩
  | _, _ => ⟨S4x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_call0_v0 : Ref sig .tc := ⟨.hbm, 11, rfl⟩
abbrev main_call0_cst : Ref sig .tc := ⟨.hbm, 12, rfl⟩
abbrev main_call0_v1 : Ref sig .tc := ⟨.hbm, 13, rfl⟩
abbrev main_call0_v2 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_call1_v0 : Ref sig .tc := ⟨.hbm, 21, rfl⟩
abbrev main_call1_cst : Ref sig .tc := ⟨.hbm, 22, rfl⟩
abbrev main_call1_v1 : Ref sig .tc := ⟨.hbm, 23, rfl⟩
abbrev main_call1_v2 : Ref sig .tc := ⟨.hbm, 24, rfl⟩
abbrev main_v7 : Ref sig .tc := ⟨.hbm, 25, rfl⟩
abbrev main_cst_0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_values : Ref sig .tc := ⟨.hbm, 33, rfl⟩
abbrev main_indices : Ref sig .tc := ⟨.hbm, 34, rfl⟩
abbrev main_cst_1 : Ref sig .tc := ⟨.hbm, 35, rfl⟩
abbrev main_v14 : Ref sig .tc := ⟨.hbm, 36, rfl⟩
abbrev main_cst_2 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_cst_3 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_c : Ref sig .tc := ⟨.hbm, 49, rfl⟩
abbrev main_v25 : Ref sig .tc := ⟨.hbm, 50, rfl⟩
abbrev main_v26 : Ref sig .tc := ⟨.hbm, 51, rfl⟩
abbrev main_c_4 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_5 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_6 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_7 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_8 : Ref sig .tc := ⟨.hbm, 87, rfl⟩
abbrev main_v58 : Ref sig .tc := ⟨.hbm, 88, rfl⟩
abbrev main_v59 : Ref sig .tc := ⟨.hbm, 89, rfl⟩
abbrev main_cst_9 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩

abbrev nD : Nat := 1
abbrev τ : Topo := Topo.v7x

variable {F : FTy → Type} [FloatOps F]
-- ==== Proof.GatherIdeal.lean ====
/-
  The row gather `cc0_k` of `RowsIdeal`: thirty-two tasks, sixteen vector subcores on each of two SparseCores. Task
  `w = 2 * subcore + core` copies the row numbers `512 * w, …, 512 * w + 511` of the list into its index scratch, gathers the
  named rows of the table into its row scratch by one indirect transfer, and copies them out to the same positions of the
  result. With every row number below 100000 no transfer leaves the table, and the result's row `k` is the table's row
  number `k`.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.SparseCore.FromWhole
public import Idealize.ShloMosaic.Lib.StableHlo.Run
public import Idealize.ShloMosaic.Lib.Pipeline.Kit
public import Idealize.ShloMosaic.Lib.Pointwise
public import Idealize.ShloMosaic.Lib.Tactic
public import proofs.«01_k».proof.Proof.Gen.RowsIdeal
public import proofs.«01_k».proof.Proof.Gen.RowsIdeal.Skeleton

@[expose] public section

set_option maxRecDepth 16384

noncomputable section

namespace Cert.Proof.GatherIdeal

open Cert.RowsIdeal Cert.RowsIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as its launch sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers, and the rows each task serves -/

abbrev iLoc (d : Dev nD) : Loc nD τ sig := (SparseCore.T d).loc main_arg1
abbrev xLoc (d : Dev nD) : Loc nD τ sig := (SparseCore.T d).loc main_arg0
abbrev oLoc (d : Dev nD) : Loc nD τ sig := (SparseCore.T d).loc main_v0

abbrev iV : Memref sig Kind.scVector Space.hbm S16384 EltTy.i32 := Memref.whole main_arg1_scv
abbrev xV : Memref sig Kind.scVector Space.hbm S100000x128 EltTy.f32 := Memref.whole main_arg0_scv
abbrev oV : Memref sig Kind.scVector Space.hbm S16384x128 EltTy.f32 := Memref.whole main_v0_scv
abbrev sV : Memref sig Kind.scVector Space.vmem S512 EltTy.i32 := Memref.whole cc0_scratch0
abbrev rV : Memref sig Kind.scVector Space.vmem S512x128 EltTy.f32 := Memref.whole cc0_scratch1

theorem idiv : 32 ∣ S16384.size 0 := ⟨512, rfl⟩
theorem odiv : 32 ∣ S16384x128.size 0 := ⟨512, rfl⟩
abbrev irow (w : Fin 32) : Rect S16384 := Rect.part (s := S16384) (a₀ := 0) idiv w
abbrev orow (w : Fin 32) : Rect S16384x128 := Rect.part (s := S16384x128) (a₀ := 0) odiv w
abbrev iRowSet (w : Fin 32) : Finset S16384.Idx := ((iV).view.slice (irow w)).set
abbrev oRowSet (w : Fin 32) : Finset S16384x128.Idx := ((oV).view.slice (orow w)).set

/-- The task of subcore `s` of core `c`. -/
abbrev wk (c : Fin 2) (s : Fin 16) : Fin 32 := ⟨2 * s.val + c.val, by omega⟩
/-- The share of the table task `w` reads through. -/
abbrev xq (w : Fin 32) : PosShare TreeShare := Idealize.ShloMosaic.pieceOf fullShare 32 (by decide) w

/-- The rows of the table named by a list of row numbers. -/
def gath (fi : S16384.Idx → BitVec 32) (ft : S100000x128.Idx → Elt F .f32) : S16384x128.Idx → Elt F .f32 :=
  fun x => ft (ix2 ⟨(fi (ix1 (x 0))).toNat % 100000, Nat.mod_lt _ (by decide)⟩ (x 1))

variable [FloatOps F]
-- the list, the table, and what the result's buffer held before
variable (fi : (d : Dev nD) → Buf (Elt F) (iLoc d)) (ft : (d : Dev nD) → Buf (Elt F) (xLoc d)) (f₀ : (d : Dev nD) → Buf (Elt F) (oLoc d))

abbrev outV (d : Dev nD) : Buf (Elt F) (oLoc d) := gath (F := F) (fi d) (ft d)

/-- What task `w` is handed. -/
abbrev goW (d : Dev nD) (w : Fin 32) : sProp 𝕄 :=
  iprop((iLoc d ↦[iRowSet w]{fullShare} fi d) ∗ (xLoc d ↦{xq w} ft d) ∗ (oLoc d ↦[oRowSet w]{fullShare} f₀ d))
/-- What task `w` hands back. -/
abbrev tdW (d : Dev nD) (w : Fin 32) : sProp 𝕄 :=
  iprop((iLoc d ↦[iRowSet w]{fullShare} fi d) ∗ (xLoc d ↦{xq w} ft d) ∗ (oLoc d ↦[oRowSet w]{fullShare} outV fi ft d))
/-- What SparseCore `c` is handed, and hands back: its sixteen tasks'. -/
abbrev stC (d : Dev nD) (c : Fin 2) : sProp 𝕄 := bigSep Finset.univ fun s : Fin 16 => goW fi ft f₀ d (wk c s)
abbrev dnC (d : Dev nD) (c : Fin 2) : sProp 𝕄 := bigSep Finset.univ fun s : Fin 16 => tdW fi ft d (wk c s)

/-- Every number in the list is a row of the table. -/
def InRange : Prop := ∀ (d : Dev nD) (j : S16384.Idx), (fi d j : BitVec 32).toNat < 100000

/-! ## The task -/

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_zero : grid0.bound 0 = 2 := rfl
omit [FloatOps F] in
theorem bound_one : grid0.bound 1 = 16 := rfl
abbrev wL (L : grid0.Coords) : Fin 32 := wk (Fin.cast bound_zero (L 0)) (Fin.cast bound_one (L 1))

abbrev irowK (L : grid0.Coords) : Rect S16384 := Rect.unit (s := S16384) (k0_off1 L) S512.size (k0_off1_inb L)
abbrev orowK (L : grid0.Coords) : Rect S16384x128 := Rect.unit (s := S16384x128) (k0_off2 L) S512x128.size (k0_off2_inb L)
abbrev iRowK (L : grid0.Coords) : Memref sig .scVector .hbm S512 .i32 := (iV).slice (irowK L) (fun _ => rfl)
abbrev oRowK (L : grid0.Coords) : Memref sig .scVector .hbm S512x128 .f32 := (oV).slice (orowK L) (fun _ => rfl)
abbrev xAllK : Memref sig .scVector .hbm S100000x128 .f32 := (xV).slice (Rect.unit (s := S100000x128) ![0, 0] S100000x128.size inb_S100000x128_S100000x128_0_0) (fun _ => rfl)

omit [FloatOps F] in
theorem irowK_eq : irowK L = irow (wL L) := by
  unfold irowK irow Rect.part Rect.block
  congr 1 <;> funext a
  · rw [k0_off1_eq]
    match a with
    | 0 =>
      simp [Shape.partIx, Shape.partSize]
      show 1024 * (L 1).val + 512 * (L 0).val = (2 * (L 1).val + (L 0).val) * 512
      omega
  · match a with
    | 0 => simp [Shape.partSize]
omit [FloatOps F] in
theorem orowK_eq : orowK L = orow (wL L) := by
  unfold orowK orow Rect.part Rect.block
  congr 1 <;> funext a
  · rw [k0_off2_eq]
    match a with
    | 0 =>
      simp [Shape.partIx, Shape.partSize]
      show 1024 * (L 1).val + 512 * (L 0).val = (2 * (L 1).val + (L 0).val) * 512
      omega
    | 1 => simp [Shape.partIx, Shape.partSize]
  · match a with
    | 0 => simp [Shape.partSize]
    | 1 => simp [Shape.partSize]

omit [FloatOps F] in
theorem set_iRowK : (iRowK L).view.set = iRowSet (wL L) := by
  show ((iV).view.slice (irowK L)).set = ((iV).view.slice (irow (wL L))).set
  exact irowK_eq L ▸ rfl
omit [FloatOps F] in
theorem set_oRowK : (oRowK L).view.set = oRowSet (wL L) := by
  show ((oV).view.slice (orowK L)).set = ((oV).view.slice (orow (wL L))).set
  exact orowK_eq L ▸ rfl

omit [FloatOps F] in
theorem pts_iRowK (f : Buf (Elt F) (iLoc d)) :
    ((iRowK L).view.loc (V d (cV L) (jV L)) ↦[(iRowK L).view.set]{fullShare} f : sProp 𝕄) = iLoc d ↦[iRowSet (wL L)]{fullShare} f := by
  rw [set_iRowK]
omit [FloatOps F] in
theorem pts_oRowK (f : Buf (Elt F) (oLoc d)) :
    ((oRowK L).view.loc (V d (cV L) (jV L)) ↦[(oRowK L).view.set]{fullShare} f : sProp 𝕄) = oLoc d ↦[oRowSet (wL L)]{fullShare} f := by
  rw [set_oRowK]
omit [FloatOps F] in
theorem pts_xV (q : PosShare TreeShare) (f : Buf (Elt F) (xLoc d)) :
    ((xAllK).view.loc (V d (cV L) (jV L)) ↦{q} f : sProp 𝕄) = xLoc d ↦{q} f := rfl
omit [FloatOps F] in
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
omit [FloatOps F] in
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scratch2.sem)
abbrev cCcell (d : Dev nD) (c : Fin τ.nSC) (i : Fin τ.nSub) : GSem nD τ sig := (V d c i, .dma cc0_scoped1.sem)

omit [FloatOps F] in
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scratch2.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped1.sem : SemLoc sig).isScoped .scVector = true; decide⟩⟩⟩)]

omit [FloatOps F] in
/-- The two scratch buffers are among the subcore's own: they, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The numbers the indirect transfer reads are in range: what landed in the index scratch is the task's part of the list. -/
theorem inb_of_range (hpre : InRange fi) (fs : Buf (Elt F) ((V d (cV L) (jV L)).loc cc0_scratch0)) (pay : S512.Idx → Elt F .i32)
    (hpay : pay = (iRowK L).view.read (Elt F) (fi d)) :
    ∀ x, ((sV).view.read (Elt F) (View.write (Elt F) (sV).view fs pay Finset.univ) x).toNat < S100000x128.size gathers_S100000x128_S512x128.axis := by
  subst hpay; intro x
  rw [View.write_whole_univ]
  simp only [Memref.view_whole, View.read_whole]
  rw [show ∀ j, (iRowK L).view.read (Elt F) (fi d) j = fi d ((iRowK L).view.emb j) from fun j => (View.read_apply _ _).trans (cast_eq _ _)]
  exact hpre d _

omit [FloatOps F] in
theorem emb_iRowK (x : S512.Idx) (h : 1024 * (L 1).val + 512 * (L 0).val + (x 0).val < 16384) :
    (iRowK L).view.emb x = ix1 ⟨1024 * (L 1).val + 512 * (L 0).val + (x 0).val, h⟩ := by
  funext a
  match a with
  | 0 => exact Fin.ext (by show (k0_off1 L) 0 + 1 * (x 0).val = _; rw [k0_off1_eq]; simp)
omit [FloatOps F] in
theorem emb_oRowK (x : S512x128.Idx) (h : 1024 * (L 1).val + 512 * (L 0).val + (x 0).val < 16384) :
    (oRowK L).view.emb x = ix2 ⟨1024 * (L 1).val + 512 * (L 0).val + (x 0).val, h⟩ (x 1) := by
  funext a
  match a with
  | 0 => exact Fin.ext (by show (k0_off2 L) 0 + 1 * (x 0).val = _; rw [k0_off2_eq]; simp)
  | 1 => exact Fin.ext (by show (k0_off2 L) 1 + 1 * (x 1).val = _; rw [k0_off2_eq]; simp)
omit [FloatOps F] in
theorem emb_xAllK (x : S100000x128.Idx) : (xAllK).view.emb x = x := by
  funext a
  match a with
  | 0 => exact Fin.ext (by show 0 + 1 * (x 0).val = _; simp)
  | 1 => exact Fin.ext (by show 0 + 1 * (x 1).val = _; simp)

/-- What the copy out writes on the task's rows of the result is the gathered rows. -/
theorem out_eq (hpre : InRange fi) (fs : Buf (Elt F) ((V d (cV L) (jV L)).loc cc0_scratch0)) (fr : Buf (Elt F) ((V d (cV L) (jV L)).loc cc0_scratch1))
    (pay : S512.Idx → Elt F .i32) (hpay : pay = (iRowK L).view.read (Elt F) (fi d))
    (hin : ∀ x, ((sV).view.read (Elt F) (View.write (Elt F) (sV).view fs pay Finset.univ) x).toNat < S100000x128.size gathers_S100000x128_S512x128.axis)
    (hn : S512.numel = S512x128.size gathers_S100000x128_S512x128.axis')
    (pay' : S512x128.Idx → Elt F .f32)
    (hpay' : pay' = (rV).view.read (Elt F) (View.write (Elt F) (rV).view fr (SparseCore.gatherPayload gathers_S100000x128_S512x128 ((xAllK).view.read (Elt F) (ft d))
      (SparseCore.rows ((sV).view.read (Elt F) (View.write (Elt F) (sV).view fs pay Finset.univ)) hn hin)) Finset.univ)) :
    ∀ i ∈ (oRowK L).view.set, (oRowK L).view.writes (Elt F) (f₀ d) [⟨Rect.whole S512x128, pay'⟩] i = outV fi ft d i := by
  subst hpay hpay'
  intro i hi
  rw [← View.write_univ_eq_writes_whole, View.writes_nil]
  obtain ⟨x, -, rfl⟩ := Finset.mem_map.mp hi
  rw [View.write_emb_of_mem _ _ (Finset.mem_univ x), View.read_write_univ]
  refine (cast_eq _ _).trans ?_
  have hb : 1024 * (L 1).val + 512 * (L 0).val + (x 0).val < 16384 := by
    have h0 : (L 0).val < 2 := (L 0).isLt
    have h1 : (L 1).val < 16 := (L 1).isLt
    have hx : (x 0).val < 512 := (x 0).isLt
    omega
  rw [emb_oRowK L x hb]
  unfold SparseCore.gatherPayload
  rw [View.read_apply, emb_xAllK]
  refine (cast_eq _ _).trans ?_
  unfold outV gath
  congr 1
  have hw : ∀ k : Fin 512, (sV).view.read (Elt F) (View.write (Elt F) (sV).view fs ((iRowK L).view.read (Elt F) (fi d)) Finset.univ) (S512.rowMajor.symm (k.cast hn.symm))
      = fi d ((iRowK L).view.emb (S512.rowMajor.symm (k.cast hn.symm))) := fun k => by
    rw [View.read_write_univ]; exact (View.read_apply _ _).trans (cast_eq _ _)
  have hk : ∀ k : Fin 512, ((S512.rowMajor.symm (k.cast hn.symm)) 0).val = k.val := fun k => by
    refine (Shape.rowMajor_val_one (S512.rowMajor.symm (k.cast hn.symm))).symm.trans ?_
    exact congrArg Fin.val (Equiv.apply_symm_apply S512.rowMajor (k.cast hn.symm))
  funext a
  match a with
  | 0 =>
    refine Fin.ext ?_
    refine (congrArg Fin.val (Shape.Gathers.idx_axis gathers_S100000x128_S512x128 _ x)).trans ?_
    show ((sV).view.read (Elt F) (View.write (Elt F) (sV).view fs ((iRowK L).view.read (Elt F) (fi d)) Finset.univ) (S512.rowMajor.symm ((x 0 : Fin 512).cast hn.symm)) : BitVec 32).toNat
      = (fi d (ix1 ⟨1024 * (L 1).val + 512 * (L 0).val + (x 0).val, hb⟩) : BitVec 32).toNat % 100000
    rw [Nat.mod_eq_of_lt (hpre d _)]
    refine (congrArg BitVec.toNat (hw (x 0))).trans ?_
    rw [emb_iRowK L _ (by rw [hk (x 0)]; exact hb)]
    refine congrArg (fun j => (fi d (ix1 j) : BitVec 32).toNat) (Fin.ext ?_)
    show 1024 * (L 1).val + 512 * (L 0).val + _ = 1024 * (L 1).val + 512 * (L 0).val + _
    rw [hk (x 0)]
  | 1 => exact Fin.ext (Shape.Gathers.idx_of_ne gathers_S100000x128_S512x128 _ x 1 (by decide))

end Tile

/-! ## The rows split and join, and the shares of the table -/

omit [FloatOps F] in
theorem iRowSet_eq (w : Fin 32) : iRowSet w = (irow w).set := by
  show ((View.whole (main_arg1_scv : Ref sig .scVector)).slice (irow w)).set = _
  rw [View.set_slice]; exact Finset.map_refl
omit [FloatOps F] in
theorem oRowSet_eq (w : Fin 32) : oRowSet w = (orow w).set := by
  show ((View.whole (main_v0_scv : Ref sig .scVector)).slice (orow w)).set = _
  rw [View.set_slice]; exact Finset.map_refl
omit [FloatOps F] in
theorem irows_disjoint : ∀ i ∈ (Finset.univ : Finset (Fin 32)), ∀ j ∈ (Finset.univ : Finset (Fin 32)), i ≠ j → Disjoint (iRowSet i) (iRowSet j) :=
  fun i _ j _ h => by rw [iRowSet_eq, iRowSet_eq]; exact Rect.part_disjoint idiv h
omit [FloatOps F] in
theorem orows_disjoint : ∀ i ∈ (Finset.univ : Finset (Fin 32)), ∀ j ∈ (Finset.univ : Finset (Fin 32)), i ≠ j → Disjoint (oRowSet i) (oRowSet j) :=
  fun i _ j _ h => by rw [oRowSet_eq, oRowSet_eq]; exact Rect.part_disjoint odiv h
omit [FloatOps F] in
theorem irows_cover : (Finset.univ : Finset (Fin 32)).biUnion iRowSet = Finset.univ :=
  (Finset.biUnion_congr rfl fun i _ => iRowSet_eq i).trans (Rect.biUnion_part idiv)
omit [FloatOps F] in
theorem orows_cover : (Finset.univ : Finset (Fin 32)).biUnion oRowSet = Finset.univ :=
  (Finset.biUnion_congr rfl fun i _ => oRowSet_eq i).trans (Rect.biUnion_part odiv)

omit [FloatOps F] in
theorem iPts_rows (d : Dev nD) (f : Buf (Elt F) (iLoc d)) :
    (iLoc d ↦{fullShare} f : sProp 𝕄) = bigSep Finset.univ fun w : Fin 32 => iLoc d ↦[iRowSet w]{fullShare} f := by
  rw [← pointsTo_biUnion Finset.univ (ℓ := iLoc d) iRowSet irows_disjoint, irows_cover]
omit [FloatOps F] in
theorem oPts_rows (d : Dev nD) (f : Buf (Elt F) (oLoc d)) :
    (oLoc d ↦{fullShare} f : sProp 𝕄) = bigSep Finset.univ fun w : Fin 32 => oLoc d ↦[oRowSet w]{fullShare} f := by
  rw [← pointsTo_biUnion Finset.univ (ℓ := oLoc d) oRowSet orows_disjoint, orows_cover]
omit [FloatOps F] in
theorem xPts_shares (d : Dev nD) (f : Buf (Elt F) (xLoc d)) :
    (xLoc d ↦{fullShare} f : sProp 𝕄) = bigSep Finset.univ fun w : Fin 32 => xLoc d ↦{xq w} f :=
  Idealize.ShloMosaic.pointsTo_piecesOf Finset.univ f (by decide) fullShare

omit [FloatOps F] in
/-- The thirty-two tasks, core by core. -/
theorem bigSep_cores (Φ : Fin 32 → sProp 𝕄) :
    bigSep Finset.univ Φ = bigSep Finset.univ fun c : Fin 2 => bigSep Finset.univ fun s : Fin 16 => Φ (wk c s) := by
  rw [bigSep_univ_equiv ((Equiv.prodComm (Fin 2) (Fin 16)).trans (finProdFinEquiv : Fin 16 × Fin 2 ≃ Fin (16 * 2))) Φ, bigSep_univ_prod]
  refine bigSep_congr fun c _ => bigSep_congr fun s _ => congrArg Φ (Fin.ext ?_)
  show c.val + 2 * s.val = 2 * s.val + c.val
  omega

/-- The operands, whole, are what the two cores are handed. -/
theorem st_eq (d : Dev nD) :
    (iprop((iLoc d ↦{fullShare} fi d) ∗ (xLoc d ↦{fullShare} ft d) ∗ (oLoc d ↦{fullShare} f₀ d)) : sProp 𝕄)
      = bigSep Finset.univ fun c : Fin 2 => stC fi ft f₀ d c := by
  rw [iPts_rows, xPts_shares, oPts_rows, ← bigSep_sep', ← bigSep_sep', bigSep_cores]
/-- What the two cores hand back is the operands, whole, the result at the gathered rows. -/
theorem dn_eq (d : Dev nD) :
    (iprop((iLoc d ↦{fullShare} fi d) ∗ (xLoc d ↦{fullShare} ft d) ∗ (oLoc d ↦{fullShare} outV fi ft d)) : sProp 𝕄)
      = bigSep Finset.univ fun c : Fin 2 => dnC fi ft d c := by
  rw [iPts_rows, xPts_shares, oPts_rows, ← bigSep_sep', ← bigSep_sep', bigSep_cores]

end Cert.Proof.GatherIdeal

end
-- ==== Proof.GatherIdealTile.lean ====
/-
  One task of the row gather, run.
-/
module

public import proofs.«01_k».proof.Proof.GatherIdeal
public import Idealize.ShloMosaic.Lib.SparseCore.Quiescent
public import Idealize.ShloMosaic.Lib.SparseCore.Ops
public import Idealize.ShloMosaic.Lib.SparseCore.Stream
public import Idealize.ShloMosaic.Lib.SparseCore.FromWhole
public import Idealize.ShloMosaic.Lib.StableHlo.Run
public import Idealize.ShloMosaic.Lib.Pipeline.Kit
public import Idealize.ShloMosaic.Lib.Pointwise
public import Idealize.ShloMosaic.Lib.Tactic
public import proofs.«01_k».proof.Proof.Gen.RowsIdeal
public import proofs.«01_k».proof.Proof.Gen.RowsIdeal.Skeleton

@[expose] public section

set_option maxRecDepth 16384

noncomputable section

namespace Cert.Proof.GatherIdeal

open Cert.RowsIdeal Cert.RowsIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
-- the list, the table, and what the result's buffer held before
variable (fi : (d : Dev nD) → Buf (Elt F) (iLoc d)) (ft : (d : Dev nD) → Buf (Elt F) (xLoc d)) (f₀ : (d : Dev nD) → Buf (Elt F) (oLoc d))

section Tile

variable (d : Dev nD) (L : grid0.Coords)

set_option maxHeartbeats 4000000 in
/-- The task on vector subcore `(L 0, L 1)` of device `d`. -/
theorem tile_body (hF : (K (F := F)).Facts) (hpre : InRange fi) (O : CellTallies nD τ sig (HIx 1)) (W : Waits sig (HIx 1)) (hO : ∀ g, O g none = 0) :
    iprop(levAts (K (F := F)).L (K (F := F)).lev ∗ emp
        ∗ goW fi ft f₀ d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_k L xV (Memref.isWhole_whole _) iV (Memref.isWhole_whole _) oV (Memref.isWhole_whole _)
            sV (Memref.isWhole_whole _) rV (Memref.isWhole_whole _) cc0_scratch2 cc0_scoped0 cc0_scoped1)
          fun _ => iprop(tdW fi ft d (wL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_k_eq_skeleton]; unfold cc0_k_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iRowK (F := F) d L _).symm) $$ Hi
  ihave Ho' := (Entails.of_eq (pts_oRowK (F := F) d L _).symm) $$ Ho
  ihave Hs' := (Entails.of_eq (pts_sV (F := F) d L _).symm) $$ Hs
  sl_exec
  ihave Hx' := (Entails.of_eq (pts_xV (F := F) d L _ _).symm) $$ Hx
  ihave Hr' := (Entails.of_eq (pts_rV (F := F) d L _).symm) $$ Hr
  have hN : ∀ h : S100000x128.Gathers 0 S512x128, ∑ j, ((rV).slice (S512x128.rowRect h.axis' j) (S512x128.stride_rowRect h.axis' j)).view.dmaCredit
      = (rV).view.dmaCredit := fun h => SparseCore.sum_rowCredit_eq_dmaCredit rV h.axis' fun _ => rfl
  iapply (SparseCore.wp_gatherFromWhole countersEmb 𝒱₀ (V d (cV L) (jV L)) none (hg := gathers_S100000x128_S512x128) (default : HIx 1)
      (rV).view.dmaCredit (hN _) (by decide) (inb_of_range fi d L hpre fs _ rfl)) $$ [Hx' Hr' Hs' HsemB]
  · isplitl [Hx']; · iexact Hx'
    isplitl [Hr']; · iexact Hr'
    isplitl [Hs']; · iexact Hs'
    iexact HsemB
  iintro Hfl
  sl_exec
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr', Hx', Hs'⟩, HsemB, HO⟩
  sl_exec
  sl_step
  isplitl [Hi' Hx' Ho']
  · isplitl [Hi']; · iapply (Entails.of_eq (pts_iRowK (F := F) d L _)); iexact Hi'
    isplitl [Hx']; · iexact Hx'
    iapply (Entails.of_eq ((pointsTo_congr (out_eq fi ft f₀ d L hpre fs fr _ rfl (inb_of_range fi d L hpre fs _ rfl) rfl _ rfl)).trans (pts_oRowK (F := F) d L _)))
    iexact Ho'
  isplitl [Hs' Hr' Hbufs]
  · isplitl [Hs']; · iexists _; iexact Hs'
    isplitl [Hr']; · iexists _; iexact Hr'
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s)
          xV (Memref.isWhole_whole _) iV (Memref.isWhole_whole _) oV (Memref.isWhole_whole _)
          sV (Memref.isWhole_whole _) rV (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

end Tile

end Cert.Proof.GatherIdeal

end
-- ==== Proof.GatherIdealRun.lean ====
/-
  The row gather's launch: its operands handed to the two SparseCores, and its run.
-/
module

public import proofs.«01_k».proof.Proof.GatherIdealTile
public import Idealize.ShloMosaic.Lib.SparseCore.Quiescent
public import Idealize.ShloMosaic.Lib.SparseCore.Ops
public import Idealize.ShloMosaic.Lib.SparseCore.Stream
public import Idealize.ShloMosaic.Lib.SparseCore.FromWhole
public import Idealize.ShloMosaic.Lib.StableHlo.Run
public import Idealize.ShloMosaic.Lib.Pipeline.Kit
public import Idealize.ShloMosaic.Lib.Pointwise
public import Idealize.ShloMosaic.Lib.Tactic
public import proofs.«01_k».proof.Proof.Gen.RowsIdeal
public import proofs.«01_k».proof.Proof.Gen.RowsIdeal.Skeleton

@[expose] public section

set_option maxRecDepth 16384

noncomputable section

namespace Cert.Proof.GatherIdeal

open Cert.RowsIdeal Cert.RowsIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The launch memory and what the handshakes carry -/

variable [FloatOps F]
variable (m : (ℓ : Loc nD τ sig) → Buf (Elt F) ℓ) (ρ : Dev nD → PrngReg)

abbrev fiM (d : Dev nD) : Buf (Elt F) (iLoc d) := m (iLoc d)
abbrev ftM (d : Dev nD) : Buf (Elt F) (xLoc d) := m (xLoc d)
abbrev f₀M (d : Dev nD) : Buf (Elt F) (oLoc d) := m (oLoc d)

/-- The one call hands each SparseCore its sixteen tasks' operands, each task its own. -/
def P : (K (F := F)).Pay (nD := nD) (Val := Elt F) (Name := ℕ) (U := UU) where
  st := fun q d c => match q with | 0 => stC (fiM m) (ftM m) (f₀M m) d (Fin.cast nCore_zero c)
  dn := fun q d c => match q with | 0 => dnC (fiM m) (ftM m) d (Fin.cast nCore_zero c)
  go := fun q d c i => match q with
    | 0 => goW (fiM m) (ftM m) (f₀M m) d (wk (Fin.cast nCore_zero c) (Fin.cast nSub_zero i))
  td := fun q d c i => match q with
    | 0 => tdW (fiM m) (ftM m) d (wk (Fin.cast nCore_zero c) (Fin.cast nSub_zero i))
  x := fun _ _ => iprop(emp)

instance P_storable : (P (F := F) m).IsStorable where
  st q d c := match q with
    | 0 => (inferInstance : BI.Storable (upEmb : UEmb _ 𝕄) (stC (fiM m) (ftM m) (f₀M m) d (Fin.cast nCore_zero c)))
  dn q d c := match q with
    | 0 => (inferInstance : BI.Storable (upEmb : UEmb _ 𝕄) (dnC (fiM m) (ftM m) d (Fin.cast nCore_zero c)))
  go q d c i := match q with
    | 0 => (inferInstance : BI.Storable (upEmb : UEmb _ 𝕄) (goW (fiM m) (ftM m) (f₀M m) d (wk (Fin.cast nCore_zero c) (Fin.cast nSub_zero i))))
  td q d c i := match q with
    | 0 => (inferInstance : BI.Storable (upEmb : UEmb _ 𝕄) (tdW (fiM m) (ftM m) d (wk (Fin.cast nCore_zero c) (Fin.cast nSub_zero i))))

theorem tileObl (hF : (K (F := F)).Facts) (hpre : InRange (fiM m)) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body (fiM m) (ftM m) (f₀M m) d (coordsV ⟨_, hci.1⟩ ⟨_, hci.2⟩) hF hpre O W hO).trans (wp_mono frame _ _ fun _ => obl_post)

theorem vecSplit : (K (F := F)).VecSplit' (P m) 0 := by
  intro d c
  show stC (fiM m) (ftM m) (f₀M m) d (Fin.cast nCore_zero c) ⊢ |={Set.univ}=> iprop(
      (bigSep Finset.univ fun s : Fin 16 => goW (fiM m) (ftM m) (f₀M m) d (wk (Fin.cast nCore_zero c) s))
      ∗ ((bigSep Finset.univ fun s : Fin 16 => tdW (fiM m) (ftM m) d (wk (Fin.cast nCore_zero c) s)) -∗ dnC (fiM m) (ftM m) d (Fin.cast nCore_zero c)))
  iintro H; imodintro
  isplitl [H]; · iexact H
  iintro H; iexact H

/-! ## The launch element of the ghost state -/

omit [FloatOps F] in
theorem bigSep_emp' {I : Type} (s : Finset I) : (bigSep s fun _ => iprop(emp)) = (iprop(emp) : sProp 𝕄) := bigSep_emp_const s

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main -/

omit [FloatOps F] in
theorem unscopedBufs_eq (d : Dev nD) (W : (b : Ref sig .tc) → Buf (Elt F) ((d.tc : Thread nD τ).loc b)) :
    (unscopedBufs d W : sProp 𝕄) = iprop((iLoc d ↦{fullShare} W main_arg1) ∗ (xLoc d ↦{fullShare} W main_arg0) ∗ oLoc d ↦{fullShare} W main_v0) := by
  unfold unscopedBufs
  rw [show (Finset.univ.filter fun b : Ref sig .tc => ¬ b.isScoped) = {main_arg1, main_arg0, main_v0} by decide,
    SparseCore.bigSep_insert' (by decide), SparseCore.bigSep_insert' (by decide), bigSep_singleton]

theorem st0_eq (d : Dev nD) : (bigSep Finset.univ fun c : Fin ((K (F := F)).nCore 0) => (P m).st 0 d c)
    = iprop((iLoc d ↦{fullShare} fiM m d) ∗ (xLoc d ↦{fullShare} ftM m d) ∗ (oLoc d ↦{fullShare} f₀M m d)) :=
  (st_eq (fiM m) (ftM m) (f₀M m) d).symm
theorem dn0_eq (d : Dev nD) : (bigSep Finset.univ fun c : Fin ((K (F := F)).nCore 0) => (P m).dn 0 d c)
    = iprop((iLoc d ↦{fullShare} fiM m d) ∗ (xLoc d ↦{fullShare} ftM m d) ∗ (oLoc d ↦{fullShare} outV (fiM m) (ftM m) d)) :=
  (dn_eq (fiM m) (ftM m) d).symm

abbrev FIN (d : Dev nD) : sProp 𝕄 :=
  iprop((iLoc d ↦{fullShare} fiM m d) ∗ (xLoc d ↦{fullShare} ftM m d) ∗ (oLoc d ↦{fullShare} outV (fiM m) (ftM m) d))

/-- @main on a device's TensorCore: the one call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hi, Hx, Ho⟩, Hts, -⟩, -⟩
  iapply ((K (F := F)).wp_run (D (F := F)) 𝒱 (EH := EH) (P := P m) κ d 0) $$ [Hst Hi Hx Ho Hb Hts]
  isplitr; · iexact Hctx
  isplitl [Hst]; · iexact Hst
  isplitl [Hi Hx Ho]
  · rw [st0_eq]
    isplitl [Hi]; · iexact Hi
    isplitl [Hx]; · iexact Hx
    iexact Ho
  iintro ⟨Hst, Hdn⟩
  ihave Hdn' := (Entails.of_eq (dn0_eq m d)) $$ Hdn
  icases Hdn' with ⟨Hi, Hx, Ho⟩
  imodintro
  isplitl [Hst]; · iexact Hst
  isplitr [Hb Hts]
  · isplitl [Hi]; · iexact Hi
    isplitl [Hx]; · iexact Hx
    iexact Ho
  isplitl [Hb] <;> iassumption

def fq (d : Dev nD) (s' : Phys nD τ sig (Elt F)) : Prop :=
  s'.mem.mem (iLoc d) = m (iLoc d) ∧ s'.mem.mem (xLoc d) = m (xLoc d) ∧ s'.mem.mem (oLoc d) = outV (fiM m) (ftM m) d

theorem hfin (d : Dev nD) (s' : Phys nD τ sig (Elt F)) : iprop(FIN m d ∗ SI s') ⊢ (⌜fq m d s'⌝ : sProp 𝕄) := by
  iintro ⟨⟨Hi, Hx, Ho⟩, HSI⟩
  ihave H := (persistent_entails_right (SI_pointsTo_agree (st := s') (ℓ := iLoc d) (I := Finset.univ) (q := fullShare) (f := m (iLoc d)))) $$ [HSI Hi]
  · isplitl [HSI] <;> iassumption
  icases H with ⟨%h1, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h2, HSI, -⟩
  ihave H := (SI_pointsTo_agree (st := s') (ℓ := oLoc d) (I := Finset.univ) (q := fullShare) (f := outV (fiM m) (ftM m) d)) $$ [HSI Ho]
  · isplitl [HSI] <;> iassumption
  icases H with %h3
  ipureintro
  exact ⟨funext fun i => h1 i (Finset.mem_univ i), funext fun i => h2 i (Finset.mem_univ i), funext fun i => h3 i (Finset.mem_univ i)⟩

def QC : PUnit × MemSt nD τ sig (Elt F) → Prop := fun r =>
  (∀ d : Dev nD, r.2.mem (iLoc d) = m (iLoc d) ∧ r.2.mem (xLoc d) = m (xLoc d) ∧ r.2.mem (oLoc d) = outV (fiM m) (ftM m) d) ∧ r.2.sem = fun _ => 0

/-- Every run ends, the list and the table unchanged, the result at the gathered rows, every semaphore at zero. -/
theorem run_main [∀ e, Nonempty (Elt F e)] (hpre : InRange (fiM m)) :
    θ_run (Cert.RowsIdeal.defs (F := F)) (Cert.RowsIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.GatherIdeal

end
-- ==== Proof.RowsClaims.lean ====
/-
  The claims about the row gather: its frames from its run, the precondition read as a bound on the row numbers, and the
  reference's rows the gathered ones.
-/
module

public import proofs.«01_k».proof.Proof.GatherIdealRun
public import proofs.«01_k».proof.Proof.GatherBitsRun
public import proofs.«01_k».proof.Proof.Gen.RowsRefIdeal
public import proofs.«01_k».proof.Proof.Gen.RowsRefIdeal.Run
public import proofs.«01_k».proof.Proof.Gen.Pre_idx_in_rows
public import Idealize.ShloMosaic.Adequacy
public import Idealize.ShloMosaic.Init

@[expose] public section

set_option maxRecDepth 16384

noncomputable section

namespace Cert.Proof.RowsClaims

open Idealize.ShloMosaic Idealize.SL.Sem

/-- The precondition at one row number: non-negative and below 100000. -/
theorem lt_of_pre (v : BitVec 32) (e : IntOp.andi (IntOp.cmpi .sge v 0#32) (IntOp.cmpi .slt v 100000#32) = 1#1) :
    v.toNat < 100000 ∧ 0 ≤ v.toInt := by
  have h1 : ∀ p q : Bool, IntOp.andi (BitVec.ofBool p) (BitVec.ofBool q) = BitVec.ofBool (p && q) := by decide
  have h2 : ∀ p : Bool, (BitVec.ofBool p = 1#1) ↔ p = true := by decide
  simp only [IntOp.cmpi, h1, h2, Bool.and_eq_true, BitVec.sle_eq_decide, BitVec.slt_eq_decide, decide_eq_true_eq,
    BitVec.toInt_eq_toNat_cond, BitVec.toNat_ofNat, Nat.reducePow, Nat.reduceMod] at e ⊢
  omega

theorem fn_at {F : FTy → Type} [FloatOps F] (t : FVec F Cert.Pre_idx_in_rows.S100000x128 .f32) (i : IVec Cert.Pre_idx_in_rows.S16384 32)
    (h : Cert.Pre_idx_in_rows.fn (F := F) t i = fun _ => 1#1) (j : Cert.Pre_idx_in_rows.S16384.Idx) :
    (i j).toNat < 100000 ∧ 0 ≤ (i j).toInt := by
  have e := congrFun h j
  simp only [Cert.Pre_idx_in_rows.fn, andi, cmpi, broadcastInDim, constantI] at e
  exact lt_of_pre _ e

theorem frameBits : Cert.quiescent_Rows := fun m ρ hpre =>
  (θ_run Cert.Rows.defs _ _).mono (fun _ h => ⟨fun c => ⟨(h.1 c).2.1, (h.1 c).1⟩, h.2⟩)
    (GatherBits.run_main (F := Bits) m ρ fun d j => (fn_at _ _ (hpre d) j).1)

theorem frameIdeal : Cert.quiescent_RowsIdeal := fun m ρ hpre =>
  (θ_run Cert.RowsIdeal.defs _ _).mono (fun _ h => ⟨fun c => ⟨(h.1 c).2.1, (h.1 c).1⟩, h.2⟩)
    (GatherIdeal.run_main (F := Ideal) m ρ fun d j => (fn_at _ _ (hpre d) j).1)

/-! ## The reference's rows -/

open Cert.RowsRefIdeal Cert.RowsRefIdeal.Gen in
/-- The host gather's row at a result position: the row its start index names, read signed and clamped into the table. -/
theorem hostGather_at {α : Type} (x : S100000x128.Idx → α) (i : IVec S16384x1 32) (j : S16384x128.Idx) :
    Host.gather gather_S100000x128_S16384x1_S16384x128_1_0_n_n_0_1_1128 x i j
      = x (ix2 ⟨min (i (ix2 (j 0) (0 : Fin 1))).toInt.toNat 99999, by omega⟩ (j 1)) := by
  unfold Host.gather
  congr 1
  funext a
  apply Fin.ext
  have h0 : ∀ a : Fin 2, a = 0 ∨ a = 1 := by decide
  rcases h0 a with rfl | rfl
  · show GatherDims.start _ j i 0 + GatherDims.batchCoord _ j 0 + GatherDims.offCoord _ j 0 = min _ _
    rw [GatherDims.batchCoord_eq_zero _ _ _ (by decide), GatherDims.offCoord_eq_zero _ _ _ (by decide), GatherDims.start,
      dif_pos (by decide)]
    show min (i _).toInt.toNat 99999 = _
    congr 4
    funext b
    rcases h0 b with rfl | rfl
    · unfold GatherDims.siIdx; rw [dif_neg (by decide)]; rfl
    · unfold GatherDims.siIdx; rw [dif_pos (by decide)]; rfl
  · show GatherDims.start _ j i 1 + GatherDims.batchCoord _ j 1 + GatherDims.offCoord _ j 1 = (j 1).val
    rw [GatherDims.batchCoord_eq_zero _ _ _ (by decide), GatherDims.start, dif_neg (by decide), GatherDims.offCoord, dif_pos (by decide),
      Nat.zero_add]
    rfl

/-- Under the precondition the reference's result is the gathered rows. -/
theorem ref_eq (t : FVec Ideal Cert.RowsRefIdeal.S100000x128 .f32) (i : IVec Cert.RowsRefIdeal.S16384 32)
    (h : ∀ j, (i j).toNat < 100000 ∧ 0 ≤ (i j).toInt) :
    Host.gather Cert.RowsRefIdeal.gather_S100000x128_S16384x1_S16384x128_1_0_n_n_0_1_1128 t
      (broadcastInDim Cert.RowsRefIdeal.S16384x1 ![0] Cert.RowsRefIdeal.Gen.bcast_S16384_S16384x1_0
        (select (cmpi .slt i (broadcastInDim Cert.RowsRefIdeal.S16384 ![] Cert.RowsRefIdeal.Gen.bcast_S_S16384 (constantI Cert.RowsRefIdeal.S_ 32 0#32)))
          (addi i (broadcastInDim Cert.RowsRefIdeal.S16384 ![] Cert.RowsRefIdeal.Gen.bcast_S_S16384 (constantI Cert.RowsRefIdeal.S_ 32 100000#32))) i))
      = GatherIdeal.gath (F := Ideal) i t := by
  funext j
  rw [hostGather_at]
  unfold GatherIdeal.gath
  have hb : broadcastInDim Cert.RowsRefIdeal.S16384x1 ![0] Cert.RowsRefIdeal.Gen.bcast_S16384_S16384x1_0
        (select (cmpi .slt i (broadcastInDim Cert.RowsRefIdeal.S16384 ![] Cert.RowsRefIdeal.Gen.bcast_S_S16384 (constantI Cert.RowsRefIdeal.S_ 32 0#32)))
          (addi i (broadcastInDim Cert.RowsRefIdeal.S16384 ![] Cert.RowsRefIdeal.Gen.bcast_S_S16384 (constantI Cert.RowsRefIdeal.S_ 32 100000#32))) i)
        (ix2 (j 0) (0 : Fin 1)) = i (ix1 (j 0)) := by
    have hc : ∀ v : BitVec 32, 0 ≤ v.toInt → IntOp.cmpi .slt v 0#32 = 0#1 := by
      intro v hv
      have h2 : ∀ p : Bool, (BitVec.ofBool p = 0#1) ↔ p = false := by decide
      simp only [IntOp.cmpi, h2, BitVec.slt_eq_decide, decide_eq_false_iff_not, not_lt]
      simpa using hv
    have hs : select (cmpi .slt i (broadcastInDim Cert.RowsRefIdeal.S16384 ![] Cert.RowsRefIdeal.Gen.bcast_S_S16384 (constantI Cert.RowsRefIdeal.S_ 32 0#32)))
          (addi i (broadcastInDim Cert.RowsRefIdeal.S16384 ![] Cert.RowsRefIdeal.Gen.bcast_S_S16384 (constantI Cert.RowsRefIdeal.S_ 32 100000#32))) i = i := by
      funext k
      show (if IntOp.cmpi .slt (i k) 0#32 = 1#1 then _ else i k) = i k
      rw [hc _ (h k).2, if_neg (by decide)]
    rw [hs]
    show i _ = i _
    congr 1
    funext a
    have ha : a = 0 := Subsingleton.elim _ _
    subst ha; rfl
  have hj := h (ix1 (j 0))
  congr 2
  apply Fin.ext
  refine (congrArg (fun v : BitVec 32 => min v.toInt.toNat 99999) hb).trans ?_
  show min (i (ix1 (j 0))).toInt.toNat 99999 = (i (ix1 (j 0))).toNat % 100000
  rw [BitVec.toInt_eq_toNat_cond] at *
  split <;> omega

/-! ## The claims -/

theorem frameRef : Cert.quiescent_RowsRefIdeal := fun m ρ _ =>
  (θ_run Cert.RowsRefIdeal.defs _ _).mono (fun r h => ⟨fun c => (h c).2, sem_eq_zero_of_no_sems (by decide) r.2⟩)
    (Cert.RowsRefIdeal.Value.run (F := Ideal) m ρ)

theorem algebraic : Cert.algebraic_RowsIdeal_RowsRefIdeal := by
  intro m g m' g' hpre hargs
  have hin := fun d j => fn_at _ _ (hpre d) j
  refine ⟨fun c => GatherIdeal.outV (GatherIdeal.fiM m) (GatherIdeal.ftM m) c, ?_, ?_⟩
  · exact (θ_run Cert.RowsIdeal.defs _ _).mono (fun _ h c => ⟨(h.1 c).2.2, (h.1 c).2.1, (h.1 c).1⟩)
      (GatherIdeal.run_main (F := Ideal) m g fun d j => (hin d j).1)
  · refine (θ_run Cert.RowsRefIdeal.defs _ _).mono (fun _ h c => ⟨(h c).1.trans ?_, (h c).2⟩) (Cert.RowsRefIdeal.Value.run (F := Ideal) m' g')
    rw [(hargs c).1, (hargs c).2]
    exact ref_eq _ _ (hin c)

end Cert.Proof.RowsClaims

end
-- ==== Proof.SimGatherIdeal.lean ====
/-
  The row gather `cc0_k` of `SimRowsIdeal`: thirty-two tasks, sixteen vector subcores on each of two SparseCores. Task
  `w = 2 * subcore + core` copies the row numbers `512 * w, …, 512 * w + 511` of the list into its index scratch, gathers the
  named rows of the table into its row scratch by one indirect transfer, and copies them out to the same positions of the
  result. With every row number below 1605632 no transfer leaves the table, and the result's row `k` is the table's row
  number `k`.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.SparseCore.FromWhole
public import Idealize.ShloMosaic.Lib.StableHlo.Run
public import Idealize.ShloMosaic.Lib.Pipeline.Kit
public import Idealize.ShloMosaic.Lib.Pointwise
public import Idealize.ShloMosaic.Lib.Tactic
public import proofs.«01_k».proof.Proof.Gen.SimRowsIdeal
public import proofs.«01_k».proof.Proof.Gen.SimRowsIdeal.Skeleton

@[expose] public section

set_option maxRecDepth 16384

noncomputable section

namespace Cert.Proof.SimGatherIdeal

open Cert.SimRowsIdeal Cert.SimRowsIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as its launch sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers, and the rows each task serves -/

abbrev iLoc (d : Dev nD) : Loc nD τ sig := (SparseCore.T d).loc main_arg1
abbrev xLoc (d : Dev nD) : Loc nD τ sig := (SparseCore.T d).loc main_arg0
abbrev oLoc (d : Dev nD) : Loc nD τ sig := (SparseCore.T d).loc main_v0

abbrev iV : Memref sig Kind.scVector Space.hbm S16384 EltTy.i32 := Memref.whole main_arg1_scv
abbrev xV : Memref sig Kind.scVector Space.hbm S1605632x128 EltTy.f32 := Memref.whole main_arg0_scv
abbrev oV : Memref sig Kind.scVector Space.hbm S16384x128 EltTy.f32 := Memref.whole main_v0_scv
abbrev sV : Memref sig Kind.scVector Space.vmem S512 EltTy.i32 := Memref.whole cc0_scratch0
abbrev rV : Memref sig Kind.scVector Space.vmem S512x128 EltTy.f32 := Memref.whole cc0_scratch1

theorem idiv : 32 ∣ S16384.size 0 := ⟨512, rfl⟩
theorem odiv : 32 ∣ S16384x128.size 0 := ⟨512, rfl⟩
abbrev irow (w : Fin 32) : Rect S16384 := Rect.part (s := S16384) (a₀ := 0) idiv w
abbrev orow (w : Fin 32) : Rect S16384x128 := Rect.part (s := S16384x128) (a₀ := 0) odiv w
abbrev iRowSet (w : Fin 32) : Finset S16384.Idx := ((iV).view.slice (irow w)).set
abbrev oRowSet (w : Fin 32) : Finset S16384x128.Idx := ((oV).view.slice (orow w)).set

/-- The task of subcore `s` of core `c`. -/
abbrev wk (c : Fin 2) (s : Fin 16) : Fin 32 := ⟨2 * s.val + c.val, by omega⟩
/-- The share of the table task `w` reads through. -/
abbrev xq (w : Fin 32) : PosShare TreeShare := Idealize.ShloMosaic.pieceOf fullShare 32 (by decide) w

/-- The rows of the table named by a list of row numbers. -/
def gath (fi : S16384.Idx → BitVec 32) (ft : S1605632x128.Idx → Elt F .f32) : S16384x128.Idx → Elt F .f32 :=
  fun x => ft (ix2 ⟨(fi (ix1 (x 0))).toNat % 1605632, Nat.mod_lt _ (by decide)⟩ (x 1))

variable [FloatOps F]
-- the list, the table, and what the result's buffer held before
variable (fi : (d : Dev nD) → Buf (Elt F) (iLoc d)) (ft : (d : Dev nD) → Buf (Elt F) (xLoc d)) (f₀ : (d : Dev nD) → Buf (Elt F) (oLoc d))

abbrev outV (d : Dev nD) : Buf (Elt F) (oLoc d) := gath (F := F) (fi d) (ft d)

/-- What task `w` is handed. -/
abbrev goW (d : Dev nD) (w : Fin 32) : sProp 𝕄 :=
  iprop((iLoc d ↦[iRowSet w]{fullShare} fi d) ∗ (xLoc d ↦{xq w} ft d) ∗ (oLoc d ↦[oRowSet w]{fullShare} f₀ d))
/-- What task `w` hands back. -/
abbrev tdW (d : Dev nD) (w : Fin 32) : sProp 𝕄 :=
  iprop((iLoc d ↦[iRowSet w]{fullShare} fi d) ∗ (xLoc d ↦{xq w} ft d) ∗ (oLoc d ↦[oRowSet w]{fullShare} outV fi ft d))
/-- What SparseCore `c` is handed, and hands back: its sixteen tasks'. -/
abbrev stC (d : Dev nD) (c : Fin 2) : sProp 𝕄 := bigSep Finset.univ fun s : Fin 16 => goW fi ft f₀ d (wk c s)
abbrev dnC (d : Dev nD) (c : Fin 2) : sProp 𝕄 := bigSep Finset.univ fun s : Fin 16 => tdW fi ft d (wk c s)

/-- Every number in the list is a row of the table. -/
def InRange : Prop := ∀ (d : Dev nD) (j : S16384.Idx), (fi d j : BitVec 32).toNat < 1605632

/-! ## The task -/

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_zero : grid0.bound 0 = 2 := rfl
omit [FloatOps F] in
theorem bound_one : grid0.bound 1 = 16 := rfl
abbrev wL (L : grid0.Coords) : Fin 32 := wk (Fin.cast bound_zero (L 0)) (Fin.cast bound_one (L 1))

abbrev irowK (L : grid0.Coords) : Rect S16384 := Rect.unit (s := S16384) (k0_off1 L) S512.size (k0_off1_inb L)
abbrev orowK (L : grid0.Coords) : Rect S16384x128 := Rect.unit (s := S16384x128) (k0_off2 L) S512x128.size (k0_off2_inb L)
abbrev iRowK (L : grid0.Coords) : Memref sig .scVector .hbm S512 .i32 := (iV).slice (irowK L) (fun _ => rfl)
abbrev oRowK (L : grid0.Coords) : Memref sig .scVector .hbm S512x128 .f32 := (oV).slice (orowK L) (fun _ => rfl)
abbrev xAllK : Memref sig .scVector .hbm S1605632x128 .f32 := (xV).slice (Rect.unit (s := S1605632x128) ![0, 0] S1605632x128.size inb_S1605632x128_S1605632x128_0_0) (fun _ => rfl)

omit [FloatOps F] in
theorem irowK_eq : irowK L = irow (wL L) := by
  unfold irowK irow Rect.part Rect.block
  congr 1 <;> funext a
  · rw [k0_off1_eq]
    match a with
    | 0 =>
      simp [Shape.partIx, Shape.partSize]
      show 1024 * (L 1).val + 512 * (L 0).val = (2 * (L 1).val + (L 0).val) * 512
      omega
  · match a with
    | 0 => simp [Shape.partSize]
omit [FloatOps F] in
theorem orowK_eq : orowK L = orow (wL L) := by
  unfold orowK orow Rect.part Rect.block
  congr 1 <;> funext a
  · rw [k0_off2_eq]
    match a with
    | 0 =>
      simp [Shape.partIx, Shape.partSize]
      show 1024 * (L 1).val + 512 * (L 0).val = (2 * (L 1).val + (L 0).val) * 512
      omega
    | 1 => simp [Shape.partIx, Shape.partSize]
  · match a with
    | 0 => simp [Shape.partSize]
    | 1 => simp [Shape.partSize]

omit [FloatOps F] in
theorem set_iRowK : (iRowK L).view.set = iRowSet (wL L) := by
  show ((iV).view.slice (irowK L)).set = ((iV).view.slice (irow (wL L))).set
  exact irowK_eq L ▸ rfl
omit [FloatOps F] in
theorem set_oRowK : (oRowK L).view.set = oRowSet (wL L) := by
  show ((oV).view.slice (orowK L)).set = ((oV).view.slice (orow (wL L))).set
  exact orowK_eq L ▸ rfl

omit [FloatOps F] in
theorem pts_iRowK (f : Buf (Elt F) (iLoc d)) :
    ((iRowK L).view.loc (V d (cV L) (jV L)) ↦[(iRowK L).view.set]{fullShare} f : sProp 𝕄) = iLoc d ↦[iRowSet (wL L)]{fullShare} f := by
  rw [set_iRowK]
omit [FloatOps F] in
theorem pts_oRowK (f : Buf (Elt F) (oLoc d)) :
    ((oRowK L).view.loc (V d (cV L) (jV L)) ↦[(oRowK L).view.set]{fullShare} f : sProp 𝕄) = oLoc d ↦[oRowSet (wL L)]{fullShare} f := by
  rw [set_oRowK]
omit [FloatOps F] in
theorem pts_xV (q : PosShare TreeShare) (f : Buf (Elt F) (xLoc d)) :
    ((xAllK).view.loc (V d (cV L) (jV L)) ↦{q} f : sProp 𝕄) = xLoc d ↦{q} f := rfl
omit [FloatOps F] in
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
omit [FloatOps F] in
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scratch2.sem)
abbrev cCcell (d : Dev nD) (c : Fin τ.nSC) (i : Fin τ.nSub) : GSem nD τ sig := (V d c i, .dma cc0_scoped1.sem)

omit [FloatOps F] in
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scratch2.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped1.sem : SemLoc sig).isScoped .scVector = true; decide⟩⟩⟩)]

omit [FloatOps F] in
/-- The two scratch buffers are among the subcore's own: they, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The numbers the indirect transfer reads are in range: what landed in the index scratch is the task's part of the list. -/
theorem inb_of_range (hpre : InRange fi) (fs : Buf (Elt F) ((V d (cV L) (jV L)).loc cc0_scratch0)) (pay : S512.Idx → Elt F .i32)
    (hpay : pay = (iRowK L).view.read (Elt F) (fi d)) :
    ∀ x, ((sV).view.read (Elt F) (View.write (Elt F) (sV).view fs pay Finset.univ) x).toNat < S1605632x128.size gathers_S1605632x128_S512x128.axis := by
  subst hpay; intro x
  rw [View.write_whole_univ]
  simp only [Memref.view_whole, View.read_whole]
  rw [show ∀ j, (iRowK L).view.read (Elt F) (fi d) j = fi d ((iRowK L).view.emb j) from fun j => (View.read_apply _ _).trans (cast_eq _ _)]
  exact hpre d _

omit [FloatOps F] in
theorem emb_iRowK (x : S512.Idx) (h : 1024 * (L 1).val + 512 * (L 0).val + (x 0).val < 16384) :
    (iRowK L).view.emb x = ix1 ⟨1024 * (L 1).val + 512 * (L 0).val + (x 0).val, h⟩ := by
  funext a
  match a with
  | 0 => exact Fin.ext (by show (k0_off1 L) 0 + 1 * (x 0).val = _; rw [k0_off1_eq]; simp)
omit [FloatOps F] in
theorem emb_oRowK (x : S512x128.Idx) (h : 1024 * (L 1).val + 512 * (L 0).val + (x 0).val < 16384) :
    (oRowK L).view.emb x = ix2 ⟨1024 * (L 1).val + 512 * (L 0).val + (x 0).val, h⟩ (x 1) := by
  funext a
  match a with
  | 0 => exact Fin.ext (by show (k0_off2 L) 0 + 1 * (x 0).val = _; rw [k0_off2_eq]; simp)
  | 1 => exact Fin.ext (by show (k0_off2 L) 1 + 1 * (x 1).val = _; rw [k0_off2_eq]; simp)
omit [FloatOps F] in
theorem emb_xAllK (x : S1605632x128.Idx) : (xAllK).view.emb x = x := by
  funext a
  match a with
  | 0 => exact Fin.ext (by show 0 + 1 * (x 0).val = _; simp)
  | 1 => exact Fin.ext (by show 0 + 1 * (x 1).val = _; simp)

/-- What the copy out writes on the task's rows of the result is the gathered rows. -/
theorem out_eq (hpre : InRange fi) (fs : Buf (Elt F) ((V d (cV L) (jV L)).loc cc0_scratch0)) (fr : Buf (Elt F) ((V d (cV L) (jV L)).loc cc0_scratch1))
    (pay : S512.Idx → Elt F .i32) (hpay : pay = (iRowK L).view.read (Elt F) (fi d))
    (hin : ∀ x, ((sV).view.read (Elt F) (View.write (Elt F) (sV).view fs pay Finset.univ) x).toNat < S1605632x128.size gathers_S1605632x128_S512x128.axis)
    (hn : S512.numel = S512x128.size gathers_S1605632x128_S512x128.axis')
    (pay' : S512x128.Idx → Elt F .f32)
    (hpay' : pay' = (rV).view.read (Elt F) (View.write (Elt F) (rV).view fr (SparseCore.gatherPayload gathers_S1605632x128_S512x128 ((xAllK).view.read (Elt F) (ft d))
      (SparseCore.rows ((sV).view.read (Elt F) (View.write (Elt F) (sV).view fs pay Finset.univ)) hn hin)) Finset.univ)) :
    ∀ i ∈ (oRowK L).view.set, (oRowK L).view.writes (Elt F) (f₀ d) [⟨Rect.whole S512x128, pay'⟩] i = outV fi ft d i := by
  subst hpay hpay'
  intro i hi
  rw [← View.write_univ_eq_writes_whole, View.writes_nil]
  obtain ⟨x, -, rfl⟩ := Finset.mem_map.mp hi
  rw [View.write_emb_of_mem _ _ (Finset.mem_univ x), View.read_write_univ]
  refine (cast_eq _ _).trans ?_
  have hb : 1024 * (L 1).val + 512 * (L 0).val + (x 0).val < 16384 := by
    have h0 : (L 0).val < 2 := (L 0).isLt
    have h1 : (L 1).val < 16 := (L 1).isLt
    have hx : (x 0).val < 512 := (x 0).isLt
    omega
  rw [emb_oRowK L x hb]
  unfold SparseCore.gatherPayload
  rw [View.read_apply, emb_xAllK]
  refine (cast_eq _ _).trans ?_
  unfold outV gath
  congr 1
  have hw : ∀ k : Fin 512, (sV).view.read (Elt F) (View.write (Elt F) (sV).view fs ((iRowK L).view.read (Elt F) (fi d)) Finset.univ) (S512.rowMajor.symm (k.cast hn.symm))
      = fi d ((iRowK L).view.emb (S512.rowMajor.symm (k.cast hn.symm))) := fun k => by
    rw [View.read_write_univ]; exact (View.read_apply _ _).trans (cast_eq _ _)
  have hk : ∀ k : Fin 512, ((S512.rowMajor.symm (k.cast hn.symm)) 0).val = k.val := fun k => by
    refine (Shape.rowMajor_val_one (S512.rowMajor.symm (k.cast hn.symm))).symm.trans ?_
    exact congrArg Fin.val (Equiv.apply_symm_apply S512.rowMajor (k.cast hn.symm))
  funext a
  match a with
  | 0 =>
    refine Fin.ext ?_
    refine (congrArg Fin.val (Shape.Gathers.idx_axis gathers_S1605632x128_S512x128 _ x)).trans ?_
    show ((sV).view.read (Elt F) (View.write (Elt F) (sV).view fs ((iRowK L).view.read (Elt F) (fi d)) Finset.univ) (S512.rowMajor.symm ((x 0 : Fin 512).cast hn.symm)) : BitVec 32).toNat
      = (fi d (ix1 ⟨1024 * (L 1).val + 512 * (L 0).val + (x 0).val, hb⟩) : BitVec 32).toNat % 1605632
    rw [Nat.mod_eq_of_lt (hpre d _)]
    refine (congrArg BitVec.toNat (hw (x 0))).trans ?_
    rw [emb_iRowK L _ (by rw [hk (x 0)]; exact hb)]
    refine congrArg (fun j => (fi d (ix1 j) : BitVec 32).toNat) (Fin.ext ?_)
    show 1024 * (L 1).val + 512 * (L 0).val + _ = 1024 * (L 1).val + 512 * (L 0).val + _
    rw [hk (x 0)]
  | 1 => exact Fin.ext (Shape.Gathers.idx_of_ne gathers_S1605632x128_S512x128 _ x 1 (by decide))

end Tile

/-! ## The rows split and join, and the shares of the table -/

omit [FloatOps F] in
theorem iRowSet_eq (w : Fin 32) : iRowSet w = (irow w).set := by
  show ((View.whole (main_arg1_scv : Ref sig .scVector)).slice (irow w)).set = _
  rw [View.set_slice]; exact Finset.map_refl
omit [FloatOps F] in
theorem oRowSet_eq (w : Fin 32) : oRowSet w = (orow w).set := by
  show ((View.whole (main_v0_scv : Ref sig .scVector)).slice (orow w)).set = _
  rw [View.set_slice]; exact Finset.map_refl
omit [FloatOps F] in
theorem irows_disjoint : ∀ i ∈ (Finset.univ : Finset (Fin 32)), ∀ j ∈ (Finset.univ : Finset (Fin 32)), i ≠ j → Disjoint (iRowSet i) (iRowSet j) :=
  fun i _ j _ h => by rw [iRowSet_eq, iRowSet_eq]; exact Rect.part_disjoint idiv h
omit [FloatOps F] in
theorem orows_disjoint : ∀ i ∈ (Finset.univ : Finset (Fin 32)), ∀ j ∈ (Finset.univ : Finset (Fin 32)), i ≠ j → Disjoint (oRowSet i) (oRowSet j) :=
  fun i _ j _ h => by rw [oRowSet_eq, oRowSet_eq]; exact Rect.part_disjoint odiv h
omit [FloatOps F] in
theorem irows_cover : (Finset.univ : Finset (Fin 32)).biUnion iRowSet = Finset.univ :=
  (Finset.biUnion_congr rfl fun i _ => iRowSet_eq i).trans (Rect.biUnion_part idiv)
omit [FloatOps F] in
theorem orows_cover : (Finset.univ : Finset (Fin 32)).biUnion oRowSet = Finset.univ :=
  (Finset.biUnion_congr rfl fun i _ => oRowSet_eq i).trans (Rect.biUnion_part odiv)

omit [FloatOps F] in
theorem iPts_rows (d : Dev nD) (f : Buf (Elt F) (iLoc d)) :
    (iLoc d ↦{fullShare} f : sProp 𝕄) = bigSep Finset.univ fun w : Fin 32 => iLoc d ↦[iRowSet w]{fullShare} f := by
  rw [← pointsTo_biUnion Finset.univ (ℓ := iLoc d) iRowSet irows_disjoint, irows_cover]
omit [FloatOps F] in
theorem oPts_rows (d : Dev nD) (f : Buf (Elt F) (oLoc d)) :
    (oLoc d ↦{fullShare} f : sProp 𝕄) = bigSep Finset.univ fun w : Fin 32 => oLoc d ↦[oRowSet w]{fullShare} f := by
  rw [← pointsTo_biUnion Finset.univ (ℓ := oLoc d) oRowSet orows_disjoint, orows_cover]
omit [FloatOps F] in
theorem xPts_shares (d : Dev nD) (f : Buf (Elt F) (xLoc d)) :
    (xLoc d ↦{fullShare} f : sProp 𝕄) = bigSep Finset.univ fun w : Fin 32 => xLoc d ↦{xq w} f :=
  Idealize.ShloMosaic.pointsTo_piecesOf Finset.univ f (by decide) fullShare

omit [FloatOps F] in
/-- The thirty-two tasks, core by core. -/
theorem bigSep_cores (Φ : Fin 32 → sProp 𝕄) :
    bigSep Finset.univ Φ = bigSep Finset.univ fun c : Fin 2 => bigSep Finset.univ fun s : Fin 16 => Φ (wk c s) := by
  rw [bigSep_univ_equiv ((Equiv.prodComm (Fin 2) (Fin 16)).trans (finProdFinEquiv : Fin 16 × Fin 2 ≃ Fin (16 * 2))) Φ, bigSep_univ_prod]
  refine bigSep_congr fun c _ => bigSep_congr fun s _ => congrArg Φ (Fin.ext ?_)
  show c.val + 2 * s.val = 2 * s.val + c.val
  omega

/-- The operands, whole, are what the two cores are handed. -/
theorem st_eq (d : Dev nD) :
    (iprop((iLoc d ↦{fullShare} fi d) ∗ (xLoc d ↦{fullShare} ft d) ∗ (oLoc d ↦{fullShare} f₀ d)) : sProp 𝕄)
      = bigSep Finset.univ fun c : Fin 2 => stC fi ft f₀ d c := by
  rw [iPts_rows, xPts_shares, oPts_rows, ← bigSep_sep', ← bigSep_sep', bigSep_cores]
/-- What the two cores hand back is the operands, whole, the result at the gathered rows. -/
theorem dn_eq (d : Dev nD) :
    (iprop((iLoc d ↦{fullShare} fi d) ∗ (xLoc d ↦{fullShare} ft d) ∗ (oLoc d ↦{fullShare} outV fi ft d)) : sProp 𝕄)
      = bigSep Finset.univ fun c : Fin 2 => dnC fi ft d c := by
  rw [iPts_rows, xPts_shares, oPts_rows, ← bigSep_sep', ← bigSep_sep', bigSep_cores]

end Cert.Proof.SimGatherIdeal

end
-- ==== Proof.SimGatherIdealTile.lean ====
/-
  One task of the row gather, run.
-/
module

public import proofs.«01_k».proof.Proof.SimGatherIdeal
public import Idealize.ShloMosaic.Lib.SparseCore.Quiescent
public import Idealize.ShloMosaic.Lib.SparseCore.Ops
public import Idealize.ShloMosaic.Lib.SparseCore.Stream
public import Idealize.ShloMosaic.Lib.SparseCore.FromWhole
public import Idealize.ShloMosaic.Lib.StableHlo.Run
public import Idealize.ShloMosaic.Lib.Pipeline.Kit
public import Idealize.ShloMosaic.Lib.Pointwise
public import Idealize.ShloMosaic.Lib.Tactic
public import proofs.«01_k».proof.Proof.Gen.SimRowsIdeal
public import proofs.«01_k».proof.Proof.Gen.SimRowsIdeal.Skeleton

@[expose] public section

set_option maxRecDepth 16384

noncomputable section

namespace Cert.Proof.SimGatherIdeal

open Cert.SimRowsIdeal Cert.SimRowsIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
-- the list, the table, and what the result's buffer held before
variable (fi : (d : Dev nD) → Buf (Elt F) (iLoc d)) (ft : (d : Dev nD) → Buf (Elt F) (xLoc d)) (f₀ : (d : Dev nD) → Buf (Elt F) (oLoc d))

section Tile

variable (d : Dev nD) (L : grid0.Coords)

set_option maxHeartbeats 4000000 in
/-- The task on vector subcore `(L 0, L 1)` of device `d`. -/
theorem tile_body (hF : (K (F := F)).Facts) (hpre : InRange fi) (O : CellTallies nD τ sig (HIx 1)) (W : Waits sig (HIx 1)) (hO : ∀ g, O g none = 0) :
    iprop(levAts (K (F := F)).L (K (F := F)).lev ∗ emp
        ∗ goW fi ft f₀ d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_k L xV (Memref.isWhole_whole _) iV (Memref.isWhole_whole _) oV (Memref.isWhole_whole _)
            sV (Memref.isWhole_whole _) rV (Memref.isWhole_whole _) cc0_scratch2 cc0_scoped0 cc0_scoped1)
          fun _ => iprop(tdW fi ft d (wL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_k_eq_skeleton]; unfold cc0_k_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iRowK (F := F) d L _).symm) $$ Hi
  ihave Ho' := (Entails.of_eq (pts_oRowK (F := F) d L _).symm) $$ Ho
  ihave Hs' := (Entails.of_eq (pts_sV (F := F) d L _).symm) $$ Hs
  sl_exec
  ihave Hx' := (Entails.of_eq (pts_xV (F := F) d L _ _).symm) $$ Hx
  ihave Hr' := (Entails.of_eq (pts_rV (F := F) d L _).symm) $$ Hr
  have hN : ∀ h : S1605632x128.Gathers 0 S512x128, ∑ j, ((rV).slice (S512x128.rowRect h.axis' j) (S512x128.stride_rowRect h.axis' j)).view.dmaCredit
      = (rV).view.dmaCredit := fun h => SparseCore.sum_rowCredit_eq_dmaCredit rV h.axis' fun _ => rfl
  iapply (SparseCore.wp_gatherFromWhole countersEmb 𝒱₀ (V d (cV L) (jV L)) none (hg := gathers_S1605632x128_S512x128) (default : HIx 1)
      (rV).view.dmaCredit (hN _) (by decide) (inb_of_range fi d L hpre fs _ rfl)) $$ [Hx' Hr' Hs' HsemB]
  · isplitl [Hx']; · iexact Hx'
    isplitl [Hr']; · iexact Hr'
    isplitl [Hs']; · iexact Hs'
    iexact HsemB
  iintro Hfl
  sl_exec
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr', Hx', Hs'⟩, HsemB, HO⟩
  sl_exec
  sl_step
  isplitl [Hi' Hx' Ho']
  · isplitl [Hi']; · iapply (Entails.of_eq (pts_iRowK (F := F) d L _)); iexact Hi'
    isplitl [Hx']; · iexact Hx'
    iapply (Entails.of_eq ((pointsTo_congr (out_eq fi ft f₀ d L hpre fs fr _ rfl (inb_of_range fi d L hpre fs _ rfl) rfl _ rfl)).trans (pts_oRowK (F := F) d L _)))
    iexact Ho'
  isplitl [Hs' Hr' Hbufs]
  · isplitl [Hs']; · iexists _; iexact Hs'
    isplitl [Hr']; · iexists _; iexact Hr'
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s)
          xV (Memref.isWhole_whole _) iV (Memref.isWhole_whole _) oV (Memref.isWhole_whole _)
          sV (Memref.isWhole_whole _) rV (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

end Tile

end Cert.Proof.SimGatherIdeal

end
-- ==== Proof.SimGatherIdealRun.lean ====
/-
  The row gather's launch: its operands handed to the two SparseCores, and its run.
-/
module

public import proofs.«01_k».proof.Proof.SimGatherIdealTile
public import Idealize.ShloMosaic.Lib.SparseCore.Quiescent
public import Idealize.ShloMosaic.Lib.SparseCore.Ops
public import Idealize.ShloMosaic.Lib.SparseCore.Stream
public import Idealize.ShloMosaic.Lib.SparseCore.FromWhole
public import Idealize.ShloMosaic.Lib.StableHlo.Run
public import Idealize.ShloMosaic.Lib.Pipeline.Kit
public import Idealize.ShloMosaic.Lib.Pointwise
public import Idealize.ShloMosaic.Lib.Tactic
public import proofs.«01_k».proof.Proof.Gen.SimRowsIdeal
public import proofs.«01_k».proof.Proof.Gen.SimRowsIdeal.Skeleton

@[expose] public section

set_option maxRecDepth 16384

noncomputable section

namespace Cert.Proof.SimGatherIdeal

open Cert.SimRowsIdeal Cert.SimRowsIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The launch memory and what the handshakes carry -/

variable [FloatOps F]
variable (m : (ℓ : Loc nD τ sig) → Buf (Elt F) ℓ) (ρ : Dev nD → PrngReg)

abbrev fiM (d : Dev nD) : Buf (Elt F) (iLoc d) := m (iLoc d)
abbrev ftM (d : Dev nD) : Buf (Elt F) (xLoc d) := m (xLoc d)
abbrev f₀M (d : Dev nD) : Buf (Elt F) (oLoc d) := m (oLoc d)

/-- The one call hands each SparseCore its sixteen tasks' operands, each task its own. -/
def P : (K (F := F)).Pay (nD := nD) (Val := Elt F) (Name := ℕ) (U := UU) where
  st := fun q d c => match q with | 0 => stC (fiM m) (ftM m) (f₀M m) d (Fin.cast nCore_zero c)
  dn := fun q d c => match q with | 0 => dnC (fiM m) (ftM m) d (Fin.cast nCore_zero c)
  go := fun q d c i => match q with
    | 0 => goW (fiM m) (ftM m) (f₀M m) d (wk (Fin.cast nCore_zero c) (Fin.cast nSub_zero i))
  td := fun q d c i => match q with
    | 0 => tdW (fiM m) (ftM m) d (wk (Fin.cast nCore_zero c) (Fin.cast nSub_zero i))
  x := fun _ _ => iprop(emp)

instance P_storable : (P (F := F) m).IsStorable where
  st q d c := match q with
    | 0 => (inferInstance : BI.Storable (upEmb : UEmb _ 𝕄) (stC (fiM m) (ftM m) (f₀M m) d (Fin.cast nCore_zero c)))
  dn q d c := match q with
    | 0 => (inferInstance : BI.Storable (upEmb : UEmb _ 𝕄) (dnC (fiM m) (ftM m) d (Fin.cast nCore_zero c)))
  go q d c i := match q with
    | 0 => (inferInstance : BI.Storable (upEmb : UEmb _ 𝕄) (goW (fiM m) (ftM m) (f₀M m) d (wk (Fin.cast nCore_zero c) (Fin.cast nSub_zero i))))
  td q d c i := match q with
    | 0 => (inferInstance : BI.Storable (upEmb : UEmb _ 𝕄) (tdW (fiM m) (ftM m) d (wk (Fin.cast nCore_zero c) (Fin.cast nSub_zero i))))

theorem tileObl (hF : (K (F := F)).Facts) (hpre : InRange (fiM m)) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body (fiM m) (ftM m) (f₀M m) d (coordsV ⟨_, hci.1⟩ ⟨_, hci.2⟩) hF hpre O W hO).trans (wp_mono frame _ _ fun _ => obl_post)

theorem vecSplit : (K (F := F)).VecSplit' (P m) 0 := by
  intro d c
  show stC (fiM m) (ftM m) (f₀M m) d (Fin.cast nCore_zero c) ⊢ |={Set.univ}=> iprop(
      (bigSep Finset.univ fun s : Fin 16 => goW (fiM m) (ftM m) (f₀M m) d (wk (Fin.cast nCore_zero c) s))
      ∗ ((bigSep Finset.univ fun s : Fin 16 => tdW (fiM m) (ftM m) d (wk (Fin.cast nCore_zero c) s)) -∗ dnC (fiM m) (ftM m) d (Fin.cast nCore_zero c)))
  iintro H; imodintro
  isplitl [H]; · iexact H
  iintro H; iexact H

/-! ## The launch element of the ghost state -/

omit [FloatOps F] in
theorem bigSep_emp' {I : Type} (s : Finset I) : (bigSep s fun _ => iprop(emp)) = (iprop(emp) : sProp 𝕄) := bigSep_emp_const s

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main -/

omit [FloatOps F] in
theorem unscopedBufs_eq (d : Dev nD) (W : (b : Ref sig .tc) → Buf (Elt F) ((d.tc : Thread nD τ).loc b)) :
    (unscopedBufs d W : sProp 𝕄) = iprop((iLoc d ↦{fullShare} W main_arg1) ∗ (xLoc d ↦{fullShare} W main_arg0) ∗ oLoc d ↦{fullShare} W main_v0) := by
  unfold unscopedBufs
  rw [show (Finset.univ.filter fun b : Ref sig .tc => ¬ b.isScoped) = {main_arg1, main_arg0, main_v0} by decide,
    SparseCore.bigSep_insert' (by decide), SparseCore.bigSep_insert' (by decide), bigSep_singleton]

theorem st0_eq (d : Dev nD) : (bigSep Finset.univ fun c : Fin ((K (F := F)).nCore 0) => (P m).st 0 d c)
    = iprop((iLoc d ↦{fullShare} fiM m d) ∗ (xLoc d ↦{fullShare} ftM m d) ∗ (oLoc d ↦{fullShare} f₀M m d)) :=
  (st_eq (fiM m) (ftM m) (f₀M m) d).symm
theorem dn0_eq (d : Dev nD) : (bigSep Finset.univ fun c : Fin ((K (F := F)).nCore 0) => (P m).dn 0 d c)
    = iprop((iLoc d ↦{fullShare} fiM m d) ∗ (xLoc d ↦{fullShare} ftM m d) ∗ (oLoc d ↦{fullShare} outV (fiM m) (ftM m) d)) :=
  (dn_eq (fiM m) (ftM m) d).symm

abbrev FIN (d : Dev nD) : sProp 𝕄 :=
  iprop((iLoc d ↦{fullShare} fiM m d) ∗ (xLoc d ↦{fullShare} ftM m d) ∗ (oLoc d ↦{fullShare} outV (fiM m) (ftM m) d))

/-- @main on a device's TensorCore: the one call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hi, Hx, Ho⟩, Hts, -⟩, -⟩
  iapply ((K (F := F)).wp_run (D (F := F)) 𝒱 (EH := EH) (P := P m) κ d 0) $$ [Hst Hi Hx Ho Hb Hts]
  isplitr; · iexact Hctx
  isplitl [Hst]; · iexact Hst
  isplitl [Hi Hx Ho]
  · rw [st0_eq]
    isplitl [Hi]; · iexact Hi
    isplitl [Hx]; · iexact Hx
    iexact Ho
  iintro ⟨Hst, Hdn⟩
  ihave Hdn' := (Entails.of_eq (dn0_eq m d)) $$ Hdn
  icases Hdn' with ⟨Hi, Hx, Ho⟩
  imodintro
  isplitl [Hst]; · iexact Hst
  isplitr [Hb Hts]
  · isplitl [Hi]; · iexact Hi
    isplitl [Hx]; · iexact Hx
    iexact Ho
  isplitl [Hb] <;> iassumption

def fq (d : Dev nD) (s' : Phys nD τ sig (Elt F)) : Prop :=
  s'.mem.mem (iLoc d) = m (iLoc d) ∧ s'.mem.mem (xLoc d) = m (xLoc d) ∧ s'.mem.mem (oLoc d) = outV (fiM m) (ftM m) d

theorem hfin (d : Dev nD) (s' : Phys nD τ sig (Elt F)) : iprop(FIN m d ∗ SI s') ⊢ (⌜fq m d s'⌝ : sProp 𝕄) := by
  iintro ⟨⟨Hi, Hx, Ho⟩, HSI⟩
  ihave H := (persistent_entails_right (SI_pointsTo_agree (st := s') (ℓ := iLoc d) (I := Finset.univ) (q := fullShare) (f := m (iLoc d)))) $$ [HSI Hi]
  · isplitl [HSI] <;> iassumption
  icases H with ⟨%h1, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h2, HSI, -⟩
  ihave H := (SI_pointsTo_agree (st := s') (ℓ := oLoc d) (I := Finset.univ) (q := fullShare) (f := outV (fiM m) (ftM m) d)) $$ [HSI Ho]
  · isplitl [HSI] <;> iassumption
  icases H with %h3
  ipureintro
  exact ⟨funext fun i => h1 i (Finset.mem_univ i), funext fun i => h2 i (Finset.mem_univ i), funext fun i => h3 i (Finset.mem_univ i)⟩

def QC : PUnit × MemSt nD τ sig (Elt F) → Prop := fun r =>
  (∀ d : Dev nD, r.2.mem (iLoc d) = m (iLoc d) ∧ r.2.mem (xLoc d) = m (xLoc d) ∧ r.2.mem (oLoc d) = outV (fiM m) (ftM m) d) ∧ r.2.sem = fun _ => 0

/-- Every run ends, the list and the table unchanged, the result at the gathered rows, every semaphore at zero. -/
theorem run_main [∀ e, Nonempty (Elt F e)] (hpre : InRange (fiM m)) :
    θ_run (Cert.SimRowsIdeal.defs (F := F)) (Cert.SimRowsIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.SimGatherIdeal

end
-- ==== Proof.SimRowsClaims.lean ====
/-
  The claims about the row gather: its frames from its run, the precondition read as a bound on the row numbers, and the
  reference's rows the gathered ones.
-/
module

public import proofs.«01_k».proof.Proof.SimGatherIdealRun
public import proofs.«01_k».proof.Proof.SimGatherBitsRun
public import proofs.«01_k».proof.Proof.Gen.SimRowsRefIdeal
public import proofs.«01_k».proof.Proof.Gen.SimRowsRefIdeal.Run
public import proofs.«01_k».proof.Proof.Gen.Pre_idx_in_sims
public import Idealize.ShloMosaic.Adequacy
public import Idealize.ShloMosaic.Init

@[expose] public section

set_option maxRecDepth 16384

noncomputable section

namespace Cert.Proof.SimRowsClaims

open Idealize.ShloMosaic Idealize.SL.Sem

/-- The precondition at one row number: non-negative and below 1605632. -/
theorem lt_of_pre (v : BitVec 32) (e : IntOp.andi (IntOp.cmpi .sge v 0#32) (IntOp.cmpi .slt v 1605632#32) = 1#1) :
    v.toNat < 1605632 ∧ 0 ≤ v.toInt := by
  have h1 : ∀ p q : Bool, IntOp.andi (BitVec.ofBool p) (BitVec.ofBool q) = BitVec.ofBool (p && q) := by decide
  have h2 : ∀ p : Bool, (BitVec.ofBool p = 1#1) ↔ p = true := by decide
  simp only [IntOp.cmpi, h1, h2, Bool.and_eq_true, BitVec.sle_eq_decide, BitVec.slt_eq_decide, decide_eq_true_eq,
    BitVec.toInt_eq_toNat_cond, BitVec.toNat_ofNat, Nat.reducePow, Nat.reduceMod] at e ⊢
  omega

theorem fn_at {F : FTy → Type} [FloatOps F] (t : FVec F Cert.Pre_idx_in_sims.S1605632x128 .f32) (i : IVec Cert.Pre_idx_in_sims.S16384 32)
    (h : Cert.Pre_idx_in_sims.fn (F := F) t i = fun _ => 1#1) (j : Cert.Pre_idx_in_sims.S16384.Idx) :
    (i j).toNat < 1605632 ∧ 0 ≤ (i j).toInt := by
  have e := congrFun h j
  simp only [Cert.Pre_idx_in_sims.fn, andi, cmpi, broadcastInDim, constantI] at e
  exact lt_of_pre _ e

theorem frameBits : Cert.quiescent_SimRows := fun m ρ hpre =>
  (θ_run Cert.SimRows.defs _ _).mono (fun _ h => ⟨fun c => ⟨(h.1 c).2.1, (h.1 c).1⟩, h.2⟩)
    (SimGatherBits.run_main (F := Bits) m ρ fun d j => (fn_at _ _ (hpre d) j).1)

theorem frameIdeal : Cert.quiescent_SimRowsIdeal := fun m ρ hpre =>
  (θ_run Cert.SimRowsIdeal.defs _ _).mono (fun _ h => ⟨fun c => ⟨(h.1 c).2.1, (h.1 c).1⟩, h.2⟩)
    (SimGatherIdeal.run_main (F := Ideal) m ρ fun d j => (fn_at _ _ (hpre d) j).1)

/-! ## The reference's rows -/

open Cert.SimRowsRefIdeal Cert.SimRowsRefIdeal.Gen in
/-- The host gather's row at a result position: the row its start index names, read signed and clamped into the table. -/
theorem hostGather_at {α : Type} (x : S1605632x128.Idx → α) (i : IVec S16384x1 32) (j : S16384x128.Idx) :
    Host.gather gather_S1605632x128_S16384x1_S16384x128_1_0_n_n_0_1_1128 x i j
      = x (ix2 ⟨min (i (ix2 (j 0) (0 : Fin 1))).toInt.toNat 1605631, by omega⟩ (j 1)) := by
  unfold Host.gather
  congr 1
  funext a
  apply Fin.ext
  have h0 : ∀ a : Fin 2, a = 0 ∨ a = 1 := by decide
  rcases h0 a with rfl | rfl
  · show GatherDims.start _ j i 0 + GatherDims.batchCoord _ j 0 + GatherDims.offCoord _ j 0 = min _ _
    rw [GatherDims.batchCoord_eq_zero _ _ _ (by decide), GatherDims.offCoord_eq_zero _ _ _ (by decide), GatherDims.start,
      dif_pos (by decide)]
    show min (i _).toInt.toNat 1605631 = _
    congr 4
    funext b
    rcases h0 b with rfl | rfl
    · unfold GatherDims.siIdx; rw [dif_neg (by decide)]; rfl
    · unfold GatherDims.siIdx; rw [dif_pos (by decide)]; rfl
  · show GatherDims.start _ j i 1 + GatherDims.batchCoord _ j 1 + GatherDims.offCoord _ j 1 = (j 1).val
    rw [GatherDims.batchCoord_eq_zero _ _ _ (by decide), GatherDims.start, dif_neg (by decide), GatherDims.offCoord, dif_pos (by decide),
      Nat.zero_add]
    rfl

/-- Under the precondition the reference's result is the gathered rows. -/
theorem ref_eq (t : FVec Ideal Cert.SimRowsRefIdeal.S1605632x128 .f32) (i : IVec Cert.SimRowsRefIdeal.S16384 32)
    (h : ∀ j, (i j).toNat < 1605632 ∧ 0 ≤ (i j).toInt) :
    Host.gather Cert.SimRowsRefIdeal.gather_S1605632x128_S16384x1_S16384x128_1_0_n_n_0_1_1128 t
      (broadcastInDim Cert.SimRowsRefIdeal.S16384x1 ![0] Cert.SimRowsRefIdeal.Gen.bcast_S16384_S16384x1_0
        (select (cmpi .slt i (broadcastInDim Cert.SimRowsRefIdeal.S16384 ![] Cert.SimRowsRefIdeal.Gen.bcast_S_S16384 (constantI Cert.SimRowsRefIdeal.S_ 32 0#32)))
          (addi i (broadcastInDim Cert.SimRowsRefIdeal.S16384 ![] Cert.SimRowsRefIdeal.Gen.bcast_S_S16384 (constantI Cert.SimRowsRefIdeal.S_ 32 1605632#32))) i))
      = SimGatherIdeal.gath (F := Ideal) i t := by
  funext j
  rw [hostGather_at]
  unfold SimGatherIdeal.gath
  have hb : broadcastInDim Cert.SimRowsRefIdeal.S16384x1 ![0] Cert.SimRowsRefIdeal.Gen.bcast_S16384_S16384x1_0
        (select (cmpi .slt i (broadcastInDim Cert.SimRowsRefIdeal.S16384 ![] Cert.SimRowsRefIdeal.Gen.bcast_S_S16384 (constantI Cert.SimRowsRefIdeal.S_ 32 0#32)))
          (addi i (broadcastInDim Cert.SimRowsRefIdeal.S16384 ![] Cert.SimRowsRefIdeal.Gen.bcast_S_S16384 (constantI Cert.SimRowsRefIdeal.S_ 32 1605632#32))) i)
        (ix2 (j 0) (0 : Fin 1)) = i (ix1 (j 0)) := by
    have hc : ∀ v : BitVec 32, 0 ≤ v.toInt → IntOp.cmpi .slt v 0#32 = 0#1 := by
      intro v hv
      have h2 : ∀ p : Bool, (BitVec.ofBool p = 0#1) ↔ p = false := by decide
      simp only [IntOp.cmpi, h2, BitVec.slt_eq_decide, decide_eq_false_iff_not, not_lt]
      simpa using hv
    have hs : select (cmpi .slt i (broadcastInDim Cert.SimRowsRefIdeal.S16384 ![] Cert.SimRowsRefIdeal.Gen.bcast_S_S16384 (constantI Cert.SimRowsRefIdeal.S_ 32 0#32)))
          (addi i (broadcastInDim Cert.SimRowsRefIdeal.S16384 ![] Cert.SimRowsRefIdeal.Gen.bcast_S_S16384 (constantI Cert.SimRowsRefIdeal.S_ 32 1605632#32))) i = i := by
      funext k
      show (if IntOp.cmpi .slt (i k) 0#32 = 1#1 then _ else i k) = i k
      rw [hc _ (h k).2, if_neg (by decide)]
    rw [hs]
    show i _ = i _
    congr 1
    funext a
    have ha : a = 0 := Subsingleton.elim _ _
    subst ha; rfl
  have hj := h (ix1 (j 0))
  congr 2
  apply Fin.ext
  refine (congrArg (fun v : BitVec 32 => min v.toInt.toNat 1605631) hb).trans ?_
  show min (i (ix1 (j 0))).toInt.toNat 1605631 = (i (ix1 (j 0))).toNat % 1605632
  rw [BitVec.toInt_eq_toNat_cond] at *
  split <;> omega

/-! ## The claims -/

theorem frameRef : Cert.quiescent_SimRowsRefIdeal := fun m ρ _ =>
  (θ_run Cert.SimRowsRefIdeal.defs _ _).mono (fun r h => ⟨fun c => (h c).2, sem_eq_zero_of_no_sems (by decide) r.2⟩)
    (Cert.SimRowsRefIdeal.Value.run (F := Ideal) m ρ)

theorem algebraic : Cert.algebraic_SimRowsIdeal_SimRowsRefIdeal := by
  intro m g m' g' hpre hargs
  have hin := fun d j => fn_at _ _ (hpre d) j
  refine ⟨fun c => SimGatherIdeal.outV (SimGatherIdeal.fiM m) (SimGatherIdeal.ftM m) c, ?_, ?_⟩
  · exact (θ_run Cert.SimRowsIdeal.defs _ _).mono (fun _ h c => ⟨(h.1 c).2.2, (h.1 c).2.1, (h.1 c).1⟩)
      (SimGatherIdeal.run_main (F := Ideal) m g fun d j => (hin d j).1)
  · refine (θ_run Cert.SimRowsRefIdeal.defs _ _).mono (fun _ h c => ⟨(h c).1.trans ?_, (h c).2⟩) (Cert.SimRowsRefIdeal.Value.run (F := Ideal) m' g')
    rw [(hargs c).1, (hargs c).2]
    exact ref_eq _ _ (hin c)

end Cert.Proof.SimRowsClaims

end
-- ==== Proof.WholeBase.lean ====
/-
  The whole kernel as its launch sees it: the body table, the resource algebra with one component for the handshakes of the
  two SparseCore calls, one for the staging buffers of the five TensorCore calls and one for the transfers in flight.
-/
module

public import proofs.«01_k».proof.Defs
public import Idealize.ShloMosaic.Lib.SparseCore.Quiescent
public import Idealize.ShloMosaic.Lib.SparseCore.Ops
public import Idealize.ShloMosaic.Lib.Pipeline.Kit
public import Idealize.ShloMosaic.Lib.Pipeline.Regions
public import Idealize.ShloMosaic.Lib.Pipeline.RegionArrays
public import Idealize.ShloMosaic.Lib.Tactic
public import proofs.«01_k».proof.Proof.Gen.KernelIdeal

@[expose] public section

set_option maxRecDepth 16384

noncomputable section

namespace Cert.Proof.Whole

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 5) fun p => (pcfgs (F := F) p).Adm
abbrev K : SparseCore.Cfg τ sig (ΛP (F := F)) 2 := sc (F := F)
theorem nSub_zero : (K (F := F)).nSub 0 = 16 := rfl
theorem nCore_zero : (K (F := F)).nCore 0 = 2 := rfl
theorem nSub_one : (K (F := F)).nSub 1 = 16 := rfl
theorem nCore_one : (K (F := F)).nCore 1 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' component, and the staging buffers'. -/
abbrev UH : Type := URounds (GSem nD τ sig) ℕ
abbrev UP : Type := Idealize.ShloMosaic.UR sig nD τ
abbrev UU : Type := UH × (UP × Counters)

local notation "𝕄" => MT nD τ sig (HIx 2) (Elt F) ℕ UU ℕ

abbrev EH : Emb UH (MT nD τ sig (HIx 2) (Elt F) ℕ UU ℕ) := embL
/-- The staging buffers' component, the left of the right. -/
def EP : Emb UP (MT nD τ sig (HIx 2) (Elt F) ℕ UU ℕ) :=
  (Emb.inl : Emb UP (UP × Counters)).trans embR
instance EP_landsIn : (EP : Emb UP 𝕄).LandsIn (upEmb : UEmb _ 𝕄) := by unfold EP; infer_instance

theorem ownU_three (a : UH) (b : UP) (c : Counters) :
    (ownU ((a, (b, c)) : UU) : sProp 𝕄) ⊢ iprop(BI.own (EH a) ∗ BI.own (EP b)) := by
  iintro Hu
  ihave H := (ownU_pair a (b, c)) $$ Hu
  icases H with ⟨HH, HR⟩
  isplitl [HH]; · iexact HH
  ihave HR' := (own_pair_emb (embR : Emb (UP × Counters) 𝕄) b c) $$ HR
  icases HR' with ⟨HP, -⟩
  iexact HP

end Cert.Proof.Whole

end
-- ==== Proof.Call0.lean ====
/-
  TensorCore call 0 of the whole kernel, which normalizes the queries: what its body leaves in the output buffers as a function of
  the input blocks, and the body's triple at every point of the grid.
-/
module

public import proofs.«01_k».proof.Proof.WholeBase
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Proof.Call0

open Cert.KernelIdeal Cert.KernelIdeal.Gen
open Cert.Proof.Whole (UU)

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

-- the arrays' contents when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) (HIx 2) ℕ UU ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) (HIx 2) ℕ UU ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r0_0 : Rect S2048x128 := Rect.unit (s := S2048x128) ![0, 0] S2048x128.size inb_S2048x128_S2048x128_0_0
abbrev r0_1 : Rect S128x128 := Rect.unit (s := S128x128) ![0, 0] S128x128.size inb_S128x128_S128x128_0_0

/-! ## What the body leaves in each output window's buffer -/

def out0_2 (x0 : Vec F S2048x128 .f32) (x1 : Vec F S128x128 .f32) : Vec F S2048x128 .bf16 :=
  View.canon [⟨r0_0, k0_pay1 (View.ld x0 r0_0) (View.ld x1 r0_1)⟩]

theorem cover0_2 (p0 : Vec F S2048x128 .bf16) (y : S2048x128.Idx) :
    ∃ pc ∈ ([⟨r0_0, p0⟩] : List (View.Piece (Elt F) S2048x128 .bf16)), y ∈ pc.1.set :=
  View.cover_of_tiled [⟨r0_0, p0⟩] S2048x128.size (by rfl) y

/-! ## The body's triple -/

set_option maxHeartbeats 1000000 in
theorem sound_kernel (c : Dev nD) (E : Set ℕ) (arg0 : Memref sig .tc .vmem S2048x128 .f32) (harg0 : arg0.IsWhole) (arg1 : Memref sig .tc .vmem S128x128 .f32) (harg1 : arg1.IsWhole) (arg2 : Memref sig .tc .vmem S2048x128 .bf16) (harg2 : arg2.IsWhole)
    (x0 : Vec F S2048x128 .f32) (x1 : Vec F S128x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__k0_body arg0 harg0 arg1 harg1 arg2 harg2) K := by
  simp only [cc0__k0_body_eq_skeleton]; unfold cc0__k0_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The call's proof data -/

variable (O : CellTallies nD τ sig (HIx 2)) (R : Set (SemLoc sig × HIx 2))

/-- The arrays as the region finds them; after a point each input's buffer at its block, each output's at what the body
    stores; the core's debts `O` and the pairs recorded before, `R`, unchanged. -/
def dat (c : Dev nD) : Dat τ (Elt F) (HIx 2) ℕ UU ℕ cfg0 c where
  A w := V c (Pipeline.arrRef spec0 w)
  after w t := match w with
    | ⟨0, _⟩ => iblk V c 0 t
    | ⟨1, _⟩ => iblk V c 1 t
    | ⟨2, _⟩ => out0_2 (iblk V c 0 t) (iblk V c 1 t)
  Φ _ := Pipeline.scopedRest spec0 c
  q _ := fullShare
  owed _ := O
  recorded _ := R

theorem A_eq (c : Dev nD) (w : Fin cfg0.W) : (dat V O R c).A w = V c (Pipeline.arrRef spec0 w) := by
  dsimp only [dat]

theorem after0_0 (c : Dev nD) (t : Fin cfg0.N) : (dat V O R c).after 0 t = iblk V c 0 t := by dsimp only [dat]
theorem after0_1 (c : Dev nD) (t : Fin cfg0.N) : (dat V O R c).after 1 t = iblk V c 1 t := by dsimp only [dat]
theorem after0_2 (c : Dev nD) (t : Fin cfg0.N) : (dat V O R c).after 2 t = out0_2 (iblk V c 0 t) (iblk V c 1 t) := by dsimp only [dat]

theorem before0_0 (c : Dev nD) (t : Fin cfg0.N) (d) : (dat V O R c).before 0 t d = iblk V c 0 t :=
  before0_0_of V (dat V O R c) (A_eq V O R c 0) (after0_0 V O R c) t d
theorem before0_1 (c : Dev nD) (t : Fin cfg0.N) (d) : (dat V O R c).before 1 t d = iblk V c 1 t :=
  before0_1_of V (dat V O R c) (A_eq V O R c 1) (after0_1 V O R c) t d

/-! ## The body obligation, at a generic point -/

/-- What the body is called with, the windows one by one. -/
def bodyPre (c : Dev nD) (t : Fin cfg0.N) : sProp 𝕄 :=
  iprop((dat V O R c).Φ t.castSucc ∗ (dat V O R c).owesAt none t.castSucc
    ∗ (∃ d, owns (c : Thread nD τ) (st0_0 t) fullShare ((dat V O R c).before 0 t d))
    ∗ (∃ d, owns (c : Thread nD τ) (st0_1 t) fullShare ((dat V O R c).before 1 t d))
    ∗ (∃ d, owns (c : Thread nD τ) (st0_2 t) fullShare ((dat V O R c).before 2 t d)))

/-- What it returns. -/
def bodyPost (c : Dev nD) (t : Fin cfg0.N) : sProp 𝕄 :=
  iprop((dat V O R c).Φ t.succ ∗ (dat V O R c).owesAt none t.succ
    ∗ owns (c : Thread nD τ) (st0_0 t) fullShare ((dat V O R c).after 0 t)
    ∗ owns (c : Thread nD τ) (st0_1 t) fullShare ((dat V O R c).after 1 t)
    ∗ owns (c : Thread nD τ) (st0_2 t) fullShare ((dat V O R c).after 2 t))

theorem sound_body (c : Dev nD) (t : Fin cfg0.N) :
    bodyPre V O R c t ⊢ wp frame (wpE (defs₀ (F := F)) Variants.none c none) Set.univ (bodyAt0 t) (fun _ => bodyPost V O R c t) := by
  unfold bodyPre bodyPost bodyAt0
  simp only [before0_0, before0_1]
  rw [show (dat V O R c).Φ t.succ = (dat V O R c).Φ t.castSucc from rfl,
    show (dat V O R c).owesAt none t.succ = (dat V O R c).owesAt none t.castSucc from rfl,
    after0_0, after0_1, after0_2]
  iintro ⟨HΦ, Ho, ⟨%d0, H0⟩, ⟨%d1, H1⟩, ⟨%d2, H2⟩⟩
  iapply (sound_kernel c Set.univ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row (t : Fin cfg0.N) :
    defs₀ (F := F) .tc cfg0.body (cfg0.bodyArgs t (cfg0.slots t)) = bodyAt0 t := rfl

theorem body_obligation (c : Dev nD) : BodyObligation (dat V O R c) (defs₀ (F := F)) Variants.none none Set.univ := fun t => by
  rw [bigSep_W0, bigSep_W0, defs₀_row]
  exact triple_restated (sound_body V O R c t) rfl .rfl fun _ => .rfl

end Cert.Proof.Call0

end
-- ==== Proof.Call1.lean ====
/-
  TensorCore call 1 of the whole kernel, which multiplies the normalized queries with the keys, 2048 keys at a point, and takes each group's maximum: what its body leaves in the output buffers as a function of
  the input blocks, and the body's triple at every point of the grid.
-/
module

public import proofs.«01_k».proof.Proof.WholeBase
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Proof.Call1

open Cert.KernelIdeal Cert.KernelIdeal.Gen
open Cert.Proof.Whole (UU)

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

-- the arrays' contents when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) (HIx 2) ℕ UU ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_1_of {c : Dev nD} (dat : Dat τ (Elt F) (HIx 2) ℕ UU ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r1_0 : Rect S2048x128 := Rect.unit (s := S2048x128) ![0, 0] S2048x128.size inb_S2048x128_S2048x128_0_0
abbrev r1_1 : Rect S256x128x128 := Rect.unit (s := S256x128x128) ![0, 0, 0] S256x8x128.size inb_S256x128x128_S256x8x128_0_0_0
abbrev r1_2 : Rect S256x128x128 := Rect.unit (s := S256x128x128) ![0, 8, 0] S256x8x128.size inb_S256x128x128_S256x8x128_0_8_0
abbrev r1_3 : Rect S256x128x128 := Rect.unit (s := S256x128x128) ![0, 16, 0] S256x8x128.size inb_S256x128x128_S256x8x128_0_16_0
abbrev r1_4 : Rect S256x128x128 := Rect.unit (s := S256x128x128) ![0, 24, 0] S256x8x128.size inb_S256x128x128_S256x8x128_0_24_0
abbrev r1_5 : Rect S256x128x128 := Rect.unit (s := S256x128x128) ![0, 32, 0] S256x8x128.size inb_S256x128x128_S256x8x128_0_32_0
abbrev r1_6 : Rect S256x128x128 := Rect.unit (s := S256x128x128) ![0, 40, 0] S256x8x128.size inb_S256x128x128_S256x8x128_0_40_0
abbrev r1_7 : Rect S256x128x128 := Rect.unit (s := S256x128x128) ![0, 48, 0] S256x8x128.size inb_S256x128x128_S256x8x128_0_48_0
abbrev r1_8 : Rect S256x128x128 := Rect.unit (s := S256x128x128) ![0, 56, 0] S256x8x128.size inb_S256x128x128_S256x8x128_0_56_0
abbrev r1_9 : Rect S256x128x128 := Rect.unit (s := S256x128x128) ![0, 64, 0] S256x8x128.size inb_S256x128x128_S256x8x128_0_64_0
abbrev r1_10 : Rect S256x128x128 := Rect.unit (s := S256x128x128) ![0, 72, 0] S256x8x128.size inb_S256x128x128_S256x8x128_0_72_0
abbrev r1_11 : Rect S256x128x128 := Rect.unit (s := S256x128x128) ![0, 80, 0] S256x8x128.size inb_S256x128x128_S256x8x128_0_80_0
abbrev r1_12 : Rect S256x128x128 := Rect.unit (s := S256x128x128) ![0, 88, 0] S256x8x128.size inb_S256x128x128_S256x8x128_0_88_0
abbrev r1_13 : Rect S256x128x128 := Rect.unit (s := S256x128x128) ![0, 96, 0] S256x8x128.size inb_S256x128x128_S256x8x128_0_96_0
abbrev r1_14 : Rect S256x128x128 := Rect.unit (s := S256x128x128) ![0, 104, 0] S256x8x128.size inb_S256x128x128_S256x8x128_0_104_0
abbrev r1_15 : Rect S256x128x128 := Rect.unit (s := S256x128x128) ![0, 112, 0] S256x8x128.size inb_S256x128x128_S256x8x128_0_112_0
abbrev r1_16 : Rect S256x128x128 := Rect.unit (s := S256x128x128) ![0, 120, 0] S256x8x128.size inb_S256x128x128_S256x8x128_0_120_0
abbrev r1_17 : Rect S1x2048x16 := Rect.unit (s := S1x2048x16) ![0, 0, 0] S1x2048x16.size inb_S1x2048x16_S1x2048x16_0_0_0

/-! ## What the body leaves in each output window's buffer -/

def k1_v21 (i : grid1.Coords) (x0 : Vec F S2048x128 .bf16) (x1 : Vec F S2048x128 .f32) : FVec F S2048x2048 .f32 :=
  k1_pay4 i (View.ld x1 r1_0) (View.ld x0 r1_0)

def k1_v26 (i : grid1.Coords) (x0 : Vec F S2048x128 .bf16) (x1 : Vec F S2048x128 .f32) : FVec F S2048x1 .f32 :=
  k1_pay7 i (View.ld x1 r1_0) (View.ld x0 r1_0)

def k1_v31 (i : grid1.Coords) (x0 : Vec F S2048x128 .bf16) (x1 : Vec F S2048x128 .f32) : FVec F S2048x1 .f32 :=
  k1_pay10 i (View.ld x1 r1_0) (View.ld x0 r1_0)

def k1_v32 (i : grid1.Coords) (x0 : Vec F S2048x128 .bf16) (x1 : Vec F S2048x128 .f32) : FVec F S2048x128 .f32 :=
  k1_pay11 i (View.ld x1 r1_0) (View.ld x0 r1_0)

def k1_v36 (i : grid1.Coords) (x0 : Vec F S2048x128 .bf16) (x1 : Vec F S2048x128 .f32) : FVec F S2048x1 .f32 :=
  k1_pay13 (k1_v32 i x0 x1)

def k1_v41 (i : grid1.Coords) (x0 : Vec F S2048x128 .bf16) (x1 : Vec F S2048x128 .f32) : FVec F S2048x1 .f32 :=
  k1_pay16 (k1_v21 i x0 x1)

def k1_v46 (i : grid1.Coords) (x0 : Vec F S2048x128 .bf16) (x1 : Vec F S2048x128 .f32) : FVec F S2048x1 .f32 :=
  k1_pay19 (k1_v21 i x0 x1)

def k1_v51 (i : grid1.Coords) (x0 : Vec F S2048x128 .bf16) (x1 : Vec F S2048x128 .f32) : FVec F S2048x1 .f32 :=
  k1_pay22 (k1_v21 i x0 x1)

def k1_v56 (i : grid1.Coords) (x0 : Vec F S2048x128 .bf16) (x1 : Vec F S2048x128 .f32) : FVec F S2048x1 .f32 :=
  k1_pay25 (k1_v21 i x0 x1)

def k1_v61 (i : grid1.Coords) (x0 : Vec F S2048x128 .bf16) (x1 : Vec F S2048x128 .f32) : FVec F S2048x1 .f32 :=
  k1_pay28 (k1_v21 i x0 x1)

def k1_v62 (i : grid1.Coords) (x0 : Vec F S2048x128 .bf16) (x1 : Vec F S2048x128 .f32) : FVec F S2048x128 .f32 :=
  k1_pay29 (k1_v21 i x0 x1)

def k1_v66 (i : grid1.Coords) (x0 : Vec F S2048x128 .bf16) (x1 : Vec F S2048x128 .f32) : FVec F S2048x1 .f32 :=
  k1_pay31 (k1_v62 i x0 x1)

def k1_v71 (i : grid1.Coords) (x0 : Vec F S2048x128 .bf16) (x1 : Vec F S2048x128 .f32) : FVec F S2048x1 .f32 :=
  k1_pay34 (k1_v21 i x0 x1)

def k1_v76 (i : grid1.Coords) (x0 : Vec F S2048x128 .bf16) (x1 : Vec F S2048x128 .f32) : FVec F S2048x1 .f32 :=
  k1_pay37 (k1_v21 i x0 x1)

def k1_v81 (i : grid1.Coords) (x0 : Vec F S2048x128 .bf16) (x1 : Vec F S2048x128 .f32) : FVec F S2048x1 .f32 :=
  k1_pay40 (k1_v21 i x0 x1)

def k1_v86 (i : grid1.Coords) (x0 : Vec F S2048x128 .bf16) (x1 : Vec F S2048x128 .f32) : FVec F S2048x1 .f32 :=
  k1_pay43 (k1_v21 i x0 x1)

def k1_v91 (i : grid1.Coords) (x0 : Vec F S2048x128 .bf16) (x1 : Vec F S2048x128 .f32) : FVec F S2048x1 .f32 :=
  k1_pay46 (k1_v21 i x0 x1)

def k1_v92 (i : grid1.Coords) (x0 : Vec F S2048x128 .bf16) (x1 : Vec F S2048x128 .f32) : FVec F S2048x128 .f32 :=
  k1_pay47 (k1_v21 i x0 x1)

def out1_2 (i : grid1.Coords) (x0 : Vec F S2048x128 .bf16) (x1 : Vec F S2048x128 .f32) : Vec F S256x128x128 .f32 :=
  View.canon [⟨r1_16, (k1_pay2 (k1_v21 i x0 x1))⟩,
    ⟨r1_15, (k1_pay48 (k1_v21 i x0 x1))⟩,
    ⟨r1_14, (k1_pay45 (k1_v21 i x0 x1))⟩,
    ⟨r1_13, (k1_pay42 (k1_v21 i x0 x1))⟩,
    ⟨r1_12, (k1_pay39 (k1_v21 i x0 x1))⟩,
    ⟨r1_11, (k1_pay36 (k1_v21 i x0 x1))⟩,
    ⟨r1_10, (k1_pay33 (k1_v21 i x0 x1))⟩,
    ⟨r1_9, (k1_pay30 (k1_v21 i x0 x1))⟩,
    ⟨r1_8, (k1_pay27 (k1_v21 i x0 x1))⟩,
    ⟨r1_7, (k1_pay24 (k1_v21 i x0 x1))⟩,
    ⟨r1_6, (k1_pay21 (k1_v21 i x0 x1))⟩,
    ⟨r1_5, (k1_pay18 (k1_v21 i x0 x1))⟩,
    ⟨r1_4, (k1_pay15 (k1_v21 i x0 x1))⟩,
    ⟨r1_3, (k1_pay12 i (View.ld x1 r1_0) (View.ld x0 r1_0))⟩,
    ⟨r1_2, (k1_pay9 i (View.ld x1 r1_0) (View.ld x0 r1_0))⟩,
    ⟨r1_1, (k1_pay6 i (View.ld x1 r1_0) (View.ld x0 r1_0))⟩]

theorem cover1_2 (p0 : Vec F S256x8x128 .f32) (p1 : Vec F S256x8x128 .f32) (p2 : Vec F S256x8x128 .f32) (p3 : Vec F S256x8x128 .f32) (p4 : Vec F S256x8x128 .f32) (p5 : Vec F S256x8x128 .f32) (p6 : Vec F S256x8x128 .f32) (p7 : Vec F S256x8x128 .f32) (p8 : Vec F S256x8x128 .f32) (p9 : Vec F S256x8x128 .f32) (p10 : Vec F S256x8x128 .f32) (p11 : Vec F S256x8x128 .f32) (p12 : Vec F S256x8x128 .f32) (p13 : Vec F S256x8x128 .f32) (p14 : Vec F S256x8x128 .f32) (p15 : Vec F S256x8x128 .f32) (y : S256x128x128.Idx) :
    ∃ pc ∈ ([⟨r1_16, p0⟩, ⟨r1_15, p1⟩, ⟨r1_14, p2⟩, ⟨r1_13, p3⟩, ⟨r1_12, p4⟩, ⟨r1_11, p5⟩, ⟨r1_10, p6⟩, ⟨r1_9, p7⟩, ⟨r1_8, p8⟩, ⟨r1_7, p9⟩, ⟨r1_6, p10⟩, ⟨r1_5, p11⟩, ⟨r1_4, p12⟩, ⟨r1_3, p13⟩, ⟨r1_2, p14⟩, ⟨r1_1, p15⟩] : List (View.Piece (Elt F) S256x128x128 .f32)), y ∈ pc.1.set :=
  View.cover_of_tiled [⟨r1_16, p0⟩, ⟨r1_15, p1⟩, ⟨r1_14, p2⟩, ⟨r1_13, p3⟩, ⟨r1_12, p4⟩, ⟨r1_11, p5⟩, ⟨r1_10, p6⟩, ⟨r1_9, p7⟩, ⟨r1_8, p8⟩, ⟨r1_7, p9⟩, ⟨r1_6, p10⟩, ⟨r1_5, p11⟩, ⟨r1_4, p12⟩, ⟨r1_3, p13⟩, ⟨r1_2, p14⟩, ⟨r1_1, p15⟩] S256x8x128.size (by rfl) y

def out1_3 (i : grid1.Coords) (x0 : Vec F S2048x128 .bf16) (x1 : Vec F S2048x128 .f32) : Vec F S1x2048x16 .f32 :=
  View.canon [⟨r1_17, (k1_pay3 (k1_v21 i x0 x1) (k1_v26 i x0 x1) (k1_v31 i x0 x1) (k1_v36 i x0 x1) (k1_v41 i x0 x1) (k1_v46 i x0 x1) (k1_v51 i x0 x1) (k1_v56 i x0 x1) (k1_v61 i x0 x1) (k1_v66 i x0 x1) (k1_v71 i x0 x1) (k1_v76 i x0 x1) (k1_v81 i x0 x1) (k1_v86 i x0 x1) (k1_v91 i x0 x1) (k1_v92 i x0 x1))⟩]

theorem cover1_3 (p0 : Vec F S1x2048x16 .f32) (y : S1x2048x16.Idx) :
    ∃ pc ∈ ([⟨r1_17, p0⟩] : List (View.Piece (Elt F) S1x2048x16 .f32)), y ∈ pc.1.set :=
  View.cover_of_tiled [⟨r1_17, p0⟩] S1x2048x16.size (by rfl) y

/-! ## The body's triple -/

set_option maxHeartbeats 1000000 in
theorem sound_kernel (c : Dev nD) (E : Set ℕ) (i : grid1.Coords) (arg1 : Memref sig .tc .vmem S2048x128 .bf16) (harg1 : arg1.IsWhole) (arg2 : Memref sig .tc .vmem S2048x128 .f32) (harg2 : arg2.IsWhole) (arg3 : Memref sig .tc .vmem S256x128x128 .f32) (harg3 : arg3.IsWhole) (arg4 : Memref sig .tc .vmem S1x2048x16 .f32) (harg4 : arg4.IsWhole)
    (x0 : Vec F S2048x128 .bf16) (x1 : Vec F S2048x128 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out1_2 i x0 x1) ∗ owns (c : Thread nD τ) arg4 fullShare (out1_3 i x0 x1)) -∗ K ⟨⟩))
      ⊢ wp frame (wpE (defs₀ (F := F)) Variants.none c none) E (cc1__k1_body i arg1 harg1 arg2 harg2 arg3 harg3 arg4 harg4) K := by
  simp only [cc1__k1_body_eq_skeleton]; unfold cc1__k1_body_skel
  simp only [k1_part1_eq_skeleton, k1_part2_eq_skeleton, k1_part3_eq_skeleton]
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (cover1_2 _ _ _ _ _ _ _ _ _ _ _ _ _ _ _ _)).trans ?_
    rfl
  iexists _; isplitr
  swap; · iexact H3
  ipureintro
  refine (View.read_writes_eq_canon _ _ _ (cover1_3 _)).trans ?_
  rfl

/-! ## The call's proof data -/

variable (O : CellTallies nD τ sig (HIx 2)) (R : Set (SemLoc sig × HIx 2))

/-- The arrays as the region finds them; after a point each input's buffer at its block, each output's at what the body
    stores; the core's debts `O` and the pairs recorded before, `R`, unchanged. -/
def dat (c : Dev nD) : Dat τ (Elt F) (HIx 2) ℕ UU ℕ cfg1 c where
  A w := V c (Pipeline.arrRef spec1 w)
  after w t := match w with
    | ⟨0, _⟩ => iblk V c 0 t
    | ⟨1, _⟩ => iblk V c 1 t
    | ⟨2, _⟩ => out1_2 (grid1.coords t) (iblk V c 0 t) (iblk V c 1 t)
    | ⟨3, _⟩ => out1_3 (grid1.coords t) (iblk V c 0 t) (iblk V c 1 t)
  Φ _ := Pipeline.scopedRest spec1 c
  q _ := fullShare
  owed _ := O
  recorded _ := R

theorem A_eq (c : Dev nD) (w : Fin cfg1.W) : (dat V O R c).A w = V c (Pipeline.arrRef spec1 w) := by
  dsimp only [dat]

theorem after1_0 (c : Dev nD) (t : Fin cfg1.N) : (dat V O R c).after 0 t = iblk V c 0 t := by dsimp only [dat]
theorem after1_1 (c : Dev nD) (t : Fin cfg1.N) : (dat V O R c).after 1 t = iblk V c 1 t := by dsimp only [dat]
theorem after1_2 (c : Dev nD) (t : Fin cfg1.N) : (dat V O R c).after 2 t = out1_2 (grid1.coords t) (iblk V c 0 t) (iblk V c 1 t) := by dsimp only [dat]
theorem after1_3 (c : Dev nD) (t : Fin cfg1.N) : (dat V O R c).after 3 t = out1_3 (grid1.coords t) (iblk V c 0 t) (iblk V c 1 t) := by dsimp only [dat]

theorem before1_0 (c : Dev nD) (t : Fin cfg1.N) (d) : (dat V O R c).before 0 t d = iblk V c 0 t :=
  before1_0_of V (dat V O R c) (A_eq V O R c 0) (after1_0 V O R c) t d
theorem before1_1 (c : Dev nD) (t : Fin cfg1.N) (d) : (dat V O R c).before 1 t d = iblk V c 1 t :=
  before1_1_of V (dat V O R c) (A_eq V O R c 1) (after1_1 V O R c) t d

/-! ## The body obligation, at a generic point -/

/-- What the body is called with, the windows one by one. -/
def bodyPre (c : Dev nD) (t : Fin cfg1.N) : sProp 𝕄 :=
  iprop((dat V O R c).Φ t.castSucc ∗ (dat V O R c).owesAt none t.castSucc
    ∗ (∃ d, owns (c : Thread nD τ) (st1_0 t) fullShare ((dat V O R c).before 0 t d))
    ∗ (∃ d, owns (c : Thread nD τ) (st1_1 t) fullShare ((dat V O R c).before 1 t d))
    ∗ (∃ d, owns (c : Thread nD τ) (st1_2 t) fullShare ((dat V O R c).before 2 t d))
    ∗ (∃ d, owns (c : Thread nD τ) (st1_3 t) fullShare ((dat V O R c).before 3 t d)))

/-- What it returns. -/
def bodyPost (c : Dev nD) (t : Fin cfg1.N) : sProp 𝕄 :=
  iprop((dat V O R c).Φ t.succ ∗ (dat V O R c).owesAt none t.succ
    ∗ owns (c : Thread nD τ) (st1_0 t) fullShare ((dat V O R c).after 0 t)
    ∗ owns (c : Thread nD τ) (st1_1 t) fullShare ((dat V O R c).after 1 t)
    ∗ owns (c : Thread nD τ) (st1_2 t) fullShare ((dat V O R c).after 2 t)
    ∗ owns (c : Thread nD τ) (st1_3 t) fullShare ((dat V O R c).after 3 t))

theorem sound_body (c : Dev nD) (t : Fin cfg1.N) :
    bodyPre V O R c t ⊢ wp frame (wpE (defs₀ (F := F)) Variants.none c none) Set.univ (bodyAt1 t) (fun _ => bodyPost V O R c t) := by
  unfold bodyPre bodyPost bodyAt1
  simp only [before1_0, before1_1]
  rw [show (dat V O R c).Φ t.succ = (dat V O R c).Φ t.castSucc from rfl,
    show (dat V O R c).owesAt none t.succ = (dat V O R c).owesAt none t.castSucc from rfl,
    after1_0, after1_1, after1_2, after1_3]
  iintro ⟨HΦ, Ho, ⟨%d0, H0⟩, ⟨%d1, H1⟩, ⟨%d2, H2⟩, ⟨%d3, H3⟩⟩
  iapply (sound_kernel c Set.univ (grid1.coords t) _ _ _ _ _ _ _ _ (iblk V c 0 t) (iblk V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem defs₀_row (t : Fin cfg1.N) :
    defs₀ (F := F) .tc cfg1.body (cfg1.bodyArgs t (cfg1.slots t)) = bodyAt1 t := rfl

theorem body_obligation (c : Dev nD) : BodyObligation (dat V O R c) (defs₀ (F := F)) Variants.none none Set.univ := fun t => by
  rw [bigSep_W1, bigSep_W1, defs₀_row]
  exact triple_restated (sound_body V O R c t) rfl .rfl fun _ => .rfl

end Cert.Proof.Call1

end
-- ==== Proof.Call2.lean ====
/-
  TensorCore call 2 of the whole kernel, which picks every query's eight best groups: what its body leaves in the output buffers as a function of
  the input blocks, and the body's triple at every point of the grid.
-/
module

public import proofs.«01_k».proof.Proof.WholeBase
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Proof.Call2

open Cert.KernelIdeal Cert.KernelIdeal.Gen
open Cert.Proof.Whole (UU)

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

-- the arrays' contents when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) (HIx 2) ℕ UU ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r2_0 : Rect S2048x896 := Rect.unit (s := S2048x896) ![0, 0] S2048x896.size inb_S2048x896_S2048x896_0_0
abbrev r2_1 : Rect S2048x8 := Rect.unit (s := S2048x8) ![0, 0] S2048x8.size inb_S2048x8_S2048x8_0_0

/-! ## What the body leaves in each output window's buffer -/

def k2_v2 (x0 : Vec F S2048x896 .f32) : IVec S2048x896 32 :=
  iota .tc S2048x896 32 [1] iota_S2048x896_d1_w32

def k2_v3 (x0 : Vec F S2048x896 .f32) : IVec S2048x8 32 :=
  iota .tc S2048x8 32 [0] iota_S2048x8_d0_w32

def k2_v11 (x0 : Vec F S2048x896 .f32) : IVec S2048x1 32 :=
  k2_pay4 (View.ld x0 r2_0)

def k2_v23 (x0 : Vec F S2048x896 .f32) : IVec S2048x1 32 :=
  k2_pay6 (View.ld x0 r2_0)

def k2_v35 (x0 : Vec F S2048x896 .f32) : IVec S2048x1 32 :=
  k2_pay8 (View.ld x0 r2_0)

def k2_v39 (x0 : Vec F S2048x896 .f32) : FVec F S2048x896 .f32 :=
  k2_pay9 (View.ld x0 r2_0)

def k2_v43 (x0 : Vec F S2048x896 .f32) : IVec S2048x896 1 :=
  k2_pay10 (View.ld x0 r2_0)

def k2_v47 (x0 : Vec F S2048x896 .f32) : IVec S2048x1 32 :=
  k2_pay11 (k2_v2 x0) (k2_v43 x0) 1073741824#32

def k2_v59 (x0 : Vec F S2048x896 .f32) : IVec S2048x1 32 :=
  k2_pay13 (k2_v2 x0) (k2_v39 x0) (k2_v43 x0) 1073741824#32

def k2_v71 (x0 : Vec F S2048x896 .f32) : IVec S2048x1 32 :=
  k2_pay15 (k2_v2 x0) (k2_v39 x0) (k2_v43 x0) 1073741824#32

def k2_v83 (x0 : Vec F S2048x896 .f32) : IVec S2048x1 32 :=
  k2_pay17 (k2_v2 x0) (k2_v39 x0) (k2_v43 x0) 1073741824#32

def k2_v87 (x0 : Vec F S2048x896 .f32) : FVec F S2048x896 .f32 :=
  k2_pay18 (k2_v2 x0) (k2_v39 x0) (k2_v43 x0) 1073741824#32

def k2_v88 (x0 : Vec F S2048x896 .f32) : FVec F S2048 .f32 :=
  k2_pay19 (k2_v2 x0) (k2_v39 x0) (k2_v43 x0) 1073741824#32

def out2_1 (x0 : Vec F S2048x896 .f32) : Vec F S2048x8 .i32 :=
  View.canon [⟨r2_1, (k2_pay1 (k2_v2 x0) (k2_v11 x0) (k2_v23 x0) (k2_v35 x0) (k2_v47 x0) (k2_v59 x0) (k2_v71 x0) (k2_v83 x0) (k2_v87 x0) (k2_v88 x0))⟩]

theorem cover2_1 (p0 : Vec F S2048x8 .i32) (y : S2048x8.Idx) :
    ∃ pc ∈ ([⟨r2_1, p0⟩] : List (View.Piece (Elt F) S2048x8 .i32)), y ∈ pc.1.set :=
  View.cover_of_tiled [⟨r2_1, p0⟩] S2048x8.size (by rfl) y

def out2_2 (x0 : Vec F S2048x896 .f32) : Vec F S2048x8 .i32 :=
  View.canon [⟨r2_1, (k2_pay2 (k2_v2 x0) (k2_v3 x0) (k2_v11 x0) (k2_v23 x0) (k2_v35 x0) (k2_v47 x0) (k2_v59 x0) (k2_v71 x0) (k2_v83 x0) (k2_v87 x0) (k2_v88 x0))⟩]

theorem cover2_2 (p0 : Vec F S2048x8 .i32) (y : S2048x8.Idx) :
    ∃ pc ∈ ([⟨r2_1, p0⟩] : List (View.Piece (Elt F) S2048x8 .i32)), y ∈ pc.1.set :=
  View.cover_of_tiled [⟨r2_1, p0⟩] S2048x8.size (by rfl) y

/-! ## The body's triple -/

set_option maxHeartbeats 1000000 in
theorem sound_kernel (c : Dev nD) (E : Set ℕ) (arg0 : Memref sig .tc .vmem S2048x896 .f32) (harg0 : arg0.IsWhole) (arg1 : Memref sig .tc .vmem S2048x8 .i32) (harg1 : arg1.IsWhole) (arg2 : Memref sig .tc .vmem S2048x8 .i32) (harg2 : arg2.IsWhole)
    (x0 : Vec F S2048x896 .f32) (K : PUnit → sProp 𝕄) :
    iprop(owns (c : Thread nD τ) arg0 fullShare x0 ∗ (∃ d, owns (c : Thread nD τ) arg1 fullShare d) ∗ (∃ d, owns (c : Thread nD τ) arg2 fullShare d)
        ∗ (iprop(owns (c : Thread nD τ) arg0 fullShare x0 ∗ owns (c : Thread nD τ) arg1 fullShare (out2_1 x0) ∗ owns (c : Thread nD τ) arg2 fullShare (out2_2 x0)) -∗ K ⟨⟩))
      ⊢ wp frame (wpE (defs₀ (F := F)) Variants.none c none) E (cc2__k2_body arg0 harg0 arg1 harg1 arg2 harg2) K := by
  simp only [cc2__k2_body_eq_skeleton]; unfold cc2__k2_body_skel
  simp only [k2_part1_eq_skeleton, k2_part2_eq_skeleton]
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    refine (View.read_writes_eq_canon _ _ _ (cover2_1 _)).trans ?_
    rfl
  iexists _; isplitr
  swap; · iexact H2
  ipureintro
  refine (View.read_writes_eq_canon _ _ _ (cover2_2 _)).trans ?_
  rfl

/-! ## The call's proof data -/

variable (O : CellTallies nD τ sig (HIx 2)) (R : Set (SemLoc sig × HIx 2))

/-- The arrays as the region finds them; after a point each input's buffer at its block, each output's at what the body
    stores; the core's debts `O` and the pairs recorded before, `R`, unchanged. -/
def dat (c : Dev nD) : Dat τ (Elt F) (HIx 2) ℕ UU ℕ cfg2 c where
  A w := V c (Pipeline.arrRef spec2 w)
  after w t := match w with
    | ⟨0, _⟩ => iblk V c 0 t
    | ⟨1, _⟩ => out2_1 (iblk V c 0 t)
    | ⟨2, _⟩ => out2_2 (iblk V c 0 t)
  Φ _ := Pipeline.scopedRest spec2 c
  q _ := fullShare
  owed _ := O
  recorded _ := R

theorem A_eq (c : Dev nD) (w : Fin cfg2.W) : (dat V O R c).A w = V c (Pipeline.arrRef spec2 w) := by
  dsimp only [dat]

theorem after2_0 (c : Dev nD) (t : Fin cfg2.N) : (dat V O R c).after 0 t = iblk V c 0 t := by dsimp only [dat]
theorem after2_1 (c : Dev nD) (t : Fin cfg2.N) : (dat V O R c).after 1 t = out2_1 (iblk V c 0 t) := by dsimp only [dat]
theorem after2_2 (c : Dev nD) (t : Fin cfg2.N) : (dat V O R c).after 2 t = out2_2 (iblk V c 0 t) := by dsimp only [dat]

theorem before2_0 (c : Dev nD) (t : Fin cfg2.N) (d) : (dat V O R c).before 0 t d = iblk V c 0 t :=
  before2_0_of V (dat V O R c) (A_eq V O R c 0) (after2_0 V O R c) t d

/-! ## The body obligation, at a generic point -/

/-- What the body is called with, the windows one by one. -/
def bodyPre (c : Dev nD) (t : Fin cfg2.N) : sProp 𝕄 :=
  iprop((dat V O R c).Φ t.castSucc ∗ (dat V O R c).owesAt none t.castSucc
    ∗ (∃ d, owns (c : Thread nD τ) (st2_0 t) fullShare ((dat V O R c).before 0 t d))
    ∗ (∃ d, owns (c : Thread nD τ) (st2_1 t) fullShare ((dat V O R c).before 1 t d))
    ∗ (∃ d, owns (c : Thread nD τ) (st2_2 t) fullShare ((dat V O R c).before 2 t d)))

/-- What it returns. -/
def bodyPost (c : Dev nD) (t : Fin cfg2.N) : sProp 𝕄 :=
  iprop((dat V O R c).Φ t.succ ∗ (dat V O R c).owesAt none t.succ
    ∗ owns (c : Thread nD τ) (st2_0 t) fullShare ((dat V O R c).after 0 t)
    ∗ owns (c : Thread nD τ) (st2_1 t) fullShare ((dat V O R c).after 1 t)
    ∗ owns (c : Thread nD τ) (st2_2 t) fullShare ((dat V O R c).after 2 t))

theorem sound_body (c : Dev nD) (t : Fin cfg2.N) :
    bodyPre V O R c t ⊢ wp frame (wpE (defs₀ (F := F)) Variants.none c none) Set.univ (bodyAt2 t) (fun _ => bodyPost V O R c t) := by
  unfold bodyPre bodyPost bodyAt2
  simp only [before2_0]
  rw [show (dat V O R c).Φ t.succ = (dat V O R c).Φ t.castSucc from rfl,
    show (dat V O R c).owesAt none t.succ = (dat V O R c).owesAt none t.castSucc from rfl,
    after2_0, after2_1, after2_2]
  iintro ⟨HΦ, Ho, ⟨%d0, H0⟩, ⟨%d1, H1⟩, ⟨%d2, H2⟩⟩
  iapply (sound_kernel c Set.univ _ _ _ _ _ _ (iblk V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row (t : Fin cfg2.N) :
    defs₀ (F := F) .tc cfg2.body (cfg2.bodyArgs t (cfg2.slots t)) = bodyAt2 t := rfl

theorem body_obligation (c : Dev nD) : BodyObligation (dat V O R c) (defs₀ (F := F)) Variants.none none Set.univ := fun t => by
  rw [bigSep_W2, bigSep_W2, defs₀_row]
  exact triple_restated (sound_body V O R c t) rfl .rfl fun _ => .rfl

end Cert.Proof.Call2

end
-- ==== Proof.Call4.lean ====
/-
  TensorCore call 4 of the whole kernel, which picks every query's eight best keys inside its groups and weighs them: what its body leaves in the output buffers as a function of
  the input blocks, and the body's triple at every point of the grid.
-/
module

public import proofs.«01_k».proof.Proof.WholeBase
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Proof.Call4

open Cert.KernelIdeal Cert.KernelIdeal.Gen
open Cert.Proof.Whole (UU)

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

-- the arrays' contents when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) (HIx 2) ℕ UU ℕ cfg4 c) (hA : dat.A 0 = V c (Pipeline.arrRef spec4 0))
    (hafter : ∀ t, dat.after 0 t = iblk V c 0 t) (t : Fin cfg4.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before4_1_of {c : Dev nD} (dat : Dat τ (Elt F) (HIx 2) ℕ UU ℕ cfg4 c) (hA : dat.A 1 = V c (Pipeline.arrRef spec4 1))
    (hafter : ∀ t, dat.after 1 t = iblk V c 1 t) (t : Fin cfg4.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r4_0 : Rect S256x8x128 := Rect.unit (s := S256x8x128) ![0, 0, 0] S256x8x128.size inb_S256x8x128_S256x8x128_0_0_0
abbrev r4_1 : Rect S256x8 := Rect.unit (s := S256x8) ![0, 0] S256x8.size inb_S256x8_S256x8_0_0

/-! ## What the body leaves in each output window's buffer -/

def k4_v9 (x0 : Vec F S256x8x128 .f32) (x1 : Vec F S256x8 .i32) : IVec S256x8x128 32 :=
  k4_pay4 (View.ld x1 r4_1)

def k4_v12 (x0 : Vec F S256x8x128 .f32) (x1 : Vec F S256x8 .i32) : FVec F S256x1 .f32 :=
  k4_pay5 (View.ld x0 r4_0)

def k4_v20 (x0 : Vec F S256x8x128 .f32) (x1 : Vec F S256x8 .i32) : IVec S256x1 32 :=
  k4_pay6 (View.ld x0 r4_0) (View.ld x1 r4_1)

def k4_v25 (x0 : Vec F S256x8x128 .f32) (x1 : Vec F S256x8 .i32) : FVec F S256x8x128 .f32 :=
  k4_pay7 (View.ld x0 r4_0) (View.ld x1 r4_1)

def k4_v28 (x0 : Vec F S256x8x128 .f32) (x1 : Vec F S256x8 .i32) : FVec F S256x1 .f32 :=
  k4_pay8 (View.ld x0 r4_0) (View.ld x1 r4_1)

def k4_v36 (x0 : Vec F S256x8x128 .f32) (x1 : Vec F S256x8 .i32) : IVec S256x1 32 :=
  k4_pay9 (View.ld x0 r4_0) (View.ld x1 r4_1)

def k4_v39 (x0 : Vec F S256x8x128 .f32) (x1 : Vec F S256x8 .i32) : IVec S256x8x128 1 :=
  k4_pay10 (View.ld x0 r4_0) (View.ld x1 r4_1)

def k4_v40 (x0 : Vec F S256x8x128 .f32) (x1 : Vec F S256x8 .i32) : FVec F S256x8x128 .f32 :=
  k4_pay11 (F := F)

def k4_v44 (x0 : Vec F S256x8x128 .f32) (x1 : Vec F S256x8 .i32) : FVec F S256x1 .f32 :=
  k4_pay13 (k4_v25 x0 x1) (k4_v39 x0 x1) (k4_v40 x0 x1)

def k4_v52 (x0 : Vec F S256x8x128 .f32) (x1 : Vec F S256x8 .i32) : IVec S256x1 32 :=
  k4_pay14 (k4_v9 x0 x1) (k4_v25 x0 x1) (k4_v39 x0 x1) (k4_v40 x0 x1)

def k4_v60 (x0 : Vec F S256x8x128 .f32) (x1 : Vec F S256x8 .i32) : FVec F S256x1 .f32 :=
  k4_pay16 (k4_v9 x0 x1) (k4_v25 x0 x1) (k4_v39 x0 x1) (k4_v40 x0 x1)

def k4_v68 (x0 : Vec F S256x8x128 .f32) (x1 : Vec F S256x8 .i32) : IVec S256x1 32 :=
  k4_pay17 (k4_v9 x0 x1) (k4_v25 x0 x1) (k4_v39 x0 x1) (k4_v40 x0 x1)

def k4_v73 (x0 : Vec F S256x8x128 .f32) (x1 : Vec F S256x8 .i32) : FVec F S256x8x128 .f32 :=
  k4_pay18 (k4_v9 x0 x1) (k4_v25 x0 x1) (k4_v39 x0 x1) (k4_v40 x0 x1)

def k4_v76 (x0 : Vec F S256x8x128 .f32) (x1 : Vec F S256x8 .i32) : FVec F S256x1 .f32 :=
  k4_pay19 (k4_v9 x0 x1) (k4_v25 x0 x1) (k4_v39 x0 x1) (k4_v40 x0 x1)

def k4_v83 (x0 : Vec F S256x8x128 .f32) (x1 : Vec F S256x8 .i32) : IVec S256 32 :=
  k4_pay20 (k4_v9 x0 x1) (k4_v25 x0 x1) (k4_v39 x0 x1) (k4_v40 x0 x1)

def k4_v84 (x0 : Vec F S256x8x128 .f32) (x1 : Vec F S256x8 .i32) : IVec S256x1 32 :=
  k4_pay21 (k4_v83 x0 x1)

def k4_v92 (x0 : Vec F S256x8x128 .f32) (x1 : Vec F S256x8 .i32) : FVec F S256x1 .f32 :=
  k4_pay23 (k4_v9 x0 x1) (k4_v73 x0 x1) (k4_v83 x0 x1)

def k4_v100 (x0 : Vec F S256x8x128 .f32) (x1 : Vec F S256x8 .i32) : IVec S256x1 32 :=
  k4_pay24 (k4_v9 x0 x1) (k4_v73 x0 x1) (k4_v83 x0 x1)

def k4_v108 (x0 : Vec F S256x8x128 .f32) (x1 : Vec F S256x8 .i32) : FVec F S256x1 .f32 :=
  k4_pay26 (k4_v9 x0 x1) (k4_v73 x0 x1) (k4_v83 x0 x1)

def k4_v116 (x0 : Vec F S256x8x128 .f32) (x1 : Vec F S256x8 .i32) : IVec S256x1 32 :=
  k4_pay27 (k4_v9 x0 x1) (k4_v73 x0 x1) (k4_v83 x0 x1)

def k4_v124 (x0 : Vec F S256x8x128 .f32) (x1 : Vec F S256x8 .i32) : FVec F S256x1 .f32 :=
  k4_pay29 (k4_v9 x0 x1) (k4_v73 x0 x1) (k4_v83 x0 x1)

def k4_v127 (x0 : Vec F S256x8x128 .f32) (x1 : Vec F S256x8 .i32) : IVec S256x8x128 1 :=
  k4_pay30 (k4_v9 x0 x1) (k4_v73 x0 x1) (k4_v83 x0 x1)

def out4_2 (x0 : Vec F S256x8x128 .f32) (x1 : Vec F S256x8 .i32) : Vec F S256x8 .f32 :=
  View.canon [⟨r4_1, (k4_pay1 (k4_v12 x0 x1) (k4_v28 x0 x1) (k4_v44 x0 x1) (k4_v60 x0 x1) (k4_v76 x0 x1) (k4_v92 x0 x1) (k4_v108 x0 x1) (k4_v124 x0 x1))⟩]

theorem cover4_2 (p0 : Vec F S256x8 .f32) (y : S256x8.Idx) :
    ∃ pc ∈ ([⟨r4_1, p0⟩] : List (View.Piece (Elt F) S256x8 .f32)), y ∈ pc.1.set :=
  View.cover_of_tiled [⟨r4_1, p0⟩] S256x8.size (by rfl) y

def out4_3 (x0 : Vec F S256x8x128 .f32) (x1 : Vec F S256x8 .i32) : Vec F S256x8 .i32 :=
  View.canon [⟨r4_1, (k4_pay2 (k4_v9 x0 x1) (k4_v20 x0 x1) (k4_v36 x0 x1) (k4_v52 x0 x1) (k4_v68 x0 x1) (k4_v84 x0 x1) (k4_v100 x0 x1) (k4_v116 x0 x1) (k4_v127 x0 x1) 1073741824#32)⟩]

theorem cover4_3 (p0 : Vec F S256x8 .i32) (y : S256x8.Idx) :
    ∃ pc ∈ ([⟨r4_1, p0⟩] : List (View.Piece (Elt F) S256x8 .i32)), y ∈ pc.1.set :=
  View.cover_of_tiled [⟨r4_1, p0⟩] S256x8.size (by rfl) y

/-! ## The body's triple -/

set_option maxHeartbeats 1000000 in
theorem sound_kernel (c : Dev nD) (E : Set ℕ) (i : grid4.Coords) (arg1 : Memref sig .tc .vmem S256x8x128 .f32) (harg1 : arg1.IsWhole) (arg2 : Memref sig .tc .vmem S256x8 .i32) (harg2 : arg2.IsWhole) (arg3 : Memref sig .tc .vmem S256x8 .f32) (harg3 : arg3.IsWhole) (arg4 : Memref sig .tc .vmem S256x8 .i32) (harg4 : arg4.IsWhole)
    (x0 : Vec F S256x8x128 .f32) (x1 : Vec F S256x8 .i32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out4_2 x0 x1) ∗ owns (c : Thread nD τ) arg4 fullShare (out4_3 x0 x1)) -∗ K ⟨⟩))
      ⊢ wp frame (wpE (defs₀ (F := F)) Variants.none c none) E (cc4__k4_body i arg1 harg1 arg2 harg2 arg3 harg3 arg4 harg4) K := by
  simp only [cc4__k4_body_eq_skeleton]; unfold cc4__k4_body_skel
  simp only [k4_part1_eq_skeleton, k4_part2_eq_skeleton, k4_part3_eq_skeleton]
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (cover4_2 _)).trans ?_
    rfl
  iexists _; isplitr
  swap; · iexact H3
  ipureintro
  refine (View.read_writes_eq_canon _ _ _ (cover4_3 _)).trans ?_
  rfl

/-! ## The call's proof data -/

variable (O : CellTallies nD τ sig (HIx 2)) (R : Set (SemLoc sig × HIx 2))

/-- The arrays as the region finds them; after a point each input's buffer at its block, each output's at what the body
    stores; the core's debts `O` and the pairs recorded before, `R`, unchanged. -/
def dat (c : Dev nD) : Dat τ (Elt F) (HIx 2) ℕ UU ℕ cfg4 c where
  A w := V c (Pipeline.arrRef spec4 w)
  after w t := match w with
    | ⟨0, _⟩ => iblk V c 0 t
    | ⟨1, _⟩ => iblk V c 1 t
    | ⟨2, _⟩ => out4_2 (iblk V c 0 t) (iblk V c 1 t)
    | ⟨3, _⟩ => out4_3 (iblk V c 0 t) (iblk V c 1 t)
  Φ _ := Pipeline.scopedRest spec4 c
  q _ := fullShare
  owed _ := O
  recorded _ := R

theorem A_eq (c : Dev nD) (w : Fin cfg4.W) : (dat V O R c).A w = V c (Pipeline.arrRef spec4 w) := by
  dsimp only [dat]

theorem after4_0 (c : Dev nD) (t : Fin cfg4.N) : (dat V O R c).after 0 t = iblk V c 0 t := by dsimp only [dat]
theorem after4_1 (c : Dev nD) (t : Fin cfg4.N) : (dat V O R c).after 1 t = iblk V c 1 t := by dsimp only [dat]
theorem after4_2 (c : Dev nD) (t : Fin cfg4.N) : (dat V O R c).after 2 t = out4_2 (iblk V c 0 t) (iblk V c 1 t) := by dsimp only [dat]
theorem after4_3 (c : Dev nD) (t : Fin cfg4.N) : (dat V O R c).after 3 t = out4_3 (iblk V c 0 t) (iblk V c 1 t) := by dsimp only [dat]

theorem before4_0 (c : Dev nD) (t : Fin cfg4.N) (d) : (dat V O R c).before 0 t d = iblk V c 0 t :=
  before4_0_of V (dat V O R c) (A_eq V O R c 0) (after4_0 V O R c) t d
theorem before4_1 (c : Dev nD) (t : Fin cfg4.N) (d) : (dat V O R c).before 1 t d = iblk V c 1 t :=
  before4_1_of V (dat V O R c) (A_eq V O R c 1) (after4_1 V O R c) t d

/-! ## The body obligation, at a generic point -/

/-- What the body is called with, the windows one by one. -/
def bodyPre (c : Dev nD) (t : Fin cfg4.N) : sProp 𝕄 :=
  iprop((dat V O R c).Φ t.castSucc ∗ (dat V O R c).owesAt none t.castSucc
    ∗ (∃ d, owns (c : Thread nD τ) (st4_0 t) fullShare ((dat V O R c).before 0 t d))
    ∗ (∃ d, owns (c : Thread nD τ) (st4_1 t) fullShare ((dat V O R c).before 1 t d))
    ∗ (∃ d, owns (c : Thread nD τ) (st4_2 t) fullShare ((dat V O R c).before 2 t d))
    ∗ (∃ d, owns (c : Thread nD τ) (st4_3 t) fullShare ((dat V O R c).before 3 t d)))

/-- What it returns. -/
def bodyPost (c : Dev nD) (t : Fin cfg4.N) : sProp 𝕄 :=
  iprop((dat V O R c).Φ t.succ ∗ (dat V O R c).owesAt none t.succ
    ∗ owns (c : Thread nD τ) (st4_0 t) fullShare ((dat V O R c).after 0 t)
    ∗ owns (c : Thread nD τ) (st4_1 t) fullShare ((dat V O R c).after 1 t)
    ∗ owns (c : Thread nD τ) (st4_2 t) fullShare ((dat V O R c).after 2 t)
    ∗ owns (c : Thread nD τ) (st4_3 t) fullShare ((dat V O R c).after 3 t))

theorem sound_body (c : Dev nD) (t : Fin cfg4.N) :
    bodyPre V O R c t ⊢ wp frame (wpE (defs₀ (F := F)) Variants.none c none) Set.univ (bodyAt4 t) (fun _ => bodyPost V O R c t) := by
  unfold bodyPre bodyPost bodyAt4
  simp only [before4_0, before4_1]
  rw [show (dat V O R c).Φ t.succ = (dat V O R c).Φ t.castSucc from rfl,
    show (dat V O R c).owesAt none t.succ = (dat V O R c).owesAt none t.castSucc from rfl,
    after4_0, after4_1, after4_2, after4_3]
  iintro ⟨HΦ, Ho, ⟨%d0, H0⟩, ⟨%d1, H1⟩, ⟨%d2, H2⟩, ⟨%d3, H3⟩⟩
  iapply (sound_kernel c Set.univ (grid4.coords t) _ _ _ _ _ _ _ _ (iblk V c 0 t) (iblk V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem defs₀_row (t : Fin cfg4.N) :
    defs₀ (F := F) .tc cfg4.body (cfg4.bodyArgs t (cfg4.slots t)) = bodyAt4 t := rfl

theorem body_obligation (c : Dev nD) : BodyObligation (dat V O R c) (defs₀ (F := F)) Variants.none none Set.univ := fun t => by
  rw [bigSep_W4, bigSep_W4, defs₀_row]
  exact triple_restated (sound_body V O R c t) rfl .rfl fun _ => .rfl

end Cert.Proof.Call4

end
-- ==== Proof.Call6.lean ====
/-
  TensorCore call 6 of the whole kernel, which weighs the gathered values, projects them and gates them into the queries: what its body leaves in the output buffers as a function of
  the input blocks, and the body's triple at every point of the grid.
-/
module

public import proofs.«01_k».proof.Proof.WholeBase
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Proof.Call6

open Cert.KernelIdeal Cert.KernelIdeal.Gen
open Cert.Proof.Whole (UU)

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

-- the arrays' contents when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem before6_0_of {c : Dev nD} (dat : Dat τ (Elt F) (HIx 2) ℕ UU ℕ cfg6 c) (hA : dat.A 0 = V c (Pipeline.arrRef spec6 0))
    (hafter : ∀ t, dat.after 0 t = iblk V c 0 t) (t : Fin cfg6.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before6_1_of {c : Dev nD} (dat : Dat τ (Elt F) (HIx 2) ℕ UU ℕ cfg6 c) (hA : dat.A 1 = V c (Pipeline.arrRef spec6 1))
    (hafter : ∀ t, dat.after 1 t = iblk V c 1 t) (t : Fin cfg6.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before6_2_of {c : Dev nD} (dat : Dat τ (Elt F) (HIx 2) ℕ UU ℕ cfg6 c) (hA : dat.A 2 = V c (Pipeline.arrRef spec6 2))
    (hafter : ∀ t, dat.after 2 t = iblk V c 2 t) (t : Fin cfg6.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before6_3_of {c : Dev nD} (dat : Dat τ (Elt F) (HIx 2) ℕ UU ℕ cfg6 c) (hA : dat.A 3 = V c (Pipeline.arrRef spec6 3))
    (hafter : ∀ t, dat.after 3 t = iblk V c 3 t) (t : Fin cfg6.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before6_4_of {c : Dev nD} (dat : Dat τ (Elt F) (HIx 2) ℕ UU ℕ cfg6 c) (hA : dat.A 4 = V c (Pipeline.arrRef spec6 4))
    (hafter : ∀ t, dat.after 4 t = iblk V c 4 t) (t : Fin cfg6.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before6_5_of {c : Dev nD} (dat : Dat τ (Elt F) (HIx 2) ℕ UU ℕ cfg6 c) (hA : dat.A 5 = V c (Pipeline.arrRef spec6 5))
    (hafter : ∀ t, dat.after 5 t = iblk V c 5 t) (t : Fin cfg6.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before6_6_of {c : Dev nD} (dat : Dat τ (Elt F) (HIx 2) ℕ UU ℕ cfg6 c) (hA : dat.A 6 = V c (Pipeline.arrRef spec6 6))
    (hafter : ∀ t, dat.after 6 t = iblk V c 6 t) (t : Fin cfg6.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r6_0 : Rect S2048x128 := Rect.unit (s := S2048x128) ![0, 0] S2048x128.size inb_S2048x128_S2048x128_0_0
abbrev r6_1 : Rect S2048x8 := Rect.unit (s := S2048x8) ![0, 0] S2048x8.size inb_S2048x8_S2048x8_0_0
abbrev r6_2 : Rect S2048x8x128 := Rect.unit (s := S2048x8x128) ![0, 0, 0] S2048x1x128.size inb_S2048x8x128_S2048x1x128_0_0_0
abbrev r6_3 : Rect S2048x8x128 := Rect.unit (s := S2048x8x128) ![0, 1, 0] S2048x1x128.size inb_S2048x8x128_S2048x1x128_0_1_0
abbrev r6_4 : Rect S2048x8x128 := Rect.unit (s := S2048x8x128) ![0, 2, 0] S2048x1x128.size inb_S2048x8x128_S2048x1x128_0_2_0
abbrev r6_5 : Rect S2048x8x128 := Rect.unit (s := S2048x8x128) ![0, 3, 0] S2048x1x128.size inb_S2048x8x128_S2048x1x128_0_3_0
abbrev r6_6 : Rect S2048x8x128 := Rect.unit (s := S2048x8x128) ![0, 4, 0] S2048x1x128.size inb_S2048x8x128_S2048x1x128_0_4_0
abbrev r6_7 : Rect S2048x8x128 := Rect.unit (s := S2048x8x128) ![0, 5, 0] S2048x1x128.size inb_S2048x8x128_S2048x1x128_0_5_0
abbrev r6_8 : Rect S2048x8x128 := Rect.unit (s := S2048x8x128) ![0, 6, 0] S2048x1x128.size inb_S2048x8x128_S2048x1x128_0_6_0
abbrev r6_9 : Rect S2048x8x128 := Rect.unit (s := S2048x8x128) ![0, 7, 0] S2048x1x128.size inb_S2048x8x128_S2048x1x128_0_7_0
abbrev r6_10 : Rect S128x128 := Rect.unit (s := S128x128) ![0, 0] S128x128.size inb_S128x128_S128x128_0_0
abbrev r6_11 : Rect S64x256 := Rect.unit (s := S64x256) ![0, 0] S64x256.size inb_S64x256_S64x256_0_0
abbrev r6_12 : Rect S1x64 := Rect.unit (s := S1x64) ![0, 0] S1x64.size inb_S1x64_S1x64_0_0
abbrev r6_13 : Rect S1x65 := Rect.unit (s := S1x65) ![0, 0] S1x65.size inb_S1x65_S1x65_0_0

/-! ## What the body leaves in each output window's buffer -/

def k6_v1 (x0 : Vec F S2048x128 .f32) (x1 : Vec F S2048x8x128 .f32) (x2 : Vec F S2048x8 .f32) (x3 : Vec F S128x128 .f32) (x4 : Vec F S64x256 .f32) (x5 : Vec F S1x64 .f32) (x6 : Vec F S1x65 .f32) : FVec F S2048x128 .f32 :=
  k6_pay1 (View.ld x0 r6_0)

def k6_v3 (x0 : Vec F S2048x128 .f32) (x1 : Vec F S2048x8x128 .f32) (x2 : Vec F S2048x8 .f32) (x3 : Vec F S128x128 .f32) (x4 : Vec F S64x256 .f32) (x5 : Vec F S1x64 .f32) (x6 : Vec F S1x65 .f32) : FVec F S2048x8 .f32 :=
  k6_pay2 (View.ld x2 r6_1)

def k6_v32 (x0 : Vec F S2048x128 .f32) (x1 : Vec F S2048x8x128 .f32) (x2 : Vec F S2048x8 .f32) (x3 : Vec F S128x128 .f32) (x4 : Vec F S64x256 .f32) (x5 : Vec F S1x64 .f32) (x6 : Vec F S1x65 .f32) : FVec F S2048x128 .f32 :=
  k6_pay3 (View.ld x2 r6_1) (View.ld x1 r6_2) (View.ld x1 r6_3) (View.ld x1 r6_4) (View.ld x1 r6_5) (View.ld x1 r6_6)

def k6_v37 (x0 : Vec F S2048x128 .f32) (x1 : Vec F S2048x8x128 .f32) (x2 : Vec F S2048x8 .f32) (x3 : Vec F S128x128 .f32) (x4 : Vec F S64x256 .f32) (x5 : Vec F S1x64 .f32) (x6 : Vec F S1x65 .f32) : FVec F S2048x128 .f32 :=
  k6_pay4 (View.ld x2 r6_1) (View.ld x1 r6_7)

def k6_v76 (x0 : Vec F S2048x128 .f32) (x1 : Vec F S2048x8x128 .f32) (x2 : Vec F S2048x8 .f32) (x3 : Vec F S128x128 .f32) (x4 : Vec F S64x256 .f32) (x5 : Vec F S1x64 .f32) (x6 : Vec F S1x65 .f32) : FVec F S2048x128 .f32 :=
  k6_pay5 (k6_v1 x0 x1 x2 x3 x4 x5 x6) (k6_v3 x0 x1 x2 x3 x4 x5 x6) (k6_v32 x0 x1 x2 x3 x4 x5 x6) (k6_v37 x0 x1 x2 x3 x4 x5 x6) (View.ld x1 r6_8) (View.ld x1 r6_9) (View.ld x3 r6_10) (View.ld x4 r6_11) (View.ld x5 r6_12) (View.ld x6 r6_13)

def out6_7 (x0 : Vec F S2048x128 .f32) (x1 : Vec F S2048x8x128 .f32) (x2 : Vec F S2048x8 .f32) (x3 : Vec F S128x128 .f32) (x4 : Vec F S64x256 .f32) (x5 : Vec F S1x64 .f32) (x6 : Vec F S1x65 .f32) : Vec F S2048x128 .f32 :=
  View.canon [⟨r6_0, (k6_v76 x0 x1 x2 x3 x4 x5 x6)⟩]

theorem cover6_7 (p0 : Vec F S2048x128 .f32) (y : S2048x128.Idx) :
    ∃ pc ∈ ([⟨r6_0, p0⟩] : List (View.Piece (Elt F) S2048x128 .f32)), y ∈ pc.1.set :=
  View.cover_of_tiled [⟨r6_0, p0⟩] S2048x128.size (by rfl) y

/-! ## The body's triple -/

set_option maxHeartbeats 1000000 in
theorem sound_kernel (c : Dev nD) (E : Set ℕ) (arg0 : Memref sig .tc .vmem S2048x128 .f32) (harg0 : arg0.IsWhole) (arg1 : Memref sig .tc .vmem S2048x8x128 .f32) (harg1 : arg1.IsWhole) (arg2 : Memref sig .tc .vmem S2048x8 .f32) (harg2 : arg2.IsWhole) (arg3 : Memref sig .tc .vmem S128x128 .f32) (harg3 : arg3.IsWhole) (arg4 : Memref sig .tc .vmem S64x256 .f32) (harg4 : arg4.IsWhole) (arg5 : Memref sig .tc .vmem S1x64 .f32) (harg5 : arg5.IsWhole) (arg6 : Memref sig .tc .vmem S1x65 .f32) (harg6 : arg6.IsWhole) (arg7 : Memref sig .tc .vmem S2048x128 .f32) (harg7 : arg7.IsWhole)
    (x0 : Vec F S2048x128 .f32) (x1 : Vec F S2048x8x128 .f32) (x2 : Vec F S2048x8 .f32) (x3 : Vec F S128x128 .f32) (x4 : Vec F S64x256 .f32) (x5 : Vec F S1x64 .f32) (x6 : Vec F S1x65 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out6_7 x0 x1 x2 x3 x4 x5 x6)) -∗ K ⟨⟩))
      ⊢ wp frame (wpE (defs₀ (F := F)) Variants.none c none) E (cc6__k6_body arg0 harg0 arg1 harg1 arg2 harg2 arg3 harg3 arg4 harg4 arg5 harg5 arg6 harg6 arg7 harg7) K := by
  simp only [cc6__k6_body_eq_skeleton]; unfold cc6__k6_body_skel
  simp only [k6_part1_eq_skeleton, k6_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover6_7 _)

/-! ## The call's proof data -/

variable (O : CellTallies nD τ sig (HIx 2)) (R : Set (SemLoc sig × HIx 2))

/-- The arrays as the region finds them; after a point each input's buffer at its block, each output's at what the body
    stores; the core's debts `O` and the pairs recorded before, `R`, unchanged. -/
def dat (c : Dev nD) : Dat τ (Elt F) (HIx 2) ℕ UU ℕ cfg6 c where
  A w := V c (Pipeline.arrRef spec6 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => out6_7 (iblk V c 0 t) (iblk V c 1 t) (iblk V c 2 t) (iblk V c 3 t) (iblk V c 4 t) (iblk V c 5 t) (iblk V c 6 t)
  Φ _ := Pipeline.scopedRest spec6 c
  q _ := fullShare
  owed _ := O
  recorded _ := R

theorem A_eq (c : Dev nD) (w : Fin cfg6.W) : (dat V O R c).A w = V c (Pipeline.arrRef spec6 w) := by
  dsimp only [dat]

theorem after6_0 (c : Dev nD) (t : Fin cfg6.N) : (dat V O R c).after 0 t = iblk V c 0 t := by dsimp only [dat]
theorem after6_1 (c : Dev nD) (t : Fin cfg6.N) : (dat V O R c).after 1 t = iblk V c 1 t := by dsimp only [dat]
theorem after6_2 (c : Dev nD) (t : Fin cfg6.N) : (dat V O R c).after 2 t = iblk V c 2 t := by dsimp only [dat]
theorem after6_3 (c : Dev nD) (t : Fin cfg6.N) : (dat V O R c).after 3 t = iblk V c 3 t := by dsimp only [dat]
theorem after6_4 (c : Dev nD) (t : Fin cfg6.N) : (dat V O R c).after 4 t = iblk V c 4 t := by dsimp only [dat]
theorem after6_5 (c : Dev nD) (t : Fin cfg6.N) : (dat V O R c).after 5 t = iblk V c 5 t := by dsimp only [dat]
theorem after6_6 (c : Dev nD) (t : Fin cfg6.N) : (dat V O R c).after 6 t = iblk V c 6 t := by dsimp only [dat]
theorem after6_7 (c : Dev nD) (t : Fin cfg6.N) : (dat V O R c).after 7 t = out6_7 (iblk V c 0 t) (iblk V c 1 t) (iblk V c 2 t) (iblk V c 3 t) (iblk V c 4 t) (iblk V c 5 t) (iblk V c 6 t) := by dsimp only [dat]

theorem before6_0 (c : Dev nD) (t : Fin cfg6.N) (d) : (dat V O R c).before 0 t d = iblk V c 0 t :=
  before6_0_of V (dat V O R c) (A_eq V O R c 0) (after6_0 V O R c) t d
theorem before6_1 (c : Dev nD) (t : Fin cfg6.N) (d) : (dat V O R c).before 1 t d = iblk V c 1 t :=
  before6_1_of V (dat V O R c) (A_eq V O R c 1) (after6_1 V O R c) t d
theorem before6_2 (c : Dev nD) (t : Fin cfg6.N) (d) : (dat V O R c).before 2 t d = iblk V c 2 t :=
  before6_2_of V (dat V O R c) (A_eq V O R c 2) (after6_2 V O R c) t d
theorem before6_3 (c : Dev nD) (t : Fin cfg6.N) (d) : (dat V O R c).before 3 t d = iblk V c 3 t :=
  before6_3_of V (dat V O R c) (A_eq V O R c 3) (after6_3 V O R c) t d
theorem before6_4 (c : Dev nD) (t : Fin cfg6.N) (d) : (dat V O R c).before 4 t d = iblk V c 4 t :=
  before6_4_of V (dat V O R c) (A_eq V O R c 4) (after6_4 V O R c) t d
theorem before6_5 (c : Dev nD) (t : Fin cfg6.N) (d) : (dat V O R c).before 5 t d = iblk V c 5 t :=
  before6_5_of V (dat V O R c) (A_eq V O R c 5) (after6_5 V O R c) t d
theorem before6_6 (c : Dev nD) (t : Fin cfg6.N) (d) : (dat V O R c).before 6 t d = iblk V c 6 t :=
  before6_6_of V (dat V O R c) (A_eq V O R c 6) (after6_6 V O R c) t d

/-! ## The body obligation, at a generic point -/

/-- What the body is called with, the windows one by one. -/
def bodyPre (c : Dev nD) (t : Fin cfg6.N) : sProp 𝕄 :=
  iprop((dat V O R c).Φ t.castSucc ∗ (dat V O R c).owesAt none t.castSucc
    ∗ (∃ d, owns (c : Thread nD τ) (st6_0 t) fullShare ((dat V O R c).before 0 t d))
    ∗ (∃ d, owns (c : Thread nD τ) (st6_1 t) fullShare ((dat V O R c).before 1 t d))
    ∗ (∃ d, owns (c : Thread nD τ) (st6_2 t) fullShare ((dat V O R c).before 2 t d))
    ∗ (∃ d, owns (c : Thread nD τ) (st6_3 t) fullShare ((dat V O R c).before 3 t d))
    ∗ (∃ d, owns (c : Thread nD τ) (st6_4 t) fullShare ((dat V O R c).before 4 t d))
    ∗ (∃ d, owns (c : Thread nD τ) (st6_5 t) fullShare ((dat V O R c).before 5 t d))
    ∗ (∃ d, owns (c : Thread nD τ) (st6_6 t) fullShare ((dat V O R c).before 6 t d))
    ∗ (∃ d, owns (c : Thread nD τ) (st6_7 t) fullShare ((dat V O R c).before 7 t d)))

/-- What it returns. -/
def bodyPost (c : Dev nD) (t : Fin cfg6.N) : sProp 𝕄 :=
  iprop((dat V O R c).Φ t.succ ∗ (dat V O R c).owesAt none t.succ
    ∗ owns (c : Thread nD τ) (st6_0 t) fullShare ((dat V O R c).after 0 t)
    ∗ owns (c : Thread nD τ) (st6_1 t) fullShare ((dat V O R c).after 1 t)
    ∗ owns (c : Thread nD τ) (st6_2 t) fullShare ((dat V O R c).after 2 t)
    ∗ owns (c : Thread nD τ) (st6_3 t) fullShare ((dat V O R c).after 3 t)
    ∗ owns (c : Thread nD τ) (st6_4 t) fullShare ((dat V O R c).after 4 t)
    ∗ owns (c : Thread nD τ) (st6_5 t) fullShare ((dat V O R c).after 5 t)
    ∗ owns (c : Thread nD τ) (st6_6 t) fullShare ((dat V O R c).after 6 t)
    ∗ owns (c : Thread nD τ) (st6_7 t) fullShare ((dat V O R c).after 7 t))

theorem sound_body (c : Dev nD) (t : Fin cfg6.N) :
    bodyPre V O R c t ⊢ wp frame (wpE (defs₀ (F := F)) Variants.none c none) Set.univ (bodyAt6 t) (fun _ => bodyPost V O R c t) := by
  unfold bodyPre bodyPost bodyAt6
  simp only [before6_0, before6_1, before6_2, before6_3, before6_4, before6_5, before6_6]
  rw [show (dat V O R c).Φ t.succ = (dat V O R c).Φ t.castSucc from rfl,
    show (dat V O R c).owesAt none t.succ = (dat V O R c).owesAt none t.castSucc from rfl,
    after6_0, after6_1, after6_2, after6_3, after6_4, after6_5, after6_6, after6_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ (iblk V c 0 t) (iblk V c 1 t) (iblk V c 2 t) (iblk V c 3 t) (iblk V c 4 t) (iblk V c 5 t) (iblk V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin cfg6.N) :
    defs₀ (F := F) .tc cfg6.body (cfg6.bodyArgs t (cfg6.slots t)) = bodyAt6 t := rfl

theorem body_obligation (c : Dev nD) : BodyObligation (dat V O R c) (defs₀ (F := F)) Variants.none none Set.univ := fun t => by
  rw [bigSep_W6, bigSep_W6, defs₀_row]
  exact triple_restated (sound_body V O R c t) rfl .rfl fun _ => .rfl

end Cert.Proof.Call6

end
-- ==== Proof.WholeRegions.lean ====
/-
  A TensorCore call inside the whole kernel: from the region boundary, the unscoped buffers at some contents and the
  TensorCore's standing between two SparseCore calls, the call runs to the same with its windows' arrays at what it leaves.
-/
module

public import proofs.«01_k».proof.Proof.WholeBase
public import proofs.«01_k».proof.Proof.Call0
public import proofs.«01_k».proof.Proof.Call1
public import proofs.«01_k».proof.Proof.Call2
public import proofs.«01_k».proof.Proof.Call4
public import proofs.«01_k».proof.Proof.Call6
public import Idealize.ShloMosaic.Lib.Pipeline.FrameSuffix
public import proofs.«01_k».proof.Proof.Gen.KernelIdeal.Launch

@[expose] public section

set_option maxRecDepth 16384

noncomputable section

namespace Cert.Proof.Whole

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig (HIx 2) (Elt F) ℕ UU ℕ

abbrev adm : (p : Fin 5) → (pcfgs (F := F) p).Adm := fun p => (cfgs p).toPCfg_adm

/-- The waits a TensorCore may have recorded before SparseCore call `n`. -/
def low (n : ℕ) (c : Dev nD) : Set (SemLoc sig × HIx 2) := {q | (K (F := F)).lev (T c, q.1) q.2 ≤ 8 * n}

/-- The buffers after a call: its arrays at the contents the last point leaves, the others as before. -/
abbrev leave (p : Fin 5) (dats : (p : Fin 5) → (c : Dev nD) → Dat τ (Elt F) (HIx 2) ℕ UU ℕ (pin (pcfgs (F := F)) adm p) c)
    (W : Dev nD → Valuation τ sig (Elt F)) (c : Dev nD) : Valuation τ sig (Elt F) :=
  withArrays (pin (pcfgs (F := F)) adm p).spec c (W c) fun w => (dats p c).arrAt w (pin (pcfgs (F := F)) adm p).N

section Step

variable (n : ℕ) (W : Dev nD → Valuation τ sig (Elt F))
  (dats : (p : Fin 5) → (c : Dev nD) → Dat τ (Elt F) (HIx 2) ℕ UU ℕ (pin (pcfgs (F := F)) adm p) c)
  (p : Fin 5)

/-- The call as a region: entered from its arrays and the TensorCore's debts with the waits recorded so far. -/
def seg (kit : PLaunchFacts (nD := nD) (τ := τ) (pcfgs (F := F)) p) (hK : (pcfgs (F := F) p).pre.K = 0)
    (hbody : ∀ c, BodyObligation (dats p c) (defs₀ (F := F)) Variants.none none Set.univ)
    (howed : ∀ c t, (dats p c).owed t = (K (F := F)).Otc c n) (hrec : ∀ c t, (dats p c).recorded t = low (F := F) n c)
    (hshare : ∀ c w, (dats p c).share w = fullShare)
    (hΦ : ∀ c t, (dats p c).Φ t = scopedRest (pin (pcfgs (F := F)) adm p).spec c)
    (hW : ∀ c w, (dats p c).arrAt w 0 = W c (Proc.devRef .tc (arrRef (pin (pcfgs (F := F)) adm p).spec w))) :
    RegionSeg (pcfgs (F := F)) adm dats none (defs₀ (F := F)) 𝒱₀ (K (F := F)).L (K (F := F)).lev p where
  win := kit.win.to₀
  block_pos := kit.block_pos
  stage_whole := kit.stage_whole
  K := PEmpty
  osem k := k.elim
  ho := OwnSemFacts.none _
  hbody c := (hbody c).loose
  hwaits c := cellsWaits_of_cut (pin (pcfgs (F := F)) adm) dats none p c 0 ((K (F := F)).Otc c n) (howed c)
    (fun _ _ => Finset.mem_univ _) (fun _ _ => le_refl _)
    fun g i h => ⟨Finset.mem_univ _, lt_of_lt_of_le (Nat.succ_pos _) (SparseCore.Cfg.lev_of_Otc_pos (K := K (F := F)) h)⟩
  pre c := iprop(StableHlo.held (c.tc : Thread nD τ) (arrRefs (pcfgs (F := F) p).spec) (W c)
    ∗ ∃ Wd, ⌜(K (F := F)).WBelow (T c) Wd (8 * n)⌝ ∗ owes (c.tc : Thread nD τ) ((K (F := F)).Otc c n) Wd)
  post c := iprop(StableHlo.held (c.tc : Thread nD τ) (arrRefs (pcfgs (F := F) p).spec) (leave p dats W c)
    ∗ ∃ Wd, ⌜(K (F := F)).WBelow (T c) Wd (8 * n)⌝ ∗ owes (c.tc : Thread nD τ) ((K (F := F)).Otc c n) Wd)
  X _ := iprop(emp)
  Y _ := iprop(emp)
  Z _ := iprop(emp)
  hentry c := by
    rw [← arrays_held (pcfgs (F := F)) adm dats p kit c (hshare c) ((dats p c).arrAt · 0) (W c) (hW c),
      ownSems0_none, prefHeld_of_none _ hK]
    iintro ⟨⟨Ha, ⟨%Wd, %hWd, HO⟩⟩, -, -⟩
    imodintro
    isplitl [Ha]; · iexact Ha
    isplitr; · iempintro
    isplitl [HO]
    · unfold Dat.owesAt owesWithin Dat.bound
      rw [howed c 0, hrec c 0]
      iexists Wd; isplitr; · ipureintro; exact fun q hq => Or.inl (hWd q hq)
      iexact HO
    isplitr <;> iempintro
  hin c := by
    rw [hΦ c 0]
    iintro ⟨-, -, H⟩
    iexact H
  hout c := by
    rw [hΦ c, ownSems0_none]
    iintro H
    isplitr; · iempintro
    isplitr; · iempintro
    iexact H
  hexit c := by
    rw [← arrays_held (pcfgs (F := F)) adm dats p kit c (hshare c) ((dats p c).arrAt · (pin (pcfgs (F := F)) adm p).N) (leave p dats W c)
      (fun w => (withArrays_arr (pin (pcfgs (F := F)) adm p).spec kit.win.arr_inj c (W c) (fun w => (dats p c).arrAt w (pin (pcfgs (F := F)) adm p).N) w).symm)]
    iintro ⟨Ha, HO, -, -⟩
    imodintro
    isplitl [Ha]; · iexact Ha
    unfold Dat.owesAt owesWithin Dat.bound
    rw [howed c (Fin.last _), hrec c (Fin.last _)]
    icases HO with ⟨%Wd, %hWd, HO⟩
    iexists Wd
    isplitr
    · ipureintro
      intro q hq
      rcases hWd hq with h | ⟨w, s, h⟩
      · exact h
      · rw [h]; exact Nat.zero_le _
    · iexact HO

theorem step (kit : PLaunchFacts (nD := nD) (τ := τ) (pcfgs (F := F)) p) (hK : (pcfgs (F := F) p).pre.K = 0)
    (hun : ∀ w, (arrRef (pcfgs (F := F) p).spec w).isScoped = false)
    (hbody : ∀ c, BodyObligation (dats p c) (defs₀ (F := F)) Variants.none none Set.univ)
    (howed : ∀ c t, (dats p c).owed t = (K (F := F)).Otc c n) (hrec : ∀ c t, (dats p c).recorded t = low (F := F) n c)
    (hshare : ∀ c w, (dats p c).share w = fullShare)
    (hΦ : ∀ c t, (dats p c).Φ t = scopedRest (pin (pcfgs (F := F)) adm p).spec c)
    (hW : ∀ c w, (dats p c).arrAt w 0 = W c (Proc.devRef .tc (arrRef (pin (pcfgs (F := F)) adm p).spec w)))
    (P : (K (F := F)).Pay (nD := nD) (Val := Elt F) (Name := ℕ) (U := UU)) (κ : GSem nD τ sig → ℕ) (d : Dev nD) (Q : PUnit → sProp 𝕄) :
    iprop((K (F := F)).ctx EH P κ ∗ (boundary (T d) ∗ StableHlo.held (d.tc : Thread nD τ) (ucRefs τ sig) (W d) ∗ (K (F := F)).tcSt EH d n)
        ∗ (cellsGhost (pin (pcfgs (F := F)) adm) EP p d ∗ toksInit (pin (pcfgs (F := F)) adm) EP p d)
        ∗ ((boundary (T d) ∗ StableHlo.held (d.tc : Thread nD τ) (ucRefs τ sig) (leave p dats W d) ∗ (K (F := F)).tcSt EH d n) -∗ Q ⟨⟩))
      ⊢ wp frame (wpE ((K (F := F)).defs (D (F := F))) 𝒱 (T d) none) Set.univ
          (Prog.lift (.customCall (SparseCore.inner (Pipeline.entry p)) ())) Q := by
  refine BI.Entails.trans ?_ ((K (F := F)).wp_liftProg (D (F := F)) 𝒱 (T d) Set.univ none (Prog.lift (.customCall (Pipeline.entry p) ())) Q)
  refine BI.Entails.trans ?_ (RegionSeg.wp (pcfgs (F := F)) adm dats none (kit.cellOf_inj adm) EP (defs₀ (F := F)) 𝒱₀ (K (F := F)).L (K (F := F)).lev
    (seg n W dats p kit hK hbody howed hrec hshare hΦ hW) d none (fun _ h => nomatch h) .ret Q)
  rw [StableHlo.held_sub_split _ (arrRefs_sub_ucRefs (pcfgs (F := F) p).spec hun) (W d),
    StableHlo.held_sub_split _ (arrRefs_sub_ucRefs (pcfgs (F := F) p).spec hun) (leave p dats W d),
    StableHlo.held_congr (V := leave p dats W d) (V' := W d) (S := ucRefs τ sig \ arrRefs (pcfgs (F := F) p).spec) _ (fun b hb => by
      obtain ⟨r, -, rfl⟩ := Finset.mem_map.mp (Finset.mem_filter.mp (Finset.mem_sdiff.mp hb).1).1
      exact withArrays_of_ne _ d (W d) _ r fun w e => (Finset.mem_sdiff.mp hb).2
        (Finset.mem_map.mpr ⟨r, Finset.mem_image.mpr ⟨w, Finset.mem_univ _, e⟩, rfl⟩))]
  unfold SparseCore.Cfg.tcSt
  dsimp only [seg]
  change (_ : sProp 𝕄) ⊢ (_ : sProp 𝕄)
  iintro ⟨Hctx, ⟨Hb, ⟨Ha, Hrest⟩, ⟨HO, Htc⟩⟩, ⟨Hcg, Htk⟩, Hk⟩
  isplitl [Hrest Htc Hk]
  · iintro ⟨Hb, ⟨Ha, HO⟩⟩
    rw [wp_ret]
    imodintro
    iapply Hk
    isplitl [Hb]; · iexact Hb
    isplitl [Ha Hrest]
    · isplitl [Ha]; · iexact Ha
      iexact Hrest
    isplitl [HO]; · iexact HO
    iexact Htc
  isplitl [Hb]; · iexact Hb
  isplitl [Ha HO]
  · isplitl [Ha]; · iexact Ha
    iexact HO
  isplitl [Hctx]; · iapply (SparseCore.Cfg.ctx_levAts κ) $$ Hctx
  isplitl [Hcg]; · iexact Hcg
  iexact Htk

end Step

end Cert.Proof.Whole

end
-- ==== Proof.GatherSims.lean ====
/-
  The row gather `cc3_k` of the whole kernel: thirty-two tasks, sixteen vector subcores on each of two SparseCores. Task
  `w = 2 * subcore + core` copies the row numbers `512 * w, …, 512 * w + 511` of the list into its index scratch, gathers the
  named rows of the table into its row scratch by one indirect transfer, and copies them out to the same positions of the
  result. With every row number below 1605632 no transfer leaves the table, and the result's row `k` is the table's row
  number `k`.
-/
module

public import proofs.«01_k».proof.Proof.WholeBase
public import Idealize.ShloMosaic.Lib.SparseCore.Quiescent
public import Idealize.ShloMosaic.Lib.SparseCore.Ops
public import Idealize.ShloMosaic.Lib.SparseCore.Stream
public import Idealize.ShloMosaic.Lib.SparseCore.FromWhole
public import Idealize.ShloMosaic.Lib.StableHlo.Run
public import Idealize.ShloMosaic.Lib.Pipeline.Kit
public import Idealize.ShloMosaic.Lib.Pointwise
public import Idealize.ShloMosaic.Lib.Tactic
public import proofs.«01_k».proof.Proof.Gen.KernelIdeal
public import proofs.«01_k».proof.Proof.Gen.KernelIdeal.Skeleton

@[expose] public section

set_option maxRecDepth 16384

noncomputable section

namespace Cert.Proof.GatherSims

open Cert.KernelIdeal Cert.KernelIdeal.Gen
open Cert.Proof.Whole

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

/-! ## The buffers, and the rows each task serves -/

abbrev iLoc (d : Dev nD) : Loc nD τ sig := (SparseCore.T d).loc main_v9
abbrev xLoc (d : Dev nD) : Loc nD τ sig := (SparseCore.T d).loc main_v8
abbrev oLoc (d : Dev nD) : Loc nD τ sig := (SparseCore.T d).loc main_v10

abbrev iV : Memref sig Kind.scVector Space.hbm S16384 EltTy.i32 := Memref.whole main_v9_scv
abbrev xV : Memref sig Kind.scVector Space.hbm S1605632x128 EltTy.f32 := Memref.whole main_v8_scv
abbrev oV : Memref sig Kind.scVector Space.hbm S16384x128 EltTy.f32 := Memref.whole main_v10_scv
abbrev sV : Memref sig Kind.scVector Space.vmem S512 EltTy.i32 := Memref.whole cc3_scratch0
abbrev rV : Memref sig Kind.scVector Space.vmem S512x128 EltTy.f32 := Memref.whole cc3_scratch1

theorem idiv : 32 ∣ S16384.size 0 := ⟨512, rfl⟩
theorem odiv : 32 ∣ S16384x128.size 0 := ⟨512, rfl⟩
abbrev irow (w : Fin 32) : Rect S16384 := Rect.part (s := S16384) (a₀ := 0) idiv w
abbrev orow (w : Fin 32) : Rect S16384x128 := Rect.part (s := S16384x128) (a₀ := 0) odiv w
abbrev iRowSet (w : Fin 32) : Finset S16384.Idx := ((iV).view.slice (irow w)).set
abbrev oRowSet (w : Fin 32) : Finset S16384x128.Idx := ((oV).view.slice (orow w)).set

/-- The task of subcore `s` of core `c`. -/
abbrev wk (c : Fin 2) (s : Fin 16) : Fin 32 := ⟨2 * s.val + c.val, by omega⟩
/-- The share of the table task `w` reads through. -/
abbrev xq (w : Fin 32) : PosShare TreeShare := Idealize.ShloMosaic.pieceOf fullShare 32 (by decide) w

/-- The rows of the table named by a list of row numbers. -/
def gath (fi : S16384.Idx → BitVec 32) (ft : S1605632x128.Idx → Elt F .f32) : S16384x128.Idx → Elt F .f32 :=
  fun x => ft (ix2 ⟨(fi (ix1 (x 0))).toNat % 1605632, Nat.mod_lt _ (by decide)⟩ (x 1))

variable [FloatOps F]
-- the list, the table, and what the result's buffer held before
variable (fi : (d : Dev nD) → Buf (Elt F) (iLoc d)) (ft : (d : Dev nD) → Buf (Elt F) (xLoc d)) (f₀ : (d : Dev nD) → Buf (Elt F) (oLoc d))

abbrev outV (d : Dev nD) : Buf (Elt F) (oLoc d) := gath (F := F) (fi d) (ft d)

/-- What task `w` is handed. -/
abbrev goW (d : Dev nD) (w : Fin 32) : sProp 𝕄 :=
  iprop((iLoc d ↦[iRowSet w]{fullShare} fi d) ∗ (xLoc d ↦{xq w} ft d) ∗ (oLoc d ↦[oRowSet w]{fullShare} f₀ d))
/-- What task `w` hands back. -/
abbrev tdW (d : Dev nD) (w : Fin 32) : sProp 𝕄 :=
  iprop((iLoc d ↦[iRowSet w]{fullShare} fi d) ∗ (xLoc d ↦{xq w} ft d) ∗ (oLoc d ↦[oRowSet w]{fullShare} outV fi ft d))
/-- What SparseCore `c` is handed, and hands back: its sixteen tasks'. -/
abbrev stC (d : Dev nD) (c : Fin 2) : sProp 𝕄 := bigSep Finset.univ fun s : Fin 16 => goW fi ft f₀ d (wk c s)
abbrev dnC (d : Dev nD) (c : Fin 2) : sProp 𝕄 := bigSep Finset.univ fun s : Fin 16 => tdW fi ft d (wk c s)

/-- Every number in the list is a row of the table. -/
def InRange : Prop := ∀ (d : Dev nD) (j : S16384.Idx), (fi d j : BitVec 32).toNat < 1605632

/-! ## The task -/

section Tile

variable (d : Dev nD) (L : grid3.Coords)

abbrev cV (L : grid3.Coords) : Fin τ.nSC := (L 0).castLE hcore3
abbrev jV (L : grid3.Coords) : Fin τ.nSub := (L 1).castLE hsub3
omit [FloatOps F] in
theorem bound_zero : grid3.bound 0 = 2 := rfl
omit [FloatOps F] in
theorem bound_one : grid3.bound 1 = 16 := rfl
abbrev wL (L : grid3.Coords) : Fin 32 := wk (Fin.cast bound_zero (L 0)) (Fin.cast bound_one (L 1))

abbrev irowK (L : grid3.Coords) : Rect S16384 := Rect.unit (s := S16384) (k3_off1 L) S512.size (k3_off1_inb L)
abbrev orowK (L : grid3.Coords) : Rect S16384x128 := Rect.unit (s := S16384x128) (k3_off2 L) S512x128.size (k3_off2_inb L)
abbrev iRowK (L : grid3.Coords) : Memref sig .scVector .hbm S512 .i32 := (iV).slice (irowK L) (fun _ => rfl)
abbrev oRowK (L : grid3.Coords) : Memref sig .scVector .hbm S512x128 .f32 := (oV).slice (orowK L) (fun _ => rfl)
abbrev xAllK : Memref sig .scVector .hbm S1605632x128 .f32 := (xV).slice (Rect.unit (s := S1605632x128) ![0, 0] S1605632x128.size inb_S1605632x128_S1605632x128_0_0) (fun _ => rfl)

omit [FloatOps F] in
theorem irowK_eq : irowK L = irow (wL L) := by
  unfold irowK irow Rect.part Rect.block
  congr 1 <;> funext a
  · rw [k3_off1_eq]
    match a with
    | 0 =>
      simp [Shape.partIx, Shape.partSize]
      show 1024 * (L 1).val + 512 * (L 0).val = (2 * (L 1).val + (L 0).val) * 512
      omega
  · match a with
    | 0 => simp [Shape.partSize]
omit [FloatOps F] in
theorem orowK_eq : orowK L = orow (wL L) := by
  unfold orowK orow Rect.part Rect.block
  congr 1 <;> funext a
  · rw [k3_off2_eq]
    match a with
    | 0 =>
      simp [Shape.partIx, Shape.partSize]
      show 1024 * (L 1).val + 512 * (L 0).val = (2 * (L 1).val + (L 0).val) * 512
      omega
    | 1 => simp [Shape.partIx, Shape.partSize]
  · match a with
    | 0 => simp [Shape.partSize]
    | 1 => simp [Shape.partSize]

omit [FloatOps F] in
theorem set_iRowK : (iRowK L).view.set = iRowSet (wL L) := by
  show ((iV).view.slice (irowK L)).set = ((iV).view.slice (irow (wL L))).set
  exact irowK_eq L ▸ rfl
omit [FloatOps F] in
theorem set_oRowK : (oRowK L).view.set = oRowSet (wL L) := by
  show ((oV).view.slice (orowK L)).set = ((oV).view.slice (orow (wL L))).set
  exact orowK_eq L ▸ rfl

omit [FloatOps F] in
theorem pts_iRowK (f : Buf (Elt F) (iLoc d)) :
    ((iRowK L).view.loc (V d (cV L) (jV L)) ↦[(iRowK L).view.set]{fullShare} f : sProp 𝕄) = iLoc d ↦[iRowSet (wL L)]{fullShare} f := by
  rw [set_iRowK]
omit [FloatOps F] in
theorem pts_oRowK (f : Buf (Elt F) (oLoc d)) :
    ((oRowK L).view.loc (V d (cV L) (jV L)) ↦[(oRowK L).view.set]{fullShare} f : sProp 𝕄) = oLoc d ↦[oRowSet (wL L)]{fullShare} f := by
  rw [set_oRowK]
omit [FloatOps F] in
theorem pts_xV (q : PosShare TreeShare) (f : Buf (Elt F) (xLoc d)) :
    ((xAllK).view.loc (V d (cV L) (jV L)) ↦{q} f : sProp 𝕄) = xLoc d ↦{q} f := rfl
omit [FloatOps F] in
theorem pts_sV (f : Buf (Elt F) ((V d (cV L) (jV L)).loc cc3_scratch0)) :
    ((sV).view.loc (V d (cV L) (jV L)) ↦{fullShare} f : sProp 𝕄) = (V d (cV L) (jV L)).loc cc3_scratch0 ↦{fullShare} f := rfl
omit [FloatOps F] in
theorem pts_rV (f : Buf (Elt F) ((V d (cV L) (jV L)).loc cc3_scratch1)) :
    ((rV).view.loc (V d (cV L) (jV L)) ↦{fullShare} f : sProp 𝕄) = (V d (cV L) (jV L)).loc cc3_scratch1 ↦{fullShare} f := rfl

abbrev cAcell (d : Dev nD) (c : Fin τ.nSC) (i : Fin τ.nSub) : GSem nD τ sig := (V d c i, .dma cc3_scoped0.sem)
abbrev cBcell (d : Dev nD) (c : Fin τ.nSC) (i : Fin τ.nSub) : GSem nD τ sig := (V d c i, .dma cc3_scratch2.sem)
abbrev cCcell (d : Dev nD) (c : Fin τ.nSC) (i : Fin τ.nSub) : GSem nD τ sig := (V d c i, .dma cc3_scoped1.sem)

omit [FloatOps F] in
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc3_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc3_scratch2.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc3_scoped1.sem : SemLoc sig).isScoped .scVector = true; decide⟩⟩⟩)]

omit [FloatOps F] in
/-- The two scratch buffers are among the subcore's own: they, at some contents, and the rest. -/
theorem ownBufs_V :
    (ownBufs (V d (cV L) (jV L)) : sProp 𝕄)
      = iprop((∃ f, (V d (cV L) (jV L)).loc cc3_scratch0 ↦{fullShare} f) ∗ (∃ f, (V d (cV L) (jV L)).loc cc3_scratch1 ↦{fullShare} f)
          ∗ bigSep (((ownRefs (τ := τ) (.scVector (cV L) (jV L))).erase ((Proc.scVector (cV L) (jV L)).devRef cc3_scratch0)).erase
              ((Proc.scVector (cV L) (jV L)).devRef cc3_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc3_scratch0) rfl)).trans ?_
  rw [SparseCore.bigSep_erase' (Finset.mem_erase.mpr ⟨fun e => absurd (Proc.devRef_injective _ e) (show (cc3_scratch1 : Ref sig .scVector) ≠ cc3_scratch0 by decide),
    SparseCore.Cfg.mem_ownRefs_of_owner (p := Proc.scVector (cV L) (jV L)) (b := (Proc.scVector (cV L) (jV L)).devRef cc3_scratch1) rfl⟩)]

/-- The numbers the indirect transfer reads are in range: what landed in the index scratch is the task's part of the list. -/
theorem inb_of_range (hpre : InRange fi) (fs : Buf (Elt F) ((V d (cV L) (jV L)).loc cc3_scratch0)) (pay : S512.Idx → Elt F .i32)
    (hpay : pay = (iRowK L).view.read (Elt F) (fi d)) :
    ∀ x, ((sV).view.read (Elt F) (View.write (Elt F) (sV).view fs pay Finset.univ) x).toNat < S1605632x128.size gathers_S1605632x128_S512x128.axis := by
  subst hpay; intro x
  rw [View.write_whole_univ]
  simp only [Memref.view_whole, View.read_whole]
  rw [show ∀ j, (iRowK L).view.read (Elt F) (fi d) j = fi d ((iRowK L).view.emb j) from fun j => (View.read_apply _ _).trans (cast_eq _ _)]
  exact hpre d _

omit [FloatOps F] in
theorem emb_iRowK (x : S512.Idx) (h : 1024 * (L 1).val + 512 * (L 0).val + (x 0).val < 16384) :
    (iRowK L).view.emb x = ix1 ⟨1024 * (L 1).val + 512 * (L 0).val + (x 0).val, h⟩ := by
  funext a
  match a with
  | 0 => exact Fin.ext (by show (k3_off1 L) 0 + 1 * (x 0).val = _; rw [k3_off1_eq]; simp)
omit [FloatOps F] in
theorem emb_oRowK (x : S512x128.Idx) (h : 1024 * (L 1).val + 512 * (L 0).val + (x 0).val < 16384) :
    (oRowK L).view.emb x = ix2 ⟨1024 * (L 1).val + 512 * (L 0).val + (x 0).val, h⟩ (x 1) := by
  funext a
  match a with
  | 0 => exact Fin.ext (by show (k3_off2 L) 0 + 1 * (x 0).val = _; rw [k3_off2_eq]; simp)
  | 1 => exact Fin.ext (by show (k3_off2 L) 1 + 1 * (x 1).val = _; rw [k3_off2_eq]; simp)
omit [FloatOps F] in
theorem emb_xAllK (x : S1605632x128.Idx) : (xAllK).view.emb x = x := by
  funext a
  match a with
  | 0 => exact Fin.ext (by show 0 + 1 * (x 0).val = _; simp)
  | 1 => exact Fin.ext (by show 0 + 1 * (x 1).val = _; simp)

/-- What the copy out writes on the task's rows of the result is the gathered rows. -/
theorem out_eq (hpre : InRange fi) (fs : Buf (Elt F) ((V d (cV L) (jV L)).loc cc3_scratch0)) (fr : Buf (Elt F) ((V d (cV L) (jV L)).loc cc3_scratch1))
    (pay : S512.Idx → Elt F .i32) (hpay : pay = (iRowK L).view.read (Elt F) (fi d))
    (hin : ∀ x, ((sV).view.read (Elt F) (View.write (Elt F) (sV).view fs pay Finset.univ) x).toNat < S1605632x128.size gathers_S1605632x128_S512x128.axis)
    (hn : S512.numel = S512x128.size gathers_S1605632x128_S512x128.axis')
    (pay' : S512x128.Idx → Elt F .f32)
    (hpay' : pay' = (rV).view.read (Elt F) (View.write (Elt F) (rV).view fr (SparseCore.gatherPayload gathers_S1605632x128_S512x128 ((xAllK).view.read (Elt F) (ft d))
      (SparseCore.rows ((sV).view.read (Elt F) (View.write (Elt F) (sV).view fs pay Finset.univ)) hn hin)) Finset.univ)) :
    ∀ i ∈ (oRowK L).view.set, (oRowK L).view.writes (Elt F) (f₀ d) [⟨Rect.whole S512x128, pay'⟩] i = outV fi ft d i := by
  subst hpay hpay'
  intro i hi
  rw [← View.write_univ_eq_writes_whole, View.writes_nil]
  obtain ⟨x, -, rfl⟩ := Finset.mem_map.mp hi
  rw [View.write_emb_of_mem _ _ (Finset.mem_univ x), View.read_write_univ]
  refine (cast_eq _ _).trans ?_
  have hb : 1024 * (L 1).val + 512 * (L 0).val + (x 0).val < 16384 := by
    have h0 : (L 0).val < 2 := (L 0).isLt
    have h1 : (L 1).val < 16 := (L 1).isLt
    have hx : (x 0).val < 512 := (x 0).isLt
    omega
  rw [emb_oRowK L x hb]
  unfold SparseCore.gatherPayload
  rw [View.read_apply, emb_xAllK]
  refine (cast_eq _ _).trans ?_
  unfold outV gath
  congr 1
  have hw : ∀ k : Fin 512, (sV).view.read (Elt F) (View.write (Elt F) (sV).view fs ((iRowK L).view.read (Elt F) (fi d)) Finset.univ) (S512.rowMajor.symm (k.cast hn.symm))
      = fi d ((iRowK L).view.emb (S512.rowMajor.symm (k.cast hn.symm))) := fun k => by
    rw [View.read_write_univ]; exact (View.read_apply _ _).trans (cast_eq _ _)
  have hk : ∀ k : Fin 512, ((S512.rowMajor.symm (k.cast hn.symm)) 0).val = k.val := fun k => by
    refine (Shape.rowMajor_val_one (S512.rowMajor.symm (k.cast hn.symm))).symm.trans ?_
    exact congrArg Fin.val (Equiv.apply_symm_apply S512.rowMajor (k.cast hn.symm))
  funext a
  match a with
  | 0 =>
    refine Fin.ext ?_
    refine (congrArg Fin.val (Shape.Gathers.idx_axis gathers_S1605632x128_S512x128 _ x)).trans ?_
    show ((sV).view.read (Elt F) (View.write (Elt F) (sV).view fs ((iRowK L).view.read (Elt F) (fi d)) Finset.univ) (S512.rowMajor.symm ((x 0 : Fin 512).cast hn.symm)) : BitVec 32).toNat
      = (fi d (ix1 ⟨1024 * (L 1).val + 512 * (L 0).val + (x 0).val, hb⟩) : BitVec 32).toNat % 1605632
    rw [Nat.mod_eq_of_lt (hpre d _)]
    refine (congrArg BitVec.toNat (hw (x 0))).trans ?_
    rw [emb_iRowK L _ (by rw [hk (x 0)]; exact hb)]
    refine congrArg (fun j => (fi d (ix1 j) : BitVec 32).toNat) (Fin.ext ?_)
    show 1024 * (L 1).val + 512 * (L 0).val + _ = 1024 * (L 1).val + 512 * (L 0).val + _
    rw [hk (x 0)]
  | 1 => exact Fin.ext (Shape.Gathers.idx_of_ne gathers_S1605632x128_S512x128 _ x 1 (by decide))

end Tile

/-! ## The rows split and join, and the shares of the table -/

omit [FloatOps F] in
theorem iRowSet_eq (w : Fin 32) : iRowSet w = (irow w).set := by
  show ((View.whole (main_v9_scv : Ref sig .scVector)).slice (irow w)).set = _
  rw [View.set_slice]; exact Finset.map_refl
omit [FloatOps F] in
theorem oRowSet_eq (w : Fin 32) : oRowSet w = (orow w).set := by
  show ((View.whole (main_v10_scv : Ref sig .scVector)).slice (orow w)).set = _
  rw [View.set_slice]; exact Finset.map_refl
omit [FloatOps F] in
theorem irows_disjoint : ∀ i ∈ (Finset.univ : Finset (Fin 32)), ∀ j ∈ (Finset.univ : Finset (Fin 32)), i ≠ j → Disjoint (iRowSet i) (iRowSet j) :=
  fun i _ j _ h => by rw [iRowSet_eq, iRowSet_eq]; exact Rect.part_disjoint idiv h
omit [FloatOps F] in
theorem orows_disjoint : ∀ i ∈ (Finset.univ : Finset (Fin 32)), ∀ j ∈ (Finset.univ : Finset (Fin 32)), i ≠ j → Disjoint (oRowSet i) (oRowSet j) :=
  fun i _ j _ h => by rw [oRowSet_eq, oRowSet_eq]; exact Rect.part_disjoint odiv h
omit [FloatOps F] in
theorem irows_cover : (Finset.univ : Finset (Fin 32)).biUnion iRowSet = Finset.univ :=
  (Finset.biUnion_congr rfl fun i _ => iRowSet_eq i).trans (Rect.biUnion_part idiv)
omit [FloatOps F] in
theorem orows_cover : (Finset.univ : Finset (Fin 32)).biUnion oRowSet = Finset.univ :=
  (Finset.biUnion_congr rfl fun i _ => oRowSet_eq i).trans (Rect.biUnion_part odiv)

omit [FloatOps F] in
theorem iPts_rows (d : Dev nD) (f : Buf (Elt F) (iLoc d)) :
    (iLoc d ↦{fullShare} f : sProp 𝕄) = bigSep Finset.univ fun w : Fin 32 => iLoc d ↦[iRowSet w]{fullShare} f := by
  rw [← pointsTo_biUnion Finset.univ (ℓ := iLoc d) iRowSet irows_disjoint, irows_cover]
omit [FloatOps F] in
theorem oPts_rows (d : Dev nD) (f : Buf (Elt F) (oLoc d)) :
    (oLoc d ↦{fullShare} f : sProp 𝕄) = bigSep Finset.univ fun w : Fin 32 => oLoc d ↦[oRowSet w]{fullShare} f := by
  rw [← pointsTo_biUnion Finset.univ (ℓ := oLoc d) oRowSet orows_disjoint, orows_cover]
omit [FloatOps F] in
theorem xPts_shares (d : Dev nD) (f : Buf (Elt F) (xLoc d)) :
    (xLoc d ↦{fullShare} f : sProp 𝕄) = bigSep Finset.univ fun w : Fin 32 => xLoc d ↦{xq w} f :=
  Idealize.ShloMosaic.pointsTo_piecesOf Finset.univ f (by decide) fullShare

omit [FloatOps F] in
/-- The thirty-two tasks, core by core. -/
theorem bigSep_cores (Φ : Fin 32 → sProp 𝕄) :
    bigSep Finset.univ Φ = bigSep Finset.univ fun c : Fin 2 => bigSep Finset.univ fun s : Fin 16 => Φ (wk c s) := by
  rw [bigSep_univ_equiv ((Equiv.prodComm (Fin 2) (Fin 16)).trans (finProdFinEquiv : Fin 16 × Fin 2 ≃ Fin (16 * 2))) Φ, bigSep_univ_prod]
  refine bigSep_congr fun c _ => bigSep_congr fun s _ => congrArg Φ (Fin.ext ?_)
  show c.val + 2 * s.val = 2 * s.val + c.val
  omega

/-- The operands, whole, are what the two cores are handed. -/
theorem st_eq (d : Dev nD) :
    (iprop((iLoc d ↦{fullShare} fi d) ∗ (xLoc d ↦{fullShare} ft d) ∗ (oLoc d ↦{fullShare} f₀ d)) : sProp 𝕄)
      = bigSep Finset.univ fun c : Fin 2 => stC fi ft f₀ d c := by
  rw [iPts_rows, xPts_shares, oPts_rows, ← bigSep_sep', ← bigSep_sep', bigSep_cores]
/-- What the two cores hand back is the operands, whole, the result at the gathered rows. -/
theorem dn_eq (d : Dev nD) :
    (iprop((iLoc d ↦{fullShare} fi d) ∗ (xLoc d ↦{fullShare} ft d) ∗ (oLoc d ↦{fullShare} outV fi ft d)) : sProp 𝕄)
      = bigSep Finset.univ fun c : Fin 2 => dnC fi ft d c := by
  rw [iPts_rows, xPts_shares, oPts_rows, ← bigSep_sep', ← bigSep_sep', bigSep_cores]

end Cert.Proof.GatherSims

end
-- ==== Proof.GatherVals.lean ====
/-
  The row gather `cc5_k` of the whole kernel: thirty-two tasks, sixteen vector subcores on each of two SparseCores. Task
  `w = 2 * subcore + core` copies the row numbers `512 * w, …, 512 * w + 511` of the list into its index scratch, gathers the
  named rows of the table into its row scratch by one indirect transfer, and copies them out to the same positions of the
  result. With every row number below 100000 no transfer leaves the table, and the result's row `k` is the table's row
  number `k`.
-/
module

public import proofs.«01_k».proof.Proof.WholeBase
public import Idealize.ShloMosaic.Lib.SparseCore.Quiescent
public import Idealize.ShloMosaic.Lib.SparseCore.Ops
public import Idealize.ShloMosaic.Lib.SparseCore.Stream
public import Idealize.ShloMosaic.Lib.SparseCore.FromWhole
public import Idealize.ShloMosaic.Lib.StableHlo.Run
public import Idealize.ShloMosaic.Lib.Pipeline.Kit
public import Idealize.ShloMosaic.Lib.Pointwise
public import Idealize.ShloMosaic.Lib.Tactic
public import proofs.«01_k».proof.Proof.Gen.KernelIdeal
public import proofs.«01_k».proof.Proof.Gen.KernelIdeal.Skeleton

@[expose] public section

set_option maxRecDepth 16384

noncomputable section

namespace Cert.Proof.GatherVals

open Cert.KernelIdeal Cert.KernelIdeal.Gen
open Cert.Proof.Whole

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

/-! ## The buffers, and the rows each task serves -/

abbrev iLoc (d : Dev nD) : Loc nD τ sig := (SparseCore.T d).loc main_v13
abbrev xLoc (d : Dev nD) : Loc nD τ sig := (SparseCore.T d).loc main_arg2
abbrev oLoc (d : Dev nD) : Loc nD τ sig := (SparseCore.T d).loc main_v14

abbrev iV : Memref sig Kind.scVector Space.hbm S16384 EltTy.i32 := Memref.whole main_v13_scv
abbrev xV : Memref sig Kind.scVector Space.hbm S100000x128 EltTy.f32 := Memref.whole main_arg2_scv
abbrev oV : Memref sig Kind.scVector Space.hbm S16384x128 EltTy.f32 := Memref.whole main_v14_scv
abbrev sV : Memref sig Kind.scVector Space.vmem S512 EltTy.i32 := Memref.whole cc5_scratch0
abbrev rV : Memref sig Kind.scVector Space.vmem S512x128 EltTy.f32 := Memref.whole cc5_scratch1

theorem idiv : 32 ∣ S16384.size 0 := ⟨512, rfl⟩
theorem odiv : 32 ∣ S16384x128.size 0 := ⟨512, rfl⟩
abbrev irow (w : Fin 32) : Rect S16384 := Rect.part (s := S16384) (a₀ := 0) idiv w
abbrev orow (w : Fin 32) : Rect S16384x128 := Rect.part (s := S16384x128) (a₀ := 0) odiv w
abbrev iRowSet (w : Fin 32) : Finset S16384.Idx := ((iV).view.slice (irow w)).set
abbrev oRowSet (w : Fin 32) : Finset S16384x128.Idx := ((oV).view.slice (orow w)).set

/-- The task of subcore `s` of core `c`. -/
abbrev wk (c : Fin 2) (s : Fin 16) : Fin 32 := ⟨2 * s.val + c.val, by omega⟩
/-- The share of the table task `w` reads through. -/
abbrev xq (w : Fin 32) : PosShare TreeShare := Idealize.ShloMosaic.pieceOf fullShare 32 (by decide) w

/-- The rows of the table named by a list of row numbers. -/
def gath (fi : S16384.Idx → BitVec 32) (ft : S100000x128.Idx → Elt F .f32) : S16384x128.Idx → Elt F .f32 :=
  fun x => ft (ix2 ⟨(fi (ix1 (x 0))).toNat % 100000, Nat.mod_lt _ (by decide)⟩ (x 1))

variable [FloatOps F]
-- the list, the table, and what the result's buffer held before
variable (fi : (d : Dev nD) → Buf (Elt F) (iLoc d)) (ft : (d : Dev nD) → Buf (Elt F) (xLoc d)) (f₀ : (d : Dev nD) → Buf (Elt F) (oLoc d))

abbrev outV (d : Dev nD) : Buf (Elt F) (oLoc d) := gath (F := F) (fi d) (ft d)

/-- What task `w` is handed. -/
abbrev goW (d : Dev nD) (w : Fin 32) : sProp 𝕄 :=
  iprop((iLoc d ↦[iRowSet w]{fullShare} fi d) ∗ (xLoc d ↦{xq w} ft d) ∗ (oLoc d ↦[oRowSet w]{fullShare} f₀ d))
/-- What task `w` hands back. -/
abbrev tdW (d : Dev nD) (w : Fin 32) : sProp 𝕄 :=
  iprop((iLoc d ↦[iRowSet w]{fullShare} fi d) ∗ (xLoc d ↦{xq w} ft d) ∗ (oLoc d ↦[oRowSet w]{fullShare} outV fi ft d))
/-- What SparseCore `c` is handed, and hands back: its sixteen tasks'. -/
abbrev stC (d : Dev nD) (c : Fin 2) : sProp 𝕄 := bigSep Finset.univ fun s : Fin 16 => goW fi ft f₀ d (wk c s)
abbrev dnC (d : Dev nD) (c : Fin 2) : sProp 𝕄 := bigSep Finset.univ fun s : Fin 16 => tdW fi ft d (wk c s)

/-- Every number in the list is a row of the table. -/
def InRange : Prop := ∀ (d : Dev nD) (j : S16384.Idx), (fi d j : BitVec 32).toNat < 100000

/-! ## The task -/

section Tile

variable (d : Dev nD) (L : grid5.Coords)

abbrev cV (L : grid5.Coords) : Fin τ.nSC := (L 0).castLE hcore5
abbrev jV (L : grid5.Coords) : Fin τ.nSub := (L 1).castLE hsub5
omit [FloatOps F] in
theorem bound_zero : grid5.bound 0 = 2 := rfl
omit [FloatOps F] in
theorem bound_one : grid5.bound 1 = 16 := rfl
abbrev wL (L : grid5.Coords) : Fin 32 := wk (Fin.cast bound_zero (L 0)) (Fin.cast bound_one (L 1))

abbrev irowK (L : grid5.Coords) : Rect S16384 := Rect.unit (s := S16384) (k5_off1 L) S512.size (k5_off1_inb L)
abbrev orowK (L : grid5.Coords) : Rect S16384x128 := Rect.unit (s := S16384x128) (k5_off2 L) S512x128.size (k5_off2_inb L)
abbrev iRowK (L : grid5.Coords) : Memref sig .scVector .hbm S512 .i32 := (iV).slice (irowK L) (fun _ => rfl)
abbrev oRowK (L : grid5.Coords) : Memref sig .scVector .hbm S512x128 .f32 := (oV).slice (orowK L) (fun _ => rfl)
abbrev xAllK : Memref sig .scVector .hbm S100000x128 .f32 := (xV).slice (Rect.unit (s := S100000x128) ![0, 0] S100000x128.size inb_S100000x128_S100000x128_0_0) (fun _ => rfl)

omit [FloatOps F] in
theorem irowK_eq : irowK L = irow (wL L) := by
  unfold irowK irow Rect.part Rect.block
  congr 1 <;> funext a
  · rw [k5_off1_eq]
    match a with
    | 0 =>
      simp [Shape.partIx, Shape.partSize]
      show 1024 * (L 1).val + 512 * (L 0).val = (2 * (L 1).val + (L 0).val) * 512
      omega
  · match a with
    | 0 => simp [Shape.partSize]
omit [FloatOps F] in
theorem orowK_eq : orowK L = orow (wL L) := by
  unfold orowK orow Rect.part Rect.block
  congr 1 <;> funext a
  · rw [k5_off2_eq]
    match a with
    | 0 =>
      simp [Shape.partIx, Shape.partSize]
      show 1024 * (L 1).val + 512 * (L 0).val = (2 * (L 1).val + (L 0).val) * 512
      omega
    | 1 => simp [Shape.partIx, Shape.partSize]
  · match a with
    | 0 => simp [Shape.partSize]
    | 1 => simp [Shape.partSize]

omit [FloatOps F] in
theorem set_iRowK : (iRowK L).view.set = iRowSet (wL L) := by
  show ((iV).view.slice (irowK L)).set = ((iV).view.slice (irow (wL L))).set
  exact irowK_eq L ▸ rfl
omit [FloatOps F] in
theorem set_oRowK : (oRowK L).view.set = oRowSet (wL L) := by
  show ((oV).view.slice (orowK L)).set = ((oV).view.slice (orow (wL L))).set
  exact orowK_eq L ▸ rfl

omit [FloatOps F] in
theorem pts_iRowK (f : Buf (Elt F) (iLoc d)) :
    ((iRowK L).view.loc (V d (cV L) (jV L)) ↦[(iRowK L).view.set]{fullShare} f : sProp 𝕄) = iLoc d ↦[iRowSet (wL L)]{fullShare} f := by
  rw [set_iRowK]
omit [FloatOps F] in
theorem pts_oRowK (f : Buf (Elt F) (oLoc d)) :
    ((oRowK L).view.loc (V d (cV L) (jV L)) ↦[(oRowK L).view.set]{fullShare} f : sProp 𝕄) = oLoc d ↦[oRowSet (wL L)]{fullShare} f := by
  rw [set_oRowK]
omit [FloatOps F] in
theorem pts_xV (q : PosShare TreeShare) (f : Buf (Elt F) (xLoc d)) :
    ((xAllK).view.loc (V d (cV L) (jV L)) ↦{q} f : sProp 𝕄) = xLoc d ↦{q} f := rfl
omit [FloatOps F] in
theorem pts_sV (f : Buf (Elt F) ((V d (cV L) (jV L)).loc cc5_scratch0)) :
    ((sV).view.loc (V d (cV L) (jV L)) ↦{fullShare} f : sProp 𝕄) = (V d (cV L) (jV L)).loc cc5_scratch0 ↦{fullShare} f := rfl
omit [FloatOps F] in
theorem pts_rV (f : Buf (Elt F) ((V d (cV L) (jV L)).loc cc5_scratch1)) :
    ((rV).view.loc (V d (cV L) (jV L)) ↦{fullShare} f : sProp 𝕄) = (V d (cV L) (jV L)).loc cc5_scratch1 ↦{fullShare} f := rfl

abbrev cAcell (d : Dev nD) (c : Fin τ.nSC) (i : Fin τ.nSub) : GSem nD τ sig := (V d c i, .dma cc5_scoped0.sem)
abbrev cBcell (d : Dev nD) (c : Fin τ.nSC) (i : Fin τ.nSub) : GSem nD τ sig := (V d c i, .dma cc5_scratch2.sem)
abbrev cCcell (d : Dev nD) (c : Fin τ.nSC) (i : Fin τ.nSub) : GSem nD τ sig := (V d c i, .dma cc5_scoped1.sem)

omit [FloatOps F] in
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc5_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc5_scratch2.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc5_scoped1.sem : SemLoc sig).isScoped .scVector = true; decide⟩⟩⟩)]

omit [FloatOps F] in
/-- The two scratch buffers are among the subcore's own: they, at some contents, and the rest. -/
theorem ownBufs_V :
    (ownBufs (V d (cV L) (jV L)) : sProp 𝕄)
      = iprop((∃ f, (V d (cV L) (jV L)).loc cc5_scratch0 ↦{fullShare} f) ∗ (∃ f, (V d (cV L) (jV L)).loc cc5_scratch1 ↦{fullShare} f)
          ∗ bigSep (((ownRefs (τ := τ) (.scVector (cV L) (jV L))).erase ((Proc.scVector (cV L) (jV L)).devRef cc5_scratch0)).erase
              ((Proc.scVector (cV L) (jV L)).devRef cc5_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc5_scratch0) rfl)).trans ?_
  rw [SparseCore.bigSep_erase' (Finset.mem_erase.mpr ⟨fun e => absurd (Proc.devRef_injective _ e) (show (cc5_scratch1 : Ref sig .scVector) ≠ cc5_scratch0 by decide),
    SparseCore.Cfg.mem_ownRefs_of_owner (p := Proc.scVector (cV L) (jV L)) (b := (Proc.scVector (cV L) (jV L)).devRef cc5_scratch1) rfl⟩)]

/-- The numbers the indirect transfer reads are in range: what landed in the index scratch is the task's part of the list. -/
theorem inb_of_range (hpre : InRange fi) (fs : Buf (Elt F) ((V d (cV L) (jV L)).loc cc5_scratch0)) (pay : S512.Idx → Elt F .i32)
    (hpay : pay = (iRowK L).view.read (Elt F) (fi d)) :
    ∀ x, ((sV).view.read (Elt F) (View.write (Elt F) (sV).view fs pay Finset.univ) x).toNat < S100000x128.size gathers_S100000x128_S512x128.axis := by
  subst hpay; intro x
  rw [View.write_whole_univ]
  simp only [Memref.view_whole, View.read_whole]
  rw [show ∀ j, (iRowK L).view.read (Elt F) (fi d) j = fi d ((iRowK L).view.emb j) from fun j => (View.read_apply _ _).trans (cast_eq _ _)]
  exact hpre d _

omit [FloatOps F] in
theorem emb_iRowK (x : S512.Idx) (h : 1024 * (L 1).val + 512 * (L 0).val + (x 0).val < 16384) :
    (iRowK L).view.emb x = ix1 ⟨1024 * (L 1).val + 512 * (L 0).val + (x 0).val, h⟩ := by
  funext a
  match a with
  | 0 => exact Fin.ext (by show (k5_off1 L) 0 + 1 * (x 0).val = _; rw [k5_off1_eq]; simp)
omit [FloatOps F] in
theorem emb_oRowK (x : S512x128.Idx) (h : 1024 * (L 1).val + 512 * (L 0).val + (x 0).val < 16384) :
    (oRowK L).view.emb x = ix2 ⟨1024 * (L 1).val + 512 * (L 0).val + (x 0).val, h⟩ (x 1) := by
  funext a
  match a with
  | 0 => exact Fin.ext (by show (k5_off2 L) 0 + 1 * (x 0).val = _; rw [k5_off2_eq]; simp)
  | 1 => exact Fin.ext (by show (k5_off2 L) 1 + 1 * (x 1).val = _; rw [k5_off2_eq]; simp)
omit [FloatOps F] in
theorem emb_xAllK (x : S100000x128.Idx) : (xAllK).view.emb x = x := by
  funext a
  match a with
  | 0 => exact Fin.ext (by show 0 + 1 * (x 0).val = _; simp)
  | 1 => exact Fin.ext (by show 0 + 1 * (x 1).val = _; simp)

/-- What the copy out writes on the task's rows of the result is the gathered rows. -/
theorem out_eq (hpre : InRange fi) (fs : Buf (Elt F) ((V d (cV L) (jV L)).loc cc5_scratch0)) (fr : Buf (Elt F) ((V d (cV L) (jV L)).loc cc5_scratch1))
    (pay : S512.Idx → Elt F .i32) (hpay : pay = (iRowK L).view.read (Elt F) (fi d))
    (hin : ∀ x, ((sV).view.read (Elt F) (View.write (Elt F) (sV).view fs pay Finset.univ) x).toNat < S100000x128.size gathers_S100000x128_S512x128.axis)
    (hn : S512.numel = S512x128.size gathers_S100000x128_S512x128.axis')
    (pay' : S512x128.Idx → Elt F .f32)
    (hpay' : pay' = (rV).view.read (Elt F) (View.write (Elt F) (rV).view fr (SparseCore.gatherPayload gathers_S100000x128_S512x128 ((xAllK).view.read (Elt F) (ft d))
      (SparseCore.rows ((sV).view.read (Elt F) (View.write (Elt F) (sV).view fs pay Finset.univ)) hn hin)) Finset.univ)) :
    ∀ i ∈ (oRowK L).view.set, (oRowK L).view.writes (Elt F) (f₀ d) [⟨Rect.whole S512x128, pay'⟩] i = outV fi ft d i := by
  subst hpay hpay'
  intro i hi
  rw [← View.write_univ_eq_writes_whole, View.writes_nil]
  obtain ⟨x, -, rfl⟩ := Finset.mem_map.mp hi
  rw [View.write_emb_of_mem _ _ (Finset.mem_univ x), View.read_write_univ]
  refine (cast_eq _ _).trans ?_
  have hb : 1024 * (L 1).val + 512 * (L 0).val + (x 0).val < 16384 := by
    have h0 : (L 0).val < 2 := (L 0).isLt
    have h1 : (L 1).val < 16 := (L 1).isLt
    have hx : (x 0).val < 512 := (x 0).isLt
    omega
  rw [emb_oRowK L x hb]
  unfold SparseCore.gatherPayload
  rw [View.read_apply, emb_xAllK]
  refine (cast_eq _ _).trans ?_
  unfold outV gath
  congr 1
  have hw : ∀ k : Fin 512, (sV).view.read (Elt F) (View.write (Elt F) (sV).view fs ((iRowK L).view.read (Elt F) (fi d)) Finset.univ) (S512.rowMajor.symm (k.cast hn.symm))
      = fi d ((iRowK L).view.emb (S512.rowMajor.symm (k.cast hn.symm))) := fun k => by
    rw [View.read_write_univ]; exact (View.read_apply _ _).trans (cast_eq _ _)
  have hk : ∀ k : Fin 512, ((S512.rowMajor.symm (k.cast hn.symm)) 0).val = k.val := fun k => by
    refine (Shape.rowMajor_val_one (S512.rowMajor.symm (k.cast hn.symm))).symm.trans ?_
    exact congrArg Fin.val (Equiv.apply_symm_apply S512.rowMajor (k.cast hn.symm))
  funext a
  match a with
  | 0 =>
    refine Fin.ext ?_
    refine (congrArg Fin.val (Shape.Gathers.idx_axis gathers_S100000x128_S512x128 _ x)).trans ?_
    show ((sV).view.read (Elt F) (View.write (Elt F) (sV).view fs ((iRowK L).view.read (Elt F) (fi d)) Finset.univ) (S512.rowMajor.symm ((x 0 : Fin 512).cast hn.symm)) : BitVec 32).toNat
      = (fi d (ix1 ⟨1024 * (L 1).val + 512 * (L 0).val + (x 0).val, hb⟩) : BitVec 32).toNat % 100000
    rw [Nat.mod_eq_of_lt (hpre d _)]
    refine (congrArg BitVec.toNat (hw (x 0))).trans ?_
    rw [emb_iRowK L _ (by rw [hk (x 0)]; exact hb)]
    refine congrArg (fun j => (fi d (ix1 j) : BitVec 32).toNat) (Fin.ext ?_)
    show 1024 * (L 1).val + 512 * (L 0).val + _ = 1024 * (L 1).val + 512 * (L 0).val + _
    rw [hk (x 0)]
  | 1 => exact Fin.ext (Shape.Gathers.idx_of_ne gathers_S100000x128_S512x128 _ x 1 (by decide))

end Tile

/-! ## The rows split and join, and the shares of the table -/

omit [FloatOps F] in
theorem iRowSet_eq (w : Fin 32) : iRowSet w = (irow w).set := by
  show ((View.whole (main_v13_scv : Ref sig .scVector)).slice (irow w)).set = _
  rw [View.set_slice]; exact Finset.map_refl
omit [FloatOps F] in
theorem oRowSet_eq (w : Fin 32) : oRowSet w = (orow w).set := by
  show ((View.whole (main_v14_scv : Ref sig .scVector)).slice (orow w)).set = _
  rw [View.set_slice]; exact Finset.map_refl
omit [FloatOps F] in
theorem irows_disjoint : ∀ i ∈ (Finset.univ : Finset (Fin 32)), ∀ j ∈ (Finset.univ : Finset (Fin 32)), i ≠ j → Disjoint (iRowSet i) (iRowSet j) :=
  fun i _ j _ h => by rw [iRowSet_eq, iRowSet_eq]; exact Rect.part_disjoint idiv h
omit [FloatOps F] in
theorem orows_disjoint : ∀ i ∈ (Finset.univ : Finset (Fin 32)), ∀ j ∈ (Finset.univ : Finset (Fin 32)), i ≠ j → Disjoint (oRowSet i) (oRowSet j) :=
  fun i _ j _ h => by rw [oRowSet_eq, oRowSet_eq]; exact Rect.part_disjoint odiv h
omit [FloatOps F] in
theorem irows_cover : (Finset.univ : Finset (Fin 32)).biUnion iRowSet = Finset.univ :=
  (Finset.biUnion_congr rfl fun i _ => iRowSet_eq i).trans (Rect.biUnion_part idiv)
omit [FloatOps F] in
theorem orows_cover : (Finset.univ : Finset (Fin 32)).biUnion oRowSet = Finset.univ :=
  (Finset.biUnion_congr rfl fun i _ => oRowSet_eq i).trans (Rect.biUnion_part odiv)

omit [FloatOps F] in
theorem iPts_rows (d : Dev nD) (f : Buf (Elt F) (iLoc d)) :
    (iLoc d ↦{fullShare} f : sProp 𝕄) = bigSep Finset.univ fun w : Fin 32 => iLoc d ↦[iRowSet w]{fullShare} f := by
  rw [← pointsTo_biUnion Finset.univ (ℓ := iLoc d) iRowSet irows_disjoint, irows_cover]
omit [FloatOps F] in
theorem oPts_rows (d : Dev nD) (f : Buf (Elt F) (oLoc d)) :
    (oLoc d ↦{fullShare} f : sProp 𝕄) = bigSep Finset.univ fun w : Fin 32 => oLoc d ↦[oRowSet w]{fullShare} f := by
  rw [← pointsTo_biUnion Finset.univ (ℓ := oLoc d) oRowSet orows_disjoint, orows_cover]
omit [FloatOps F] in
theorem xPts_shares (d : Dev nD) (f : Buf (Elt F) (xLoc d)) :
    (xLoc d ↦{fullShare} f : sProp 𝕄) = bigSep Finset.univ fun w : Fin 32 => xLoc d ↦{xq w} f :=
  Idealize.ShloMosaic.pointsTo_piecesOf Finset.univ f (by decide) fullShare

omit [FloatOps F] in
/-- The thirty-two tasks, core by core. -/
theorem bigSep_cores (Φ : Fin 32 → sProp 𝕄) :
    bigSep Finset.univ Φ = bigSep Finset.univ fun c : Fin 2 => bigSep Finset.univ fun s : Fin 16 => Φ (wk c s) := by
  rw [bigSep_univ_equiv ((Equiv.prodComm (Fin 2) (Fin 16)).trans (finProdFinEquiv : Fin 16 × Fin 2 ≃ Fin (16 * 2))) Φ, bigSep_univ_prod]
  refine bigSep_congr fun c _ => bigSep_congr fun s _ => congrArg Φ (Fin.ext ?_)
  show c.val + 2 * s.val = 2 * s.val + c.val
  omega

/-- The operands, whole, are what the two cores are handed. -/
theorem st_eq (d : Dev nD) :
    (iprop((iLoc d ↦{fullShare} fi d) ∗ (xLoc d ↦{fullShare} ft d) ∗ (oLoc d ↦{fullShare} f₀ d)) : sProp 𝕄)
      = bigSep Finset.univ fun c : Fin 2 => stC fi ft f₀ d c := by
  rw [iPts_rows, xPts_shares, oPts_rows, ← bigSep_sep', ← bigSep_sep', bigSep_cores]
/-- What the two cores hand back is the operands, whole, the result at the gathered rows. -/
theorem dn_eq (d : Dev nD) :
    (iprop((iLoc d ↦{fullShare} fi d) ∗ (xLoc d ↦{fullShare} ft d) ∗ (oLoc d ↦{fullShare} outV fi ft d)) : sProp 𝕄)
      = bigSep Finset.univ fun c : Fin 2 => dnC fi ft d c := by
  rw [iPts_rows, xPts_shares, oPts_rows, ← bigSep_sep', ← bigSep_sep', bigSep_cores]

end Cert.Proof.GatherVals

end
-- ==== Proof.WholeChain.lean ====
/-
  The buffers of the whole kernel through its @main: a valuation after each stretch of host operations, each TensorCore
  call and each SparseCore call.
-/
module

public import proofs.«01_k».proof.Proof.WholeRegions
public import proofs.«01_k».proof.Proof.GatherSims
public import proofs.«01_k».proof.Proof.GatherVals
public import Idealize.ShloMosaic.Lib.StableHlo.Run

@[expose] public section

set_option maxRecDepth 16384

noncomputable section

namespace Cert.Proof.Whole

open Cert.KernelIdeal Cert.KernelIdeal.Gen

open Idealize.ShloMosaic
open Idealize.ShloMosaic.SparseCore (S V T)
open Idealize.ShloMosaic.SparseCore.Cfg (HIx Pay)
open Idealize.ShloMosaic.Pipeline

variable {F : FTy → Type} [FloatOps F]

/-- A device's buffers as its TensorCore names them. -/
abbrev vref (W : Dev nD → Valuation τ sig (Elt F)) : (c : Dev nD) → (b : Ref sig .tc) → Buf (Elt F) ((c.tc : Thread nD τ).loc b) :=
  fun c b => W c (Proc.devRef .tc b)

/-- The five TensorCore calls entered at buffers `W` before SparseCore call `n`. -/
def dats (n : ℕ) (W : Dev nD → Valuation τ sig (Elt F)) :
    (p : Fin 5) → (c : Dev nD) → Dat τ (Elt F) (HIx 2) ℕ UU ℕ (pin (pcfgs (F := F)) adm p) c := fun p c =>
  match p with
  | 0 => Call0.dat (vref W) ((K (F := F)).Otc c n) (low (F := F) n c) c
  | 1 => Call1.dat (vref W) ((K (F := F)).Otc c n) (low (F := F) n c) c
  | 2 => Call2.dat (vref W) ((K (F := F)).Otc c n) (low (F := F) n c) c
  | 3 => Call4.dat (vref W) ((K (F := F)).Otc c n) (low (F := F) n c) c
  | 4 => Call6.dat (vref W) ((K (F := F)).Otc c n) (low (F := F) n c) c

variable (m : (ℓ : Loc nD τ sig) → Buf (Elt F) ℓ)

def opsA : List (HloOp τ sig (Elt F)) := [StableHlo.reshape main_arg0 main_v0 (rfl : (.f32 : EltTy) = .f32) shapeCasts_S4x512x128_S2048x128]
def opsB : List (HloOp τ sig (Elt F)) := [StableHlo.nullary main_c (constantI S_ 32 0#32),
  StableHlo.TRef.unary (.of main_c : StableHlo.TRef sig ⟨S_, .i32⟩) main_call0.v0 (sitofp .f32),
  StableHlo.TRef.binary (.of main_arg1 : StableHlo.TRef sig ⟨S100000x128, .f32⟩) main_call0.v0 main_call0.v1 (fun x v => pad S100352x128 ![0, 0] ![352, 0] ![0, 0] x v pads_S100000x128_S100352x128_03520_000 h_S_)]
def opsC : List (HloOp τ sig (Elt F)) := [
  StableHlo.unary main_v3_1 main_v4 ((transpose S2048x49x16 [1, 0, 2] · transposes_S49x2048x16_S2048x49x16_1_0_2) : (⟨S49x2048x16, .f32⟩ : BufTy).Contents (Elt F) → (⟨S2048x49x16, .f32⟩ : BufTy).Contents (Elt F)),
  StableHlo.reshape main_v4 main_v5 (rfl : (.f32 : EltTy) = .f32) shapeCasts_S2048x49x16_S2048x784,
  StableHlo.nullary main_cst (constant S_ .f32 0xC0000000#32),
  StableHlo.TRef.unary (.of main_cst : StableHlo.TRef sig ⟨S_, .f32⟩) main_call1.v0 id,
  StableHlo.TRef.binary (.of main_v5 : StableHlo.TRef sig ⟨S2048x784, .f32⟩) main_call1.v0 main_call1.v1 (fun x v => pad S2048x896 ![0, 0] ![0, 112] ![0, 0] x v pads_S2048x784_S2048x896_000_01120 h_S_)]
def opsD : List (HloOp τ sig (Elt F)) := [StableHlo.reshape main_v3_0 main_v8 (rfl : (.f32 : EltTy) = .f32) shapeCasts_S256x6272x128_S1605632x128,
  StableHlo.reshape main_v7_1 main_v9 (rfl : (.i32 : EltTy) = .i32) shapeCasts_S2048x8_S16384]
def opsE : List (HloOp τ sig (Elt F)) := [StableHlo.reshape main_v10 main_v11 (rfl : (.f32 : EltTy) = .f32) shapeCasts_S16384x128_S2048x8x128]
def opsG : List (HloOp τ sig (Elt F)) := [StableHlo.reshape main_v12_1 main_v13 (rfl : (.i32 : EltTy) = .i32) shapeCasts_S2048x8_S16384]
def opsH : List (HloOp τ sig (Elt F)) := [StableHlo.reshape main_v14 main_v15 (rfl : (.f32 : EltTy) = .f32) shapeCasts_S16384x128_S2048x8x128,
  StableHlo.reshape main_arg8 main_v16 (rfl : (.f32 : EltTy) = .f32) shapeCasts_S1_S1x1,
  StableHlo.binary main_arg7 main_v16 main_v17 ((fun a b => concatenate S1x65 1 [⟨S1x64, a⟩, ⟨S1x1, b⟩] concatenates_S1x64_S1x1_S1x65_d1) : (⟨S1x64, .f32⟩ : BufTy).Contents (Elt F) → (⟨S1x1, .f32⟩ : BufTy).Contents (Elt F) → (⟨S1x65, .f32⟩ : BufTy).Contents (Elt F)),
  StableHlo.reshape main_arg6 main_v18 (rfl : (.f32 : EltTy) = .f32) shapeCasts_S64_S1x64]
def opsI : List (HloOp τ sig (Elt F)) := [StableHlo.reshape main_v19 main_v20 (rfl : (.f32 : EltTy) = .f32) shapeCasts_S2048x128_S4x512x128]

/-- The launch memory; then after each stretch. -/
def c0 (d : Dev nD) : Valuation τ sig (Elt F) := fun b => m (d, b)
def c1 (d : Dev nD) : Valuation τ sig (Elt F) := StableHlo.after (opsA (F := F)) (c0 m d)
def c2 (d : Dev nD) : Valuation τ sig (Elt F) := leave 0 (dats 0 (c1 m)) (c1 m) d
def c3 (d : Dev nD) : Valuation τ sig (Elt F) := StableHlo.after (opsB (F := F)) (c2 m d)
def c4 (d : Dev nD) : Valuation τ sig (Elt F) := leave 1 (dats 0 (c3 m)) (c3 m) d
def c5 (d : Dev nD) : Valuation τ sig (Elt F) := StableHlo.after (opsC (F := F)) (c4 m d)
def c6 (d : Dev nD) : Valuation τ sig (Elt F) := leave 2 (dats 0 (c5 m)) (c5 m) d
def c7 (d : Dev nD) : Valuation τ sig (Elt F) := StableHlo.after (opsD (F := F)) (c6 m d)
/-- The operands of the first SparseCore call, and the buffers with its result. -/
def fiS (d : Dev nD) : Buf (Elt F) (GatherSims.iLoc d) := c7 m d (Proc.devRef .tc main_v9)
def ftS (d : Dev nD) : Buf (Elt F) (GatherSims.xLoc d) := c7 m d (Proc.devRef .tc main_v8)
def foS (d : Dev nD) : Buf (Elt F) (GatherSims.oLoc d) := c7 m d (Proc.devRef .tc main_v10)
def c8 (d : Dev nD) : Valuation τ sig (Elt F) :=
  Function.update (c7 m d) (Proc.devRef .tc main_v10) (GatherSims.outV (fiS m) (ftS m) d)
def c9 (d : Dev nD) : Valuation τ sig (Elt F) := StableHlo.after (opsE (F := F)) (c8 m d)
def c10 (d : Dev nD) : Valuation τ sig (Elt F) := leave 3 (dats 1 (c9 m)) (c9 m) d
def c11 (d : Dev nD) : Valuation τ sig (Elt F) := StableHlo.after (opsG (F := F)) (c10 m d)
/-- The operands of the second SparseCore call, and the buffers with its result. -/
def fiV (d : Dev nD) : Buf (Elt F) (GatherVals.iLoc d) := c11 m d (Proc.devRef .tc main_v13)
def ftV (d : Dev nD) : Buf (Elt F) (GatherVals.xLoc d) := c11 m d (Proc.devRef .tc main_arg2)
def foV (d : Dev nD) : Buf (Elt F) (GatherVals.oLoc d) := c11 m d (Proc.devRef .tc main_v14)
def c12 (d : Dev nD) : Valuation τ sig (Elt F) :=
  Function.update (c11 m d) (Proc.devRef .tc main_v14) (GatherVals.outV (fiV m) (ftV m) d)
def c13 (d : Dev nD) : Valuation τ sig (Elt F) := StableHlo.after (opsH (F := F)) (c12 m d)
def c14 (d : Dev nD) : Valuation τ sig (Elt F) := leave 4 (dats 2 (c13 m)) (c13 m) d
def c15 (d : Dev nD) : Valuation τ sig (Elt F) := StableHlo.after (opsI (F := F)) (c14 m d)

end Cert.Proof.Whole

end
-- ==== Proof.GatherSimsTile.lean ====
/-
  One task of the row gather, run.
-/
module

public import proofs.«01_k».proof.Proof.GatherSims
public import Idealize.ShloMosaic.Lib.SparseCore.Quiescent
public import Idealize.ShloMosaic.Lib.SparseCore.Ops
public import Idealize.ShloMosaic.Lib.SparseCore.Stream
public import Idealize.ShloMosaic.Lib.SparseCore.FromWhole
public import Idealize.ShloMosaic.Lib.StableHlo.Run
public import Idealize.ShloMosaic.Lib.Pipeline.Kit
public import Idealize.ShloMosaic.Lib.Pointwise
public import Idealize.ShloMosaic.Lib.Tactic
public import proofs.«01_k».proof.Proof.Gen.KernelIdeal
public import proofs.«01_k».proof.Proof.Gen.KernelIdeal.Skeleton

@[expose] public section

set_option maxRecDepth 16384

noncomputable section

namespace Cert.Proof.GatherSims

open Cert.KernelIdeal Cert.KernelIdeal.Gen
open Cert.Proof.Whole

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]
-- the list, the table, and what the result's buffer held before
variable (fi : (d : Dev nD) → Buf (Elt F) (iLoc d)) (ft : (d : Dev nD) → Buf (Elt F) (xLoc d)) (f₀ : (d : Dev nD) → Buf (Elt F) (oLoc d))

section Tile

variable (d : Dev nD) (L : grid3.Coords)

set_option maxHeartbeats 4000000 in
/-- The task on vector subcore `(L 0, L 1)` of device `d`. -/
theorem tile_body (hF : (K (F := F)).Facts) (hpre : InRange fi) (O : CellTallies nD τ sig (HIx 2)) (W : Waits sig (HIx 2)) (hO : ∀ g, O g none = 0) :
    iprop(levAts (K (F := F)).L (K (F := F)).lev ∗ emp
        ∗ goW fi ft f₀ d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc3_k L xV (Memref.isWhole_whole _) iV (Memref.isWhole_whole _) oV (Memref.isWhole_whole _)
            sV (Memref.isWhole_whole _) rV (Memref.isWhole_whole _) cc3_scratch2 cc3_scoped0 cc3_scoped1)
          fun _ => iprop(tdW fi ft d (wL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc3_k_eq_skeleton]; unfold cc3_k_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 2) O from
    (K (F := F)).mayWaits_none (thr := V d (cV L) (jV L)) hO) $$ Hlv
  ihave Hi' := (Entails.of_eq (pts_iRowK (F := F) d L _).symm) $$ Hi
  ihave Ho' := (Entails.of_eq (pts_oRowK (F := F) d L _).symm) $$ Ho
  ihave Hs' := (Entails.of_eq (pts_sV (F := F) d L _).symm) $$ Hs
  sl_exec
  ihave Hx' := (Entails.of_eq (pts_xV (F := F) d L _ _).symm) $$ Hx
  ihave Hr' := (Entails.of_eq (pts_rV (F := F) d L _).symm) $$ Hr
  have hN : ∀ h : S1605632x128.Gathers 0 S512x128, ∑ j, ((rV).slice (S512x128.rowRect h.axis' j) (S512x128.stride_rowRect h.axis' j)).view.dmaCredit
      = (rV).view.dmaCredit := fun h => SparseCore.sum_rowCredit_eq_dmaCredit rV h.axis' fun _ => rfl
  iapply (SparseCore.wp_gatherFromWhole countersEmb 𝒱₀ (V d (cV L) (jV L)) none (hg := gathers_S1605632x128_S512x128) (default : HIx 2)
      (rV).view.dmaCredit (hN _) (by decide) (inb_of_range fi d L hpre fs _ rfl)) $$ [Hx' Hr' Hs' HsemB]
  · isplitl [Hx']; · iexact Hx'
    isplitl [Hr']; · iexact Hr'
    isplitl [Hs']; · iexact Hs'
    iexact HsemB
  iintro Hfl
  sl_exec
  iapply (Transfers.wp_waitLocalO countersEmb 𝒱₀ (V d (cV L) (jV L)) none (default : HIx 2) (rfl : (rV).view.dmaCredit = _)) $$ [Hfl HO]
  · isplitl [Hfl]; · iexact Hfl
    isplitl [HO]; · iexact HO
    iapply (Transfers.MayWaits.elim (SemLoc.dma cc3_scratch2.sem)) $$ Hmw
  iintro ⟨⟨Hr', Hx', Hs'⟩, HsemB, HO⟩
  sl_exec
  sl_step
  isplitl [Hi' Hx' Ho']
  · isplitl [Hi']; · iapply (Entails.of_eq (pts_iRowK (F := F) d L _)); iexact Hi'
    isplitl [Hx']; · iexact Hx'
    iapply (Entails.of_eq ((pointsTo_congr (out_eq fi ft f₀ d L hpre fs fr _ rfl (inb_of_range fi d L hpre fs _ rfl) rfl _ rfl)).trans (pts_oRowK (F := F) d L _)))
    iexact Ho'
  isplitl [Hs' Hr' Hbufs]
  · isplitl [Hs']; · iexists _; iexact Hs'
    isplitl [Hr']; · iexists _; iexact Hr'
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

def coordsV (c : Fin (grid3.bound 0)) (s : Fin (grid3.bound 1)) : grid3.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 3 ()
      = SparseCore.onTile hcore3 hsub3 (fun c s => cc3_k (coordsV c s)
          xV (Memref.isWhole_whole _) iV (Memref.isWhole_whole _) oV (Memref.isWhole_whole _)
          sV (Memref.isWhole_whole _) rV (Memref.isWhole_whole _) cc3_scratch2 cc3_scoped0 cc3_scoped1) ⟨⟩ c s := rfl

omit [FloatOps F] in
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

end Tile

end Cert.Proof.GatherSims

end
-- ==== Proof.GatherValsTile.lean ====
/-
  One task of the row gather, run.
-/
module

public import proofs.«01_k».proof.Proof.GatherVals
public import Idealize.ShloMosaic.Lib.SparseCore.Quiescent
public import Idealize.ShloMosaic.Lib.SparseCore.Ops
public import Idealize.ShloMosaic.Lib.SparseCore.Stream
public import Idealize.ShloMosaic.Lib.SparseCore.FromWhole
public import Idealize.ShloMosaic.Lib.StableHlo.Run
public import Idealize.ShloMosaic.Lib.Pipeline.Kit
public import Idealize.ShloMosaic.Lib.Pointwise
public import Idealize.ShloMosaic.Lib.Tactic
public import proofs.«01_k».proof.Proof.Gen.KernelIdeal
public import proofs.«01_k».proof.Proof.Gen.KernelIdeal.Skeleton

@[expose] public section

set_option maxRecDepth 16384

noncomputable section

namespace Cert.Proof.GatherVals

open Cert.KernelIdeal Cert.KernelIdeal.Gen
open Cert.Proof.Whole

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]
-- the list, the table, and what the result's buffer held before
variable (fi : (d : Dev nD) → Buf (Elt F) (iLoc d)) (ft : (d : Dev nD) → Buf (Elt F) (xLoc d)) (f₀ : (d : Dev nD) → Buf (Elt F) (oLoc d))

section Tile

variable (d : Dev nD) (L : grid5.Coords)

set_option maxHeartbeats 4000000 in
/-- The task on vector subcore `(L 0, L 1)` of device `d`. -/
theorem tile_body (hF : (K (F := F)).Facts) (hpre : InRange fi) (O : CellTallies nD τ sig (HIx 2)) (W : Waits sig (HIx 2)) (hO : ∀ g, O g none = 0) :
    iprop(levAts (K (F := F)).L (K (F := F)).lev ∗ emp
        ∗ goW fi ft f₀ d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc5_k L xV (Memref.isWhole_whole _) iV (Memref.isWhole_whole _) oV (Memref.isWhole_whole _)
            sV (Memref.isWhole_whole _) rV (Memref.isWhole_whole _) cc5_scratch2 cc5_scoped0 cc5_scoped1)
          fun _ => iprop(tdW fi ft d (wL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc5_k_eq_skeleton]; unfold cc5_k_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 2) O from
    (K (F := F)).mayWaits_none (thr := V d (cV L) (jV L)) hO) $$ Hlv
  ihave Hi' := (Entails.of_eq (pts_iRowK (F := F) d L _).symm) $$ Hi
  ihave Ho' := (Entails.of_eq (pts_oRowK (F := F) d L _).symm) $$ Ho
  ihave Hs' := (Entails.of_eq (pts_sV (F := F) d L _).symm) $$ Hs
  sl_exec
  ihave Hx' := (Entails.of_eq (pts_xV (F := F) d L _ _).symm) $$ Hx
  ihave Hr' := (Entails.of_eq (pts_rV (F := F) d L _).symm) $$ Hr
  have hN : ∀ h : S100000x128.Gathers 0 S512x128, ∑ j, ((rV).slice (S512x128.rowRect h.axis' j) (S512x128.stride_rowRect h.axis' j)).view.dmaCredit
      = (rV).view.dmaCredit := fun h => SparseCore.sum_rowCredit_eq_dmaCredit rV h.axis' fun _ => rfl
  iapply (SparseCore.wp_gatherFromWhole countersEmb 𝒱₀ (V d (cV L) (jV L)) none (hg := gathers_S100000x128_S512x128) (default : HIx 2)
      (rV).view.dmaCredit (hN _) (by decide) (inb_of_range fi d L hpre fs _ rfl)) $$ [Hx' Hr' Hs' HsemB]
  · isplitl [Hx']; · iexact Hx'
    isplitl [Hr']; · iexact Hr'
    isplitl [Hs']; · iexact Hs'
    iexact HsemB
  iintro Hfl
  sl_exec
  iapply (Transfers.wp_waitLocalO countersEmb 𝒱₀ (V d (cV L) (jV L)) none (default : HIx 2) (rfl : (rV).view.dmaCredit = _)) $$ [Hfl HO]
  · isplitl [Hfl]; · iexact Hfl
    isplitl [HO]; · iexact HO
    iapply (Transfers.MayWaits.elim (SemLoc.dma cc5_scratch2.sem)) $$ Hmw
  iintro ⟨⟨Hr', Hx', Hs'⟩, HsemB, HO⟩
  sl_exec
  sl_step
  isplitl [Hi' Hx' Ho']
  · isplitl [Hi']; · iapply (Entails.of_eq (pts_iRowK (F := F) d L _)); iexact Hi'
    isplitl [Hx']; · iexact Hx'
    iapply (Entails.of_eq ((pointsTo_congr (out_eq fi ft f₀ d L hpre fs fr _ rfl (inb_of_range fi d L hpre fs _ rfl) rfl _ rfl)).trans (pts_oRowK (F := F) d L _)))
    iexact Ho'
  isplitl [Hs' Hr' Hbufs]
  · isplitl [Hs']; · iexists _; iexact Hs'
    isplitl [Hr']; · iexists _; iexact Hr'
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

def coordsV (c : Fin (grid5.bound 0)) (s : Fin (grid5.bound 1)) : grid5.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 5 ()
      = SparseCore.onTile hcore5 hsub5 (fun c s => cc5_k (coordsV c s)
          xV (Memref.isWhole_whole _) iV (Memref.isWhole_whole _) oV (Memref.isWhole_whole _)
          sV (Memref.isWhole_whole _) rV (Memref.isWhole_whole _) cc5_scratch2 cc5_scoped0 cc5_scoped1) ⟨⟩ c s := rfl

omit [FloatOps F] in
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

end Tile

end Cert.Proof.GatherVals

end
-- ==== Proof.WholeRun.lean ====
/-
  The whole kernel's run: @main with its five TensorCore calls and its two SparseCore calls ends, every semaphore at zero,
  the buffers at the last of the valuations of its stretches.
-/
module

public import proofs.«01_k».proof.Proof.WholeChain
public import proofs.«01_k».proof.Proof.GatherSimsTile
public import proofs.«01_k».proof.Proof.GatherValsTile

@[expose] public section

set_option maxRecDepth 16384

noncomputable section

namespace Cert.Proof.Whole

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig (HIx 2) (Elt F) ℕ UU ℕ

variable (m : (ℓ : Loc nD τ sig) → Buf (Elt F) ℓ) (ρ : Dev nD → PrngReg)

/-! ## What the handshakes carry -/

def P : (K (F := F)).Pay (nD := nD) (Val := Elt F) (Name := ℕ) (U := UU) where
  st := fun q d c => match q with
    | 0 => GatherSims.stC (fiS m) (ftS m) (foS m) d (Fin.cast nCore_zero c)
    | 1 => GatherVals.stC (fiV m) (ftV m) (foV m) d (Fin.cast nCore_one c)
  dn := fun q d c => match q with
    | 0 => GatherSims.dnC (fiS m) (ftS m) d (Fin.cast nCore_zero c)
    | 1 => GatherVals.dnC (fiV m) (ftV m) d (Fin.cast nCore_one c)
  go := fun q d c i => match q with
    | 0 => GatherSims.goW (fiS m) (ftS m) (foS m) d (GatherSims.wk (Fin.cast nCore_zero c) (Fin.cast nSub_zero i))
    | 1 => GatherVals.goW (fiV m) (ftV m) (foV m) d (GatherVals.wk (Fin.cast nCore_one c) (Fin.cast nSub_one i))
  td := fun q d c i => match q with
    | 0 => GatherSims.tdW (fiS m) (ftS m) d (GatherSims.wk (Fin.cast nCore_zero c) (Fin.cast nSub_zero i))
    | 1 => GatherVals.tdW (fiV m) (ftV m) d (GatherVals.wk (Fin.cast nCore_one c) (Fin.cast nSub_one i))
  x := fun _ _ => iprop(emp)

instance P_storable : (P (F := F) m).IsStorable where
  st q d c := match q with
    | 0 => (inferInstance : BI.Storable (upEmb : UEmb _ 𝕄) (GatherSims.stC (fiS m) (ftS m) (foS m) d (Fin.cast nCore_zero c)))
    | 1 => (inferInstance : BI.Storable (upEmb : UEmb _ 𝕄) (GatherVals.stC (fiV m) (ftV m) (foV m) d (Fin.cast nCore_one c)))
  dn q d c := match q with
    | 0 => (inferInstance : BI.Storable (upEmb : UEmb _ 𝕄) (GatherSims.dnC (fiS m) (ftS m) d (Fin.cast nCore_zero c)))
    | 1 => (inferInstance : BI.Storable (upEmb : UEmb _ 𝕄) (GatherVals.dnC (fiV m) (ftV m) d (Fin.cast nCore_one c)))
  go q d c i := match q with
    | 0 => (inferInstance : BI.Storable (upEmb : UEmb _ 𝕄) (GatherSims.goW (fiS m) (ftS m) (foS m) d (GatherSims.wk (Fin.cast nCore_zero c) (Fin.cast nSub_zero i))))
    | 1 => (inferInstance : BI.Storable (upEmb : UEmb _ 𝕄) (GatherVals.goW (fiV m) (ftV m) (foV m) d (GatherVals.wk (Fin.cast nCore_one c) (Fin.cast nSub_one i))))
  td q d c i := match q with
    | 0 => (inferInstance : BI.Storable (upEmb : UEmb _ 𝕄) (GatherSims.tdW (fiS m) (ftS m) d (GatherSims.wk (Fin.cast nCore_zero c) (Fin.cast nSub_zero i))))
    | 1 => (inferInstance : BI.Storable (upEmb : UEmb _ 𝕄) (GatherVals.tdW (fiV m) (ftV m) d (GatherVals.wk (Fin.cast nCore_one c) (Fin.cast nSub_one i))))

theorem tileObl_zero (hpre : GatherSims.InRange (fiS m)) : (K (F := F)).TileObl (D (F := F)) 𝒱 (P m) v₀ 0 := by
  intro d c i O W hO _ _
  simp only [show (P m).ox = fun _ _ => 0 from rfl, add_zero]
  have hci : ((K (F := F)).core 0 c).val < grid3.bound 0 ∧ ((K (F := F)).sub 0 i).val < grid3.bound 1 := ⟨c.isLt, i.isLt⟩
  change _ ⊢ wp _ _ _ (Pipeline.liftProg (defs₀ (F := F) (.scVector ((K (F := F)).core 0 c) ((K (F := F)).sub 0 i)) 3 ())) _
  refine BI.Entails.trans ?_ (Pipeline.wp_liftProg (D (F := F)) (Pipeline.defs_kernel pcfgs defs₀) 𝒱₀ _ Set.univ none _ _)
  rw [GatherSims.defs₀_vector]; simp only [SparseCore.onTile, hci, and_self, ↓reduceDIte]
  exact (GatherSims.tile_body (fiS m) (ftS m) (foS m) d (GatherSims.coordsV ⟨_, hci.1⟩ ⟨_, hci.2⟩) facts hpre O W hO).trans
    (wp_mono frame _ _ fun _ => GatherSims.obl_post)

theorem tileObl_one (hpre : GatherVals.InRange (fiV m)) : (K (F := F)).TileObl (D (F := F)) 𝒱 (P m) v₀ 1 := by
  intro d c i O W hO _ _
  simp only [show (P m).ox = fun _ _ => 0 from rfl, add_zero]
  have hci : ((K (F := F)).core 1 c).val < grid5.bound 0 ∧ ((K (F := F)).sub 1 i).val < grid5.bound 1 := ⟨c.isLt, i.isLt⟩
  change _ ⊢ wp _ _ _ (Pipeline.liftProg (defs₀ (F := F) (.scVector ((K (F := F)).core 1 c) ((K (F := F)).sub 1 i)) 5 ())) _
  refine BI.Entails.trans ?_ (Pipeline.wp_liftProg (D (F := F)) (Pipeline.defs_kernel pcfgs defs₀) 𝒱₀ _ Set.univ none _ _)
  rw [GatherVals.defs₀_vector]; simp only [SparseCore.onTile, hci, and_self, ↓reduceDIte]
  exact (GatherVals.tile_body (fiV m) (ftV m) (foV m) d (GatherVals.coordsV ⟨_, hci.1⟩ ⟨_, hci.2⟩) facts hpre O W hO).trans
    (wp_mono frame _ _ fun _ => GatherVals.obl_post)

theorem vecSplit_zero : (K (F := F)).VecSplit' (P m) 0 := by
  intro d c
  show GatherSims.stC (fiS m) (ftS m) (foS m) d (Fin.cast nCore_zero c) ⊢ |={Set.univ}=> iprop(
      (bigSep Finset.univ fun s : Fin 16 => GatherSims.goW (fiS m) (ftS m) (foS m) d (GatherSims.wk (Fin.cast nCore_zero c) s))
      ∗ ((bigSep Finset.univ fun s : Fin 16 => GatherSims.tdW (fiS m) (ftS m) d (GatherSims.wk (Fin.cast nCore_zero c) s)) -∗ GatherSims.dnC (fiS m) (ftS m) d (Fin.cast nCore_zero c)))
  iintro H; imodintro
  isplitl [H]; · iexact H
  iintro H; iexact H

theorem vecSplit_one : (K (F := F)).VecSplit' (P m) 1 := by
  intro d c
  show GatherVals.stC (fiV m) (ftV m) (foV m) d (Fin.cast nCore_one c) ⊢ |={Set.univ}=> iprop(
      (bigSep Finset.univ fun s : Fin 16 => GatherVals.goW (fiV m) (ftV m) (foV m) d (GatherVals.wk (Fin.cast nCore_one c) s))
      ∗ ((bigSep Finset.univ fun s : Fin 16 => GatherVals.tdW (fiV m) (ftV m) d (GatherVals.wk (Fin.cast nCore_one c) s)) -∗ GatherVals.dnC (fiV m) (ftV m) d (Fin.cast nCore_one c)))
  iintro H; imodintro
  isplitl [H]; · iexact H
  iintro H; iexact H

/-! ## The launch element of the ghost state -/

/-- The staging buffers' ghost state of the five TensorCore calls, on one device. -/
abbrev G (d : Dev nD) : sProp 𝕄 :=
  iprop((bigSep Finset.univ fun p : Fin 5 => cellsGhost (pin (pcfgs (F := F)) adm) EP p d)
    ∗ bigSep Finset.univ fun p : Fin 5 => toksInit (pin (pcfgs (F := F)) adm) EP p d)

theorem hinj : Function.Injective (cellOf (nD := nD) (τ := τ) (pin (pcfgs (F := F)) adm)) := launch0.toP.cellOf_inj adm

def u₀ : UU := (initOf (K (F := F)).hsCells (K (F := F)).hsToks,
  (initOf (cells (nD := nD) (τ := τ) (pin (pcfgs (F := F)) adm) hinj) (launchToks (pin (pcfgs (F := F)) adm) hinj), 1))

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 2 => (P m).x q thr) := by
  unfold u₀ G
  rw [bigSep_sep']
  iintro Hu
  ihave H := (ownU_three _ _ _) $$ Hu
  icases H with ⟨HH, HP⟩
  imod (fund_ghost (pin (pcfgs (F := F)) adm) EP hinj) $$ HP with ⟨Hc, Ht⟩
  imodintro
  isplitl [HH]; · iexact HH
  isplitl [Hc Ht]
  · isplitl [Hc]; · iexact Hc
    iexact Ht
  rw [show (bigSep Finset.univ fun thr : Thread nD τ => bigSep Finset.univ fun q : Fin 2 => (P (F := F) m).x q thr) = (iprop(emp) : sProp 𝕄) from
    (bigSep_congr fun _ _ => bigSep_emp_const _).trans (bigSep_emp_const _)]
  iempintro

/-! ## @main -/

theorem seven (V : Valuation τ sig (Elt F)) (d : Dev nD) {a b c : DevRef τ sig} (hab : a ∉ ({b, c} : Finset (DevRef τ sig))) (hbc : b ∉ ({c} : Finset (DevRef τ sig))) :
    (StableHlo.held (d.tc : Thread nD τ) {a, b, c} V : sProp 𝕄)
      = iprop(((d, a) ↦{fullShare} V a) ∗ ((d, b) ↦{fullShare} V b) ∗ ((d, c) ↦{fullShare} V c)) := by
  unfold StableHlo.held
  rw [SparseCore.bigSep_insert' hab, SparseCore.bigSep_insert' hbc, bigSep_singleton]

theorem st_zero (d : Dev nD) : (bigSep Finset.univ fun c : Fin ((K (F := F)).nCore 0) => (P m).st 0 d c)
    = iprop((GatherSims.iLoc d ↦{fullShare} fiS m d) ∗ (GatherSims.xLoc d ↦{fullShare} ftS m d) ∗ (GatherSims.oLoc d ↦{fullShare} foS m d)) :=
  (GatherSims.st_eq (fiS m) (ftS m) (foS m) d).symm
theorem dn_zero (d : Dev nD) : (bigSep Finset.univ fun c : Fin ((K (F := F)).nCore 0) => (P m).dn 0 d c)
    = iprop((GatherSims.iLoc d ↦{fullShare} fiS m d) ∗ (GatherSims.xLoc d ↦{fullShare} ftS m d) ∗ (GatherSims.oLoc d ↦{fullShare} GatherSims.outV (fiS m) (ftS m) d)) :=
  (GatherSims.dn_eq (fiS m) (ftS m) d).symm
theorem st_one (d : Dev nD) : (bigSep Finset.univ fun c : Fin ((K (F := F)).nCore 1) => (P m).st 1 d c)
    = iprop((GatherVals.iLoc d ↦{fullShare} fiV m d) ∗ (GatherVals.xLoc d ↦{fullShare} ftV m d) ∗ (GatherVals.oLoc d ↦{fullShare} foV m d)) :=
  (GatherVals.st_eq (fiV m) (ftV m) (foV m) d).symm
theorem dn_one (d : Dev nD) : (bigSep Finset.univ fun c : Fin ((K (F := F)).nCore 1) => (P m).dn 1 d c)
    = iprop((GatherVals.iLoc d ↦{fullShare} fiV m d) ∗ (GatherVals.xLoc d ↦{fullShare} ftV m d) ∗ (GatherVals.oLoc d ↦{fullShare} GatherVals.outV (fiV m) (ftV m) d)) :=
  (GatherVals.dn_eq (fiV m) (ftV m) d).symm

abbrev rS : Finset (DevRef τ sig) := {Proc.devRef .tc main_v9, Proc.devRef .tc main_v8, Proc.devRef .tc main_v10}
abbrev rV : Finset (DevRef τ sig) := {Proc.devRef .tc main_v13, Proc.devRef .tc main_arg2, Proc.devRef .tc main_v14}

/-- The first SparseCore call: its list and table as they were, its result at the gathered rows. -/
theorem run_zero (κ : GSem nD τ sig → ℕ) (d : Dev nD) (Q : PUnit → sProp 𝕄) :
    iprop((K (F := F)).ctx EH (P m) κ ∗ (boundary (T d) ∗ StableHlo.held (d.tc : Thread nD τ) (ucRefs τ sig) (c7 m d) ∗ (K (F := F)).tcSt EH d 0)
        ∗ ((boundary (T d) ∗ StableHlo.held (d.tc : Thread nD τ) (ucRefs τ sig) (c8 m d) ∗ (K (F := F)).tcSt EH d 1) -∗ Q ⟨⟩))
      ⊢ wp frame (wpE ((K (F := F)).defs (D (F := F))) 𝒱 (T d) none) Set.univ ((K (F := F)).run d 0) Q := by
  have h9 : c8 m d (Proc.devRef .tc main_v9) = c7 m d (Proc.devRef .tc main_v9) := Function.update_of_ne (by decide) _ _
  have h8 : c8 m d (Proc.devRef .tc main_v8) = c7 m d (Proc.devRef .tc main_v8) := Function.update_of_ne (by decide) _ _
  have h10 : c8 m d (Proc.devRef .tc main_v10) = GatherSims.outV (fiS m) (ftS m) d := Function.update_self _ _ _
  rw [StableHlo.held_sub_split _ (show rS ⊆ ucRefs τ sig by decide) (c7 m d), StableHlo.held_sub_split _ (show rS ⊆ ucRefs τ sig by decide) (c8 m d),
    StableHlo.held_congr (V := c8 m d) (V' := c7 m d) (S := ucRefs τ sig \ rS) _ (fun b hb => Function.update_of_ne (fun e => (Finset.mem_sdiff.mp hb).2 (by rw [e]; decide)) _ _),
    seven _ _ (by decide) (by decide), seven _ _ (by decide) (by decide), h9, h8, h10]
  iintro ⟨Hctx, ⟨Hb, ⟨⟨Hi, Hx, Ho⟩, Hr⟩, Hst⟩, Hk⟩
  iapply ((K (F := F)).wp_run (D (F := F)) 𝒱 (EH := EH) (P := P m) κ d 0) $$ [Hctx Hst Hi Hx Ho Hb Hr Hk]
  isplitl [Hctx]; · iexact Hctx
  isplitl [Hst]; · iexact Hst
  isplitl [Hi Hx Ho]
  · rw [st_zero]
    isplitl [Hi]; · iexact Hi
    isplitl [Hx]; · iexact Hx
    iexact Ho
  iintro ⟨Hst, Hdn⟩
  ihave Hdn' := (Entails.of_eq (dn_zero m d)) $$ Hdn
  icases Hdn' with ⟨Hi, Hx, Ho⟩
  iapply Hk
  isplitl [Hb]; · iexact Hb
  isplitr [Hst]
  · isplitr [Hr]
    · isplitl [Hi]; · iexact Hi
      isplitl [Hx]; · iexact Hx
      iexact Ho
    · iexact Hr
  iexact Hst

/-- The second SparseCore call. -/
theorem run_one (κ : GSem nD τ sig → ℕ) (d : Dev nD) (Q : PUnit → sProp 𝕄) :
    iprop((K (F := F)).ctx EH (P m) κ ∗ (boundary (T d) ∗ StableHlo.held (d.tc : Thread nD τ) (ucRefs τ sig) (c11 m d) ∗ (K (F := F)).tcSt EH d 1)
        ∗ ((boundary (T d) ∗ StableHlo.held (d.tc : Thread nD τ) (ucRefs τ sig) (c12 m d) ∗ (K (F := F)).tcSt EH d 2) -∗ Q ⟨⟩))
      ⊢ wp frame (wpE ((K (F := F)).defs (D (F := F))) 𝒱 (T d) none) Set.univ ((K (F := F)).run d 1) Q := by
  have h9 : c12 m d (Proc.devRef .tc main_v13) = c11 m d (Proc.devRef .tc main_v13) := Function.update_of_ne (by decide) _ _
  have h8 : c12 m d (Proc.devRef .tc main_arg2) = c11 m d (Proc.devRef .tc main_arg2) := Function.update_of_ne (by decide) _ _
  have h10 : c12 m d (Proc.devRef .tc main_v14) = GatherVals.outV (fiV m) (ftV m) d := Function.update_self _ _ _
  rw [StableHlo.held_sub_split _ (show rV ⊆ ucRefs τ sig by decide) (c11 m d), StableHlo.held_sub_split _ (show rV ⊆ ucRefs τ sig by decide) (c12 m d),
    StableHlo.held_congr (V := c12 m d) (V' := c11 m d) (S := ucRefs τ sig \ rV) _ (fun b hb => Function.update_of_ne (fun e => (Finset.mem_sdiff.mp hb).2 (by rw [e]; decide)) _ _),
    seven _ _ (by decide) (by decide), seven _ _ (by decide) (by decide), h9, h8, h10]
  iintro ⟨Hctx, ⟨Hb, ⟨⟨Hi, Hx, Ho⟩, Hr⟩, Hst⟩, Hk⟩
  iapply ((K (F := F)).wp_run (D (F := F)) 𝒱 (EH := EH) (P := P m) κ d 1) $$ [Hctx Hst Hi Hx Ho Hb Hr Hk]
  isplitl [Hctx]; · iexact Hctx
  isplitl [Hst]; · iexact Hst
  isplitl [Hi Hx Ho]
  · rw [st_one]
    isplitl [Hi]; · iexact Hi
    isplitl [Hx]; · iexact Hx
    iexact Ho
  iintro ⟨Hst, Hdn⟩
  ihave Hdn' := (Entails.of_eq (dn_one m d)) $$ Hdn
  icases Hdn' with ⟨Hi, Hx, Ho⟩
  iapply Hk
  isplitl [Hb]; · iexact Hb
  isplitr [Hst]
  · isplitr [Hr]
    · isplitl [Hi]; · iexact Hi
      isplitl [Hx]; · iexact Hx
      iexact Ho
    · iexact Hr
  iexact Hst

/-- A host operation on the TensorCore, within the unscoped buffers. -/
theorem host (d : Dev nD) (op : HloOp τ sig (Elt F)) (hop : op.bufs ⊆ StableHlo.tcRefs τ sig) (hf : op.fresh = ∅) (V : Valuation τ sig (Elt F)) (R : sProp 𝕄) (Q : PUnit → sProp 𝕄) :
    iprop((boundary (T d) ∗ StableHlo.held (d.tc : Thread nD τ) (ucRefs τ sig) V ∗ R)
        ∗ ((boundary (T d) ∗ StableHlo.held (d.tc : Thread nD τ) (ucRefs τ sig) (op.result V) ∗ R) -∗ Q ⟨⟩))
      ⊢ wp frame (wpE ((K (F := F)).defs (D (F := F))) 𝒱 (T d) none) Set.univ (hlo rfl op fun _ => .ret ⟨⟩) Q := by
  iintro ⟨⟨Hb, Hh, HR⟩, Hk⟩
  iapply (StableHlo.wp_hlo_within (defs := (K (F := F)).defs (D (F := F))) 𝒱 (T d) none Set.univ (op := op) (k := fun _ => .ret ⟨⟩) (S := ucRefs τ sig) (sub_ucRefs op hop) (V := V) (Q := Q) hf) $$ [Hb Hh]
  · isplitl [Hb]; · iexact Hb
    iexact Hh
  iintro ⟨Hb, Hh⟩
  rw [wp_ret]
  imodintro
  iapply Hk
  isplitl [Hb]; · iexact Hb
  isplitl [Hh]; · iexact Hh
  iexact HR

/-- TensorCore call 0. -/
theorem region0 (κ : GSem nD τ sig → ℕ) (d : Dev nD) (Q : PUnit → sProp 𝕄) :
    iprop((K (F := F)).ctx EH (P m) κ ∗ (boundary (T d) ∗ StableHlo.held (d.tc : Thread nD τ) (ucRefs τ sig) (c1 m d) ∗ (K (F := F)).tcSt EH d 0)
        ∗ (cellsGhost (pin (pcfgs (F := F)) adm) EP 0 d ∗ toksInit (pin (pcfgs (F := F)) adm) EP 0 d)
        ∗ ((boundary (T d) ∗ StableHlo.held (d.tc : Thread nD τ) (ucRefs τ sig) (c2 m d) ∗ (K (F := F)).tcSt EH d 0) -∗ Q ⟨⟩))
      ⊢ wp frame (wpE ((K (F := F)).defs (D (F := F))) 𝒱 (T d) none) Set.univ
          (Prog.lift (.customCall (SparseCore.inner (Pipeline.entry 0)) ())) Q := by
  have h1 : ∀ w, (arrRef (pcfgs (F := F) 0).spec w).isScoped = false := show ∀ w : Fin 3, (arrRef spec0 w).isScoped = false by decide
  have h2 : ∀ c t, (dats 0 (c1 m) 0 c).owed t = (K (F := F)).Otc c 0 := fun _ _ => rfl
  have h3 : ∀ c t, (dats 0 (c1 m) 0 c).recorded t = low (F := F) 0 c := fun _ _ => rfl
  have h4 : ∀ c w, (dats 0 (c1 m) 0 c).share w = fullShare :=
    fun c w => (Call0.dat (vref (c1 m)) ((K (F := F)).Otc c 0) (low (F := F) 0 c) c).share_full (fun _ => rfl) w
  have h5 : ∀ c t, (dats 0 (c1 m) 0 c).Φ t = scopedRest (pin (pcfgs (F := F)) adm 0).spec c := fun c t => by
    show _ = scopedRest spec0 c
    dsimp only [dats, Call0.dat]
  have h6 : ∀ c w, (dats 0 (c1 m) 0 c).arrAt w 0 = c1 m c (Proc.devRef .tc (arrRef (pin (pcfgs (F := F)) adm 0).spec w)) := fun _ _ => rfl
  exact step 0 (c1 m) (dats 0 (c1 m)) 0 launch0.toP rfl h1
    (fun c => Call0.body_obligation (vref (c1 m)) _ _ c) h2 h3 h4 h5 h6 (P m) κ d Q

/-- TensorCore call 1. -/
theorem region1 (κ : GSem nD τ sig → ℕ) (d : Dev nD) (Q : PUnit → sProp 𝕄) :
    iprop((K (F := F)).ctx EH (P m) κ ∗ (boundary (T d) ∗ StableHlo.held (d.tc : Thread nD τ) (ucRefs τ sig) (c3 m d) ∗ (K (F := F)).tcSt EH d 0)
        ∗ (cellsGhost (pin (pcfgs (F := F)) adm) EP 1 d ∗ toksInit (pin (pcfgs (F := F)) adm) EP 1 d)
        ∗ ((boundary (T d) ∗ StableHlo.held (d.tc : Thread nD τ) (ucRefs τ sig) (c4 m d) ∗ (K (F := F)).tcSt EH d 0) -∗ Q ⟨⟩))
      ⊢ wp frame (wpE ((K (F := F)).defs (D (F := F))) 𝒱 (T d) none) Set.univ
          (Prog.lift (.customCall (SparseCore.inner (Pipeline.entry 1)) ())) Q := by
  have h1 : ∀ w, (arrRef (pcfgs (F := F) 1).spec w).isScoped = false := show ∀ w : Fin 4, (arrRef spec1 w).isScoped = false by decide
  have h2 : ∀ c t, (dats 0 (c3 m) 1 c).owed t = (K (F := F)).Otc c 0 := fun _ _ => rfl
  have h3 : ∀ c t, (dats 0 (c3 m) 1 c).recorded t = low (F := F) 0 c := fun _ _ => rfl
  have h4 : ∀ c w, (dats 0 (c3 m) 1 c).share w = fullShare :=
    fun c w => (Call1.dat (vref (c3 m)) ((K (F := F)).Otc c 0) (low (F := F) 0 c) c).share_full (fun _ => rfl) w
  have h5 : ∀ c t, (dats 0 (c3 m) 1 c).Φ t = scopedRest (pin (pcfgs (F := F)) adm 1).spec c := fun c t => by
    show _ = scopedRest spec1 c
    dsimp only [dats, Call1.dat]
  have h6 : ∀ c w, (dats 0 (c3 m) 1 c).arrAt w 0 = c3 m c (Proc.devRef .tc (arrRef (pin (pcfgs (F := F)) adm 1).spec w)) := fun _ _ => rfl
  exact step 0 (c3 m) (dats 0 (c3 m)) 1 launch1.toP rfl h1
    (fun c => Call1.body_obligation (vref (c3 m)) _ _ c) h2 h3 h4 h5 h6 (P m) κ d Q

/-- TensorCore call 2. -/
theorem region2 (κ : GSem nD τ sig → ℕ) (d : Dev nD) (Q : PUnit → sProp 𝕄) :
    iprop((K (F := F)).ctx EH (P m) κ ∗ (boundary (T d) ∗ StableHlo.held (d.tc : Thread nD τ) (ucRefs τ sig) (c5 m d) ∗ (K (F := F)).tcSt EH d 0)
        ∗ (cellsGhost (pin (pcfgs (F := F)) adm) EP 2 d ∗ toksInit (pin (pcfgs (F := F)) adm) EP 2 d)
        ∗ ((boundary (T d) ∗ StableHlo.held (d.tc : Thread nD τ) (ucRefs τ sig) (c6 m d) ∗ (K (F := F)).tcSt EH d 0) -∗ Q ⟨⟩))
      ⊢ wp frame (wpE ((K (F := F)).defs (D (F := F))) 𝒱 (T d) none) Set.univ
          (Prog.lift (.customCall (SparseCore.inner (Pipeline.entry 2)) ())) Q := by
  have h1 : ∀ w, (arrRef (pcfgs (F := F) 2).spec w).isScoped = false := show ∀ w : Fin 3, (arrRef spec2 w).isScoped = false by decide
  have h2 : ∀ c t, (dats 0 (c5 m) 2 c).owed t = (K (F := F)).Otc c 0 := fun _ _ => rfl
  have h3 : ∀ c t, (dats 0 (c5 m) 2 c).recorded t = low (F := F) 0 c := fun _ _ => rfl
  have h4 : ∀ c w, (dats 0 (c5 m) 2 c).share w = fullShare :=
    fun c w => (Call2.dat (vref (c5 m)) ((K (F := F)).Otc c 0) (low (F := F) 0 c) c).share_full (fun _ => rfl) w
  have h5 : ∀ c t, (dats 0 (c5 m) 2 c).Φ t = scopedRest (pin (pcfgs (F := F)) adm 2).spec c := fun c t => by
    show _ = scopedRest spec2 c
    dsimp only [dats, Call2.dat]
  have h6 : ∀ c w, (dats 0 (c5 m) 2 c).arrAt w 0 = c5 m c (Proc.devRef .tc (arrRef (pin (pcfgs (F := F)) adm 2).spec w)) := fun _ _ => rfl
  exact step 0 (c5 m) (dats 0 (c5 m)) 2 launch2.toP rfl h1
    (fun c => Call2.body_obligation (vref (c5 m)) _ _ c) h2 h3 h4 h5 h6 (P m) κ d Q

/-- TensorCore call 3. -/
theorem region3 (κ : GSem nD τ sig → ℕ) (d : Dev nD) (Q : PUnit → sProp 𝕄) :
    iprop((K (F := F)).ctx EH (P m) κ ∗ (boundary (T d) ∗ StableHlo.held (d.tc : Thread nD τ) (ucRefs τ sig) (c9 m d) ∗ (K (F := F)).tcSt EH d 1)
        ∗ (cellsGhost (pin (pcfgs (F := F)) adm) EP 3 d ∗ toksInit (pin (pcfgs (F := F)) adm) EP 3 d)
        ∗ ((boundary (T d) ∗ StableHlo.held (d.tc : Thread nD τ) (ucRefs τ sig) (c10 m d) ∗ (K (F := F)).tcSt EH d 1) -∗ Q ⟨⟩))
      ⊢ wp frame (wpE ((K (F := F)).defs (D (F := F))) 𝒱 (T d) none) Set.univ
          (Prog.lift (.customCall (SparseCore.inner (Pipeline.entry 3)) ())) Q := by
  have h1 : ∀ w, (arrRef (pcfgs (F := F) 3).spec w).isScoped = false := show ∀ w : Fin 4, (arrRef spec4 w).isScoped = false by decide
  have h2 : ∀ c t, (dats 1 (c9 m) 3 c).owed t = (K (F := F)).Otc c 1 := fun _ _ => rfl
  have h3 : ∀ c t, (dats 1 (c9 m) 3 c).recorded t = low (F := F) 1 c := fun _ _ => rfl
  have h4 : ∀ c w, (dats 1 (c9 m) 3 c).share w = fullShare :=
    fun c w => (Call4.dat (vref (c9 m)) ((K (F := F)).Otc c 1) (low (F := F) 1 c) c).share_full (fun _ => rfl) w
  have h5 : ∀ c t, (dats 1 (c9 m) 3 c).Φ t = scopedRest (pin (pcfgs (F := F)) adm 3).spec c := fun c t => by
    show _ = scopedRest spec4 c
    dsimp only [dats, Call4.dat]
  have h6 : ∀ c w, (dats 1 (c9 m) 3 c).arrAt w 0 = c9 m c (Proc.devRef .tc (arrRef (pin (pcfgs (F := F)) adm 3).spec w)) := fun _ _ => rfl
  exact step 1 (c9 m) (dats 1 (c9 m)) 3 launch4.toP rfl h1
    (fun c => Call4.body_obligation (vref (c9 m)) _ _ c) h2 h3 h4 h5 h6 (P m) κ d Q

/-- TensorCore call 4. -/
theorem region4 (κ : GSem nD τ sig → ℕ) (d : Dev nD) (Q : PUnit → sProp 𝕄) :
    iprop((K (F := F)).ctx EH (P m) κ ∗ (boundary (T d) ∗ StableHlo.held (d.tc : Thread nD τ) (ucRefs τ sig) (c13 m d) ∗ (K (F := F)).tcSt EH d 2)
        ∗ (cellsGhost (pin (pcfgs (F := F)) adm) EP 4 d ∗ toksInit (pin (pcfgs (F := F)) adm) EP 4 d)
        ∗ ((boundary (T d) ∗ StableHlo.held (d.tc : Thread nD τ) (ucRefs τ sig) (c14 m d) ∗ (K (F := F)).tcSt EH d 2) -∗ Q ⟨⟩))
      ⊢ wp frame (wpE ((K (F := F)).defs (D (F := F))) 𝒱 (T d) none) Set.univ
          (Prog.lift (.customCall (SparseCore.inner (Pipeline.entry 4)) ())) Q := by
  have h1 : ∀ w, (arrRef (pcfgs (F := F) 4).spec w).isScoped = false := show ∀ w : Fin 8, (arrRef spec6 w).isScoped = false by decide
  have h2 : ∀ c t, (dats 2 (c13 m) 4 c).owed t = (K (F := F)).Otc c 2 := fun _ _ => rfl
  have h3 : ∀ c t, (dats 2 (c13 m) 4 c).recorded t = low (F := F) 2 c := fun _ _ => rfl
  have h4 : ∀ c w, (dats 2 (c13 m) 4 c).share w = fullShare :=
    fun c w => (Call6.dat (vref (c13 m)) ((K (F := F)).Otc c 2) (low (F := F) 2 c) c).share_full (fun _ => rfl) w
  have h5 : ∀ c t, (dats 2 (c13 m) 4 c).Φ t = scopedRest (pin (pcfgs (F := F)) adm 4).spec c := fun c t => by
    show _ = scopedRest spec6 c
    dsimp only [dats, Call6.dat]
  have h6 : ∀ c w, (dats 2 (c13 m) 4 c).arrAt w 0 = c13 m c (Proc.devRef .tc (arrRef (pin (pcfgs (F := F)) adm 4).spec w)) := fun _ _ => rfl
  exact step 2 (c13 m) (dats 2 (c13 m)) 4 launch6.toP rfl h1
    (fun c => Call6.body_obligation (vref (c13 m)) _ _ c) h2 h3 h4 h5 h6 (P m) κ d Q

theorem five {Φ : Fin 5 → sProp 𝕄} : bigSep Finset.univ Φ = iprop(Φ 0 ∗ Φ 1 ∗ Φ 2 ∗ Φ 3 ∗ Φ 4) := by
  rw [show (Finset.univ : Finset (Fin 5)) = {0, 1, 2, 3, 4} by decide, SparseCore.bigSep_insert' (by decide),
    SparseCore.bigSep_insert' (by decide), SparseCore.bigSep_insert' (by decide), SparseCore.bigSep_insert' (by decide), bigSep_singleton]

abbrev FIN (d : Dev nD) : sProp 𝕄 := StableHlo.held (d.tc : Thread nD τ) (ucRefs τ sig) (c15 m d)

theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 2 ∗ FIN m d ∗ (K (F := F)).tcEnd d) := by
  unfold SparseCore.Cfg.tcRes SparseCore.Cfg.tcEnd G
  rw [show (unscopedBufs d (fun b => m ((SparseCore.T d).loc b)) : sProp 𝕄) = StableHlo.held (d.tc : Thread nD τ) (ucRefs τ sig) (c0 m d) from
    unscopedBufs_held d (c0 m d), five, five]
  simp only [main, fn_pad.body, fn_pad_0.body, wp_bind, wp_pure]
  iintro ⟨#Hctx, Hst, ⟨Hb, Hh, Hts, -⟩, ⟨⟨Hc0, Hc1, Hc2, Hc3, Hc4⟩, ⟨Ht0, Ht1, Ht2, Ht3, Ht4⟩⟩⟩
  iapply (host d _ (StableHlo.reshape_bufs_sub ..) (by first | rfl | decide) _ _ _)
  isplitl [Hb Hh Hst]
  · isplitl [Hb]; · iexact Hb
    isplitl [Hh]; · iexact Hh
    iexact Hst
  iintro ⟨Hb, Hh, Hst⟩
  iapply (region0 m κ d _)
  isplitr; · iexact Hctx
  isplitl [Hb Hh Hst]
  · isplitl [Hb]; · iexact Hb
    isplitl [Hh]; · iexact Hh
    iexact Hst
  isplitl [Hc0 Ht0]
  · isplitl [Hc0]; · iexact Hc0
    iexact Ht0
  iintro ⟨Hb, Hh, Hst⟩
  iapply (host d _ (StableHlo.nullary_bufs_sub ..) (by first | rfl | decide) _ _ _)
  isplitl [Hb Hh Hst]
  · isplitl [Hb]; · iexact Hb
    isplitl [Hh]; · iexact Hh
    iexact Hst
  iintro ⟨Hb, Hh, Hst⟩
  iapply (host d _ (StableHlo.unary_bufs_sub ..) (by first | rfl | decide) _ _ _)
  isplitl [Hb Hh Hst]
  · isplitl [Hb]; · iexact Hb
    isplitl [Hh]; · iexact Hh
    iexact Hst
  iintro ⟨Hb, Hh, Hst⟩
  iapply (host d _ (StableHlo.binary_bufs_sub ..) (by first | rfl | decide) _ _ _)
  isplitl [Hb Hh Hst]
  · isplitl [Hb]; · iexact Hb
    isplitl [Hh]; · iexact Hh
    iexact Hst
  iintro ⟨Hb, Hh, Hst⟩
  imodintro
  iapply (region1 m κ d _)
  isplitr; · iexact Hctx
  isplitl [Hb Hh Hst]
  · isplitl [Hb]; · iexact Hb
    isplitl [Hh]; · iexact Hh
    iexact Hst
  isplitl [Hc1 Ht1]
  · isplitl [Hc1]; · iexact Hc1
    iexact Ht1
  iintro ⟨Hb, Hh, Hst⟩
  iapply (host d _ (StableHlo.unary_bufs_sub ..) (by first | rfl | decide) _ _ _)
  isplitl [Hb Hh Hst]
  · isplitl [Hb]; · iexact Hb
    isplitl [Hh]; · iexact Hh
    iexact Hst
  iintro ⟨Hb, Hh, Hst⟩
  iapply (host d _ (StableHlo.reshape_bufs_sub ..) (by first | rfl | decide) _ _ _)
  isplitl [Hb Hh Hst]
  · isplitl [Hb]; · iexact Hb
    isplitl [Hh]; · iexact Hh
    iexact Hst
  iintro ⟨Hb, Hh, Hst⟩
  iapply (host d _ (StableHlo.nullary_bufs_sub ..) (by first | rfl | decide) _ _ _)
  isplitl [Hb Hh Hst]
  · isplitl [Hb]; · iexact Hb
    isplitl [Hh]; · iexact Hh
    iexact Hst
  iintro ⟨Hb, Hh, Hst⟩
  iapply (host d _ (StableHlo.unary_bufs_sub ..) (by first | rfl | decide) _ _ _)
  isplitl [Hb Hh Hst]
  · isplitl [Hb]; · iexact Hb
    isplitl [Hh]; · iexact Hh
    iexact Hst
  iintro ⟨Hb, Hh, Hst⟩
  iapply (host d _ (StableHlo.binary_bufs_sub ..) (by first | rfl | decide) _ _ _)
  isplitl [Hb Hh Hst]
  · isplitl [Hb]; · iexact Hb
    isplitl [Hh]; · iexact Hh
    iexact Hst
  iintro ⟨Hb, Hh, Hst⟩
  imodintro
  iapply (region2 m κ d _)
  isplitr; · iexact Hctx
  isplitl [Hb Hh Hst]
  · isplitl [Hb]; · iexact Hb
    isplitl [Hh]; · iexact Hh
    iexact Hst
  isplitl [Hc2 Ht2]
  · isplitl [Hc2]; · iexact Hc2
    iexact Ht2
  iintro ⟨Hb, Hh, Hst⟩
  iapply (host d _ (StableHlo.reshape_bufs_sub ..) (by first | rfl | decide) _ _ _)
  isplitl [Hb Hh Hst]
  · isplitl [Hb]; · iexact Hb
    isplitl [Hh]; · iexact Hh
    iexact Hst
  iintro ⟨Hb, Hh, Hst⟩
  iapply (host d _ (StableHlo.reshape_bufs_sub ..) (by first | rfl | decide) _ _ _)
  isplitl [Hb Hh Hst]
  · isplitl [Hb]; · iexact Hb
    isplitl [Hh]; · iexact Hh
    iexact Hst
  iintro ⟨Hb, Hh, Hst⟩
  iapply (run_zero m κ d _)
  isplitr; · iexact Hctx
  isplitl [Hb Hh Hst]
  · isplitl [Hb]; · iexact Hb
    isplitl [Hh]; · iexact Hh
    iexact Hst
  iintro ⟨Hb, Hh, Hst⟩
  iapply (host d _ (StableHlo.reshape_bufs_sub ..) (by first | rfl | decide) _ _ _)
  isplitl [Hb Hh Hst]
  · isplitl [Hb]; · iexact Hb
    isplitl [Hh]; · iexact Hh
    iexact Hst
  iintro ⟨Hb, Hh, Hst⟩
  iapply (region3 m κ d _)
  isplitr; · iexact Hctx
  isplitl [Hb Hh Hst]
  · isplitl [Hb]; · iexact Hb
    isplitl [Hh]; · iexact Hh
    iexact Hst
  isplitl [Hc3 Ht3]
  · isplitl [Hc3]; · iexact Hc3
    iexact Ht3
  iintro ⟨Hb, Hh, Hst⟩
  iapply (host d _ (StableHlo.reshape_bufs_sub ..) (by first | rfl | decide) _ _ _)
  isplitl [Hb Hh Hst]
  · isplitl [Hb]; · iexact Hb
    isplitl [Hh]; · iexact Hh
    iexact Hst
  iintro ⟨Hb, Hh, Hst⟩
  iapply (run_one m κ d _)
  isplitr; · iexact Hctx
  isplitl [Hb Hh Hst]
  · isplitl [Hb]; · iexact Hb
    isplitl [Hh]; · iexact Hh
    iexact Hst
  iintro ⟨Hb, Hh, Hst⟩
  iapply (host d _ (StableHlo.reshape_bufs_sub ..) (by first | rfl | decide) _ _ _)
  isplitl [Hb Hh Hst]
  · isplitl [Hb]; · iexact Hb
    isplitl [Hh]; · iexact Hh
    iexact Hst
  iintro ⟨Hb, Hh, Hst⟩
  iapply (host d _ (StableHlo.reshape_bufs_sub ..) (by first | rfl | decide) _ _ _)
  isplitl [Hb Hh Hst]
  · isplitl [Hb]; · iexact Hb
    isplitl [Hh]; · iexact Hh
    iexact Hst
  iintro ⟨Hb, Hh, Hst⟩
  iapply (host d _ (StableHlo.binary_bufs_sub ..) (by first | rfl | decide) _ _ _)
  isplitl [Hb Hh Hst]
  · isplitl [Hb]; · iexact Hb
    isplitl [Hh]; · iexact Hh
    iexact Hst
  iintro ⟨Hb, Hh, Hst⟩
  iapply (host d _ (StableHlo.reshape_bufs_sub ..) (by first | rfl | decide) _ _ _)
  isplitl [Hb Hh Hst]
  · isplitl [Hb]; · iexact Hb
    isplitl [Hh]; · iexact Hh
    iexact Hst
  iintro ⟨Hb, Hh, Hst⟩
  iapply (region4 m κ d _)
  isplitr; · iexact Hctx
  isplitl [Hb Hh Hst]
  · isplitl [Hb]; · iexact Hb
    isplitl [Hh]; · iexact Hh
    iexact Hst
  isplitl [Hc4 Ht4]
  · isplitl [Hc4]; · iexact Hc4
    iexact Ht4
  iintro ⟨Hb, Hh, Hst⟩
  iapply (host d _ (StableHlo.reshape_bufs_sub ..) (by first | rfl | decide) _ _ _)
  isplitl [Hb Hh Hst]
  · isplitl [Hb]; · iexact Hb
    isplitl [Hh]; · iexact Hh
    iexact Hst
  iintro ⟨Hb, Hh, Hst⟩
  imodintro
  isplitl [Hst]; · iexact Hst
  isplitl [Hh]; · iexact Hh
  isplitl [Hb] <;> iassumption

/-- What the run leaves in a device's memory. -/
def fq (d : Dev nD) (s' : Phys nD τ sig (Elt F)) : Prop :=
  ∀ b ∈ ucRefs τ sig, s'.mem.mem (d, b) = c15 m d b

theorem hfin (d : Dev nD) (s' : Phys nD τ sig (Elt F)) : iprop(FIN m d ∗ SI s') ⊢ (⌜fq m d s'⌝ : sProp 𝕄) := by
  unfold fq FIN
  change (_ : sProp 𝕄) ⊢ (_ : sProp 𝕄)
  refine (forall_intro fun b => ?_ : (_ : sProp 𝕄) ⊢ «forall» (fun b => iprop(⌜b ∈ ucRefs τ sig → s'.mem.mem (d, b) = c15 m d b⌝))).trans (pure_forall (PROP := sProp 𝕄) (φ := fun b => b ∈ ucRefs τ sig → s'.mem.mem (d, b) = c15 m d b)).2
  refine (forall_intro fun hb => ?_ : (_ : sProp 𝕄) ⊢ «forall» (fun _ : b ∈ ucRefs τ sig => iprop(⌜s'.mem.mem (d, b) = c15 m d b⌝))).trans (pure_forall (PROP := sProp 𝕄) (φ := fun _ : b ∈ ucRefs τ sig => s'.mem.mem (d, b) = c15 m d b)).2
  have hel : (StableHlo.held (d.tc : Thread nD τ) (ucRefs τ sig) (c15 m d) : sProp 𝕄) ⊢ ((d, b) ↦{fullShare} c15 m d b) :=
    bigSep_elim (Φ := fun b : DevRef τ sig => (((d, b) ↦{fullShare} c15 m d b) : sProp 𝕄)) hb
  iintro ⟨Hh, HSI⟩
  ihave H := hel $$ Hh
  ihave H := (SI_pointsTo_agree (st := s') (ℓ := (d, b)) (I := Finset.univ) (q := fullShare) (f := c15 m d b)) $$ [HSI H]
  · isplitl [HSI] <;> iassumption
  icases H with %h3
  ipureintro
  exact funext fun i => h3 i (Finset.mem_univ i)

def QC : PUnit × MemSt nD τ sig (Elt F) → Prop := fun r =>
  (∀ d : Dev nD, ∀ b ∈ ucRefs τ sig, r.2.mem (d, b) = c15 m d b) ∧ r.2.sem = fun _ => 0

/-- Every run ends, each unscoped buffer at the last valuation, every semaphore at zero. -/
theorem run_main [∀ e, Nonempty (Elt F e)] (hS : GatherSims.InRange (fiS m)) (hV : GatherVals.InRange (fiV m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq | 1 => nomatch hq)
    (fun q _ => match q with | 0 => tileObl_zero m hS | 1 => tileObl_one m hV)
    (fun q _ => match q with | 0 => SparseCore.Cfg.VecSplit.of_plain (vecSplit_zero m) | 1 => SparseCore.Cfg.VecSplit.of_plain (vecSplit_one m))
    m ρ main (fun d => G (F := F) d) (FIN m) (u₀ (F := F)) (sep_elim_left.trans (hu₀ m)) (hmain m ρ) (fq m) (hfin m) (QC m) (fun _ h hz => ⟨h, hz⟩)

end Cert.Proof.Whole

end
-- ==== Proof.WholeReads.lean ====
/-
  What each buffer of the whole kernel holds at each stretch of its @main: the arguments as launched, every value as a
  function of the values it is computed from.
-/
module

public import proofs.«01_k».proof.Proof.WholeChain
public import Idealize.ShloMosaic.Lib.StableHlo.RunRead

@[expose] public section

set_option maxRecDepth 16384

noncomputable section

namespace Cert.Proof.Whole

open Cert.KernelIdeal Cert.KernelIdeal.Gen

open Idealize.ShloMosaic
open Idealize.ShloMosaic.SparseCore.Cfg (HIx Pay)
open Idealize.ShloMosaic.Pipeline

variable {F : FTy → Type} [FloatOps F]

variable (m : (ℓ : Loc nD τ sig) → Buf (Elt F) ℓ) (d : Dev nD)

/-! ## A TensorCore call writes its output arrays alone -/

/-- A buffer that is no output array of a call is after it what it was before. -/
theorem withArrays_keep {gr n : ℕ} (win : Fin n → WinSpec sig gr) (hinj : Function.Injective (arrRef win)) (c : Dev nD)
    (V : Valuation τ sig (Elt F)) (A : (w : Fin n) → Buf (Elt F) ((win w).arr.view.loc (c.tc : Thread nD τ))) (b : Ref sig .tc)
    (hb : ∀ w, arrRef win w = b → A w = V (Proc.devRef .tc (arrRef win w))) :
    withArrays win c V A (Proc.devRef .tc b) = V (Proc.devRef .tc b) := by
  by_cases h : ∃ w, arrRef win w = b
  · obtain ⟨w, rfl⟩ := h
    exact (withArrays_arr win hinj c V A w).trans (hb w rfl)
  · exact withArrays_of_ne win c V A b fun w e => h ⟨w, e⟩

theorem keep_2 (b : Ref sig .tc) (hb : ∀ w, arrRef spec0 w = b → (spec0 w).isOut = false) :
    c2 m d (Proc.devRef .tc b) = c1 m d (Proc.devRef .tc b) :=
  withArrays_keep spec0 winFacts0.arr_inj d _ _ b fun w e =>
    ((Call0.dat (vref (c1 m)) _ _ d).arrAt_in w (hb w e) _).trans (Call0.A_eq _ _ _ d w)
/-- What the call leaves in window `w`'s array. -/
theorem left_2 (w : Fin cfg0.W) : c2 m d (Proc.devRef .tc (arrRef spec0 w))
    = (Call0.dat (vref (c1 m)) ((K (F := F)).Otc d 0) (low (F := F) 0 d) d).arrAt w cfg0.N :=
  withArrays_arr spec0 winFacts0.arr_inj d (c1 m d) (fun w => (Call0.dat (vref (c1 m)) ((K (F := F)).Otc d 0) (low (F := F) 0 d) d).arrAt w cfg0.N) w

theorem keep_4 (b : Ref sig .tc) (hb : ∀ w, arrRef spec1 w = b → (spec1 w).isOut = false) :
    c4 m d (Proc.devRef .tc b) = c3 m d (Proc.devRef .tc b) :=
  withArrays_keep spec1 winFacts1.arr_inj d _ _ b fun w e =>
    ((Call1.dat (vref (c3 m)) _ _ d).arrAt_in w (hb w e) _).trans (Call1.A_eq _ _ _ d w)
/-- What the call leaves in window `w`'s array. -/
theorem left_4 (w : Fin cfg1.W) : c4 m d (Proc.devRef .tc (arrRef spec1 w))
    = (Call1.dat (vref (c3 m)) ((K (F := F)).Otc d 0) (low (F := F) 0 d) d).arrAt w cfg1.N :=
  withArrays_arr spec1 winFacts1.arr_inj d (c3 m d) (fun w => (Call1.dat (vref (c3 m)) ((K (F := F)).Otc d 0) (low (F := F) 0 d) d).arrAt w cfg1.N) w

theorem keep_6 (b : Ref sig .tc) (hb : ∀ w, arrRef spec2 w = b → (spec2 w).isOut = false) :
    c6 m d (Proc.devRef .tc b) = c5 m d (Proc.devRef .tc b) :=
  withArrays_keep spec2 winFacts2.arr_inj d _ _ b fun w e =>
    ((Call2.dat (vref (c5 m)) _ _ d).arrAt_in w (hb w e) _).trans (Call2.A_eq _ _ _ d w)
/-- What the call leaves in window `w`'s array. -/
theorem left_6 (w : Fin cfg2.W) : c6 m d (Proc.devRef .tc (arrRef spec2 w))
    = (Call2.dat (vref (c5 m)) ((K (F := F)).Otc d 0) (low (F := F) 0 d) d).arrAt w cfg2.N :=
  withArrays_arr spec2 winFacts2.arr_inj d (c5 m d) (fun w => (Call2.dat (vref (c5 m)) ((K (F := F)).Otc d 0) (low (F := F) 0 d) d).arrAt w cfg2.N) w

theorem keep_10 (b : Ref sig .tc) (hb : ∀ w, arrRef spec4 w = b → (spec4 w).isOut = false) :
    c10 m d (Proc.devRef .tc b) = c9 m d (Proc.devRef .tc b) :=
  withArrays_keep spec4 winFacts4.arr_inj d _ _ b fun w e =>
    ((Call4.dat (vref (c9 m)) _ _ d).arrAt_in w (hb w e) _).trans (Call4.A_eq _ _ _ d w)
/-- What the call leaves in window `w`'s array. -/
theorem left_10 (w : Fin cfg4.W) : c10 m d (Proc.devRef .tc (arrRef spec4 w))
    = (Call4.dat (vref (c9 m)) ((K (F := F)).Otc d 1) (low (F := F) 1 d) d).arrAt w cfg4.N :=
  withArrays_arr spec4 winFacts4.arr_inj d (c9 m d) (fun w => (Call4.dat (vref (c9 m)) ((K (F := F)).Otc d 1) (low (F := F) 1 d) d).arrAt w cfg4.N) w

theorem keep_14 (b : Ref sig .tc) (hb : ∀ w, arrRef spec6 w = b → (spec6 w).isOut = false) :
    c14 m d (Proc.devRef .tc b) = c13 m d (Proc.devRef .tc b) :=
  withArrays_keep spec6 winFacts6.arr_inj d _ _ b fun w e =>
    ((Call6.dat (vref (c13 m)) _ _ d).arrAt_in w (hb w e) _).trans (Call6.A_eq _ _ _ d w)
/-- What the call leaves in window `w`'s array. -/
theorem left_14 (w : Fin cfg6.W) : c14 m d (Proc.devRef .tc (arrRef spec6 w))
    = (Call6.dat (vref (c13 m)) ((K (F := F)).Otc d 2) (low (F := F) 2 d) d).arrAt w cfg6.N :=
  withArrays_arr spec6 winFacts6.arr_inj d (c13 m d) (fun w => (Call6.dat (vref (c13 m)) ((K (F := F)).Otc d 2) (low (F := F) 2 d) d).arrAt w cfg6.N) w

/-! ## The host lines and the SparseCore calls -/

theorem keep_1 (b : Ref sig .tc) (hb : b ∉ ([main_v0] : List (Ref sig .tc))) :
    c1 m d (Proc.devRef .tc b) = c0 m d (Proc.devRef .tc b) :=
  StableHlo.after_unwritten [main_v0] rfl hb _
theorem keep_3 (b : Ref sig .tc) (hb : b ∉ ([main_c, main_call0.v0.ref, main_call0.v1.ref] : List (Ref sig .tc))) :
    c3 m d (Proc.devRef .tc b) = c2 m d (Proc.devRef .tc b) :=
  StableHlo.after_unwritten [main_c, main_call0.v0.ref, main_call0.v1.ref] rfl hb _
theorem keep_5 (b : Ref sig .tc) (hb : b ∉ ([main_v4, main_v5, main_cst, main_call1.v0.ref, main_call1.v1.ref] : List (Ref sig .tc))) :
    c5 m d (Proc.devRef .tc b) = c4 m d (Proc.devRef .tc b) :=
  StableHlo.after_unwritten [main_v4, main_v5, main_cst, main_call1.v0.ref, main_call1.v1.ref] rfl hb _
theorem keep_7 (b : Ref sig .tc) (hb : b ∉ ([main_v8, main_v9] : List (Ref sig .tc))) :
    c7 m d (Proc.devRef .tc b) = c6 m d (Proc.devRef .tc b) :=
  StableHlo.after_unwritten [main_v8, main_v9] rfl hb _
theorem keep_9 (b : Ref sig .tc) (hb : b ∉ ([main_v11] : List (Ref sig .tc))) :
    c9 m d (Proc.devRef .tc b) = c8 m d (Proc.devRef .tc b) :=
  StableHlo.after_unwritten [main_v11] rfl hb _
theorem keep_11 (b : Ref sig .tc) (hb : b ∉ ([main_v13] : List (Ref sig .tc))) :
    c11 m d (Proc.devRef .tc b) = c10 m d (Proc.devRef .tc b) :=
  StableHlo.after_unwritten [main_v13] rfl hb _
theorem keep_13 (b : Ref sig .tc) (hb : b ∉ ([main_v15, main_v16, main_v17, main_v18] : List (Ref sig .tc))) :
    c13 m d (Proc.devRef .tc b) = c12 m d (Proc.devRef .tc b) :=
  StableHlo.after_unwritten [main_v15, main_v16, main_v17, main_v18] rfl hb _
theorem keep_15 (b : Ref sig .tc) (hb : b ∉ ([main_v20] : List (Ref sig .tc))) :
    c15 m d (Proc.devRef .tc b) = c14 m d (Proc.devRef .tc b) :=
  StableHlo.after_unwritten [main_v20] rfl hb _
theorem keep_8 (b : Ref sig .tc) (hb : b ≠ main_v10) : c8 m d (Proc.devRef .tc b) = c7 m d (Proc.devRef .tc b) :=
  Function.update_of_ne (fun e => hb (Proc.devRef_injective _ e)) _ _
theorem keep_12 (b : Ref sig .tc) (hb : b ≠ main_v14) : c12 m d (Proc.devRef .tc b) = c11 m d (Proc.devRef .tc b) :=
  Function.update_of_ne (fun e => hb (Proc.devRef_injective _ e)) _ _

/-! ## The arguments -/

/-- The kernel's nine arguments. -/
abbrev args : List (Ref sig .tc) := [main_arg0, main_arg1, main_arg2, main_arg3, main_arg4, main_arg5, main_arg6, main_arg7, main_arg8]

theorem arg_1 (b : Ref sig .tc) (hb : b ∈ args) : c1 m d (Proc.devRef .tc b) = m (d, Proc.devRef .tc b) :=
  (keep_1 m d b ((by decide : ∀ b ∈ args, b ∉ ([main_v0] : List (Ref sig .tc))) b hb)).trans rfl
theorem arg_2 (b : Ref sig .tc) (hb : b ∈ args) : c2 m d (Proc.devRef .tc b) = m (d, Proc.devRef .tc b) :=
  (keep_2 m d b ((by decide : ∀ b ∈ args, ∀ w, arrRef spec0 w = b → (spec0 w).isOut = false) b hb)).trans (arg_1 m d b hb)
theorem arg_3 (b : Ref sig .tc) (hb : b ∈ args) : c3 m d (Proc.devRef .tc b) = m (d, Proc.devRef .tc b) :=
  (keep_3 m d b ((by decide : ∀ b ∈ args, b ∉ ([main_c, main_call0.v0.ref, main_call0.v1.ref] : List (Ref sig .tc))) b hb)).trans (arg_2 m d b hb)
theorem arg_4 (b : Ref sig .tc) (hb : b ∈ args) : c4 m d (Proc.devRef .tc b) = m (d, Proc.devRef .tc b) :=
  (keep_4 m d b ((by decide : ∀ b ∈ args, ∀ w, arrRef spec1 w = b → (spec1 w).isOut = false) b hb)).trans (arg_3 m d b hb)
theorem arg_5 (b : Ref sig .tc) (hb : b ∈ args) : c5 m d (Proc.devRef .tc b) = m (d, Proc.devRef .tc b) :=
  (keep_5 m d b ((by decide : ∀ b ∈ args, b ∉ ([main_v4, main_v5, main_cst, main_call1.v0.ref, main_call1.v1.ref] : List (Ref sig .tc))) b hb)).trans (arg_4 m d b hb)
theorem arg_6 (b : Ref sig .tc) (hb : b ∈ args) : c6 m d (Proc.devRef .tc b) = m (d, Proc.devRef .tc b) :=
  (keep_6 m d b ((by decide : ∀ b ∈ args, ∀ w, arrRef spec2 w = b → (spec2 w).isOut = false) b hb)).trans (arg_5 m d b hb)
theorem arg_7 (b : Ref sig .tc) (hb : b ∈ args) : c7 m d (Proc.devRef .tc b) = m (d, Proc.devRef .tc b) :=
  (keep_7 m d b ((by decide : ∀ b ∈ args, b ∉ ([main_v8, main_v9] : List (Ref sig .tc))) b hb)).trans (arg_6 m d b hb)
theorem arg_8 (b : Ref sig .tc) (hb : b ∈ args) : c8 m d (Proc.devRef .tc b) = m (d, Proc.devRef .tc b) :=
  (keep_8 m d b ((by decide : ∀ b ∈ args, b ≠ main_v10) b hb)).trans (arg_7 m d b hb)
theorem arg_9 (b : Ref sig .tc) (hb : b ∈ args) : c9 m d (Proc.devRef .tc b) = m (d, Proc.devRef .tc b) :=
  (keep_9 m d b ((by decide : ∀ b ∈ args, b ∉ ([main_v11] : List (Ref sig .tc))) b hb)).trans (arg_8 m d b hb)
theorem arg_10 (b : Ref sig .tc) (hb : b ∈ args) : c10 m d (Proc.devRef .tc b) = m (d, Proc.devRef .tc b) :=
  (keep_10 m d b ((by decide : ∀ b ∈ args, ∀ w, arrRef spec4 w = b → (spec4 w).isOut = false) b hb)).trans (arg_9 m d b hb)
theorem arg_11 (b : Ref sig .tc) (hb : b ∈ args) : c11 m d (Proc.devRef .tc b) = m (d, Proc.devRef .tc b) :=
  (keep_11 m d b ((by decide : ∀ b ∈ args, b ∉ ([main_v13] : List (Ref sig .tc))) b hb)).trans (arg_10 m d b hb)
theorem arg_12 (b : Ref sig .tc) (hb : b ∈ args) : c12 m d (Proc.devRef .tc b) = m (d, Proc.devRef .tc b) :=
  (keep_12 m d b ((by decide : ∀ b ∈ args, b ≠ main_v14) b hb)).trans (arg_11 m d b hb)
theorem arg_13 (b : Ref sig .tc) (hb : b ∈ args) : c13 m d (Proc.devRef .tc b) = m (d, Proc.devRef .tc b) :=
  (keep_13 m d b ((by decide : ∀ b ∈ args, b ∉ ([main_v15, main_v16, main_v17, main_v18] : List (Ref sig .tc))) b hb)).trans (arg_12 m d b hb)
theorem arg_14 (b : Ref sig .tc) (hb : b ∈ args) : c14 m d (Proc.devRef .tc b) = m (d, Proc.devRef .tc b) :=
  (keep_14 m d b ((by decide : ∀ b ∈ args, ∀ w, arrRef spec6 w = b → (spec6 w).isOut = false) b hb)).trans (arg_13 m d b hb)
theorem arg_15 (b : Ref sig .tc) (hb : b ∈ args) : c15 m d (Proc.devRef .tc b) = m (d, Proc.devRef .tc b) :=
  (keep_15 m d b ((by decide : ∀ b ∈ args, b ∉ ([main_v20] : List (Ref sig .tc))) b hb)).trans (arg_14 m d b hb)

/-! ## The values of the host lines -/

theorem val_v0 : (c1 m d (Proc.devRef .tc main_v0) : Vec F S2048x128 .f32) = shapeCast S2048x128 (m (d, Proc.devRef .tc main_arg0) : Vec F S4x512x128 .f32) shapeCasts_S4x512x128_S2048x128 := by
  unfold c1 opsA; after_reads_simp; rfl
theorem val_v2 : (c3 m d (Proc.devRef .tc main_v2) : Vec F S100352x128 .f32)
    = pad S100352x128 ![0, 0] ![352, 0] ![0, 0] (c2 m d (Proc.devRef .tc main_arg1) : Vec F S100000x128 .f32) (sitofp .f32 (constantI S_ 32 0#32)) pads_S100000x128_S100352x128_03520_000 h_S_ := by
  unfold c3 opsB; after_reads_simp; rfl
theorem val_v6 : (c5 m d (Proc.devRef .tc main_v6) : Vec F S2048x896 .f32)
    = pad S2048x896 ![0, 0] ![0, 112] ![0, 0] (shapeCast S2048x784 (transpose S2048x49x16 [1, 0, 2] (c4 m d (Proc.devRef .tc main_v3_1) : Vec F S49x2048x16 .f32) transposes_S49x2048x16_S2048x49x16_1_0_2) shapeCasts_S2048x49x16_S2048x784) (constant S_ .f32 0xC0000000#32) pads_S2048x784_S2048x896_000_01120 h_S_ := by
  unfold c5 opsC; after_reads_simp; rfl
theorem val_v8 : (c7 m d (Proc.devRef .tc main_v8) : Vec F S1605632x128 .f32) = shapeCast S1605632x128 (c6 m d (Proc.devRef .tc main_v3_0) : Vec F S256x6272x128 .f32) shapeCasts_S256x6272x128_S1605632x128 := by
  unfold c7 opsD; after_reads_simp; rfl
theorem val_v9 : (c7 m d (Proc.devRef .tc main_v9) : Vec F S16384 .i32) = shapeCast S16384 (c6 m d (Proc.devRef .tc main_v7_1) : Vec F S2048x8 .i32) shapeCasts_S2048x8_S16384 := by
  unfold c7 opsD; after_reads_simp; rfl
theorem val_v10 : c8 m d (Proc.devRef .tc main_v10) = GatherSims.outV (fiS m) (ftS m) d :=
  Function.update_self ..
theorem val_v11 : (c9 m d (Proc.devRef .tc main_v11) : Vec F S2048x8x128 .f32) = shapeCast S2048x8x128 (c8 m d (Proc.devRef .tc main_v10) : Vec F S16384x128 .f32) shapeCasts_S16384x128_S2048x8x128 := by
  unfold c9 opsE; after_reads_simp; rfl
theorem val_v13 : (c11 m d (Proc.devRef .tc main_v13) : Vec F S16384 .i32) = shapeCast S16384 (c10 m d (Proc.devRef .tc main_v12_1) : Vec F S2048x8 .i32) shapeCasts_S2048x8_S16384 := by
  unfold c11 opsG; after_reads_simp; rfl
theorem val_v14 : c12 m d (Proc.devRef .tc main_v14) = GatherVals.outV (fiV m) (ftV m) d :=
  Function.update_self ..
theorem val_v15 : (c13 m d (Proc.devRef .tc main_v15) : Vec F S2048x8x128 .f32) = shapeCast S2048x8x128 (c12 m d (Proc.devRef .tc main_v14) : Vec F S16384x128 .f32) shapeCasts_S16384x128_S2048x8x128 := by
  unfold c13 opsH; after_reads_simp; rfl
theorem val_v17 : (c13 m d (Proc.devRef .tc main_v17) : Vec F S1x65 .f32)
    = concatenate S1x65 1 [⟨S1x64, (c12 m d (Proc.devRef .tc main_arg7) : Vec F S1x64 .f32)⟩, ⟨S1x1, shapeCast S1x1 (c12 m d (Proc.devRef .tc main_arg8) : Vec F S1 .f32) shapeCasts_S1_S1x1⟩] concatenates_S1x64_S1x1_S1x65_d1 := by
  unfold c13 opsH; after_reads_simp; rfl
theorem val_v18 : (c13 m d (Proc.devRef .tc main_v18) : Vec F S1x64 .f32) = shapeCast S1x64 (c12 m d (Proc.devRef .tc main_arg6) : Vec F S64 .f32) shapeCasts_S64_S1x64 := by
  unfold c13 opsH; after_reads_simp; rfl
theorem val_v20 : (c15 m d (Proc.devRef .tc main_v20) : Vec F S4x512x128 .f32) = shapeCast S4x512x128 (c14 m d (Proc.devRef .tc main_v19) : Vec F S2048x128 .f32) shapeCasts_S2048x128_S4x512x128 := by
  unfold c15 opsI; after_reads_simp; rfl

end Cert.Proof.Whole

end
-- ==== Proof.Layouts.lean ====
module

public import proofs.«01_k».proof.Proof.Gen.KernelIdeal
public import Idealize.ShloMosaic.Lib.Pointwise
public import Idealize.ShloMosaic.PureOps.Ideal.Laws

@[expose] public section

set_option maxRecDepth 16384

/-!
# The host's layout changes, entry by entry
-/

noncomputable section

namespace Cert.Proof.Layouts

open Idealize.ShloMosaic Cert.KernelIdeal Cert.KernelIdeal.Gen

theorem queries_at (A : Vec Ideal S4x512x128 .f32) (r : Fin 2048) (x : Fin 128) :
    shapeCast S2048x128 A shapeCasts_S4x512x128_S2048x128 (ix2 r x)
      = A (ix3 ⟨r.val / 512, by omega⟩ ⟨r.val % 512, by omega⟩ x) := by
  pointwise

theorem keys_at (A : Vec Ideal S100000x128 .f32) (v : Vec Ideal S_ .f32) (e : Fin 100352) (h : e.val < 100000) (x : Fin 128) :
    pad S100352x128 ![0, 0] ![352, 0] ![0, 0] A v pads_S100000x128_S100352x128_03520_000 h_S_ (ix2 e x)
      = A (ix2 ⟨e.val, h⟩ x) := by
  pointwise
  rw [dif_pos h]

theorem groups_at (M : Vec Ideal S49x2048x16 .f32) (r : Fin 2048) (g : Fin 896) :
    pad S2048x896 ![0, 0] ![0, 112] ![0, 0] (shapeCast S2048x784 (transpose S2048x49x16 [1, 0, 2] M
        transposes_S49x2048x16_S2048x49x16_1_0_2) shapeCasts_S2048x49x16_S2048x784) (constant (F := Ideal) S_ .f32 0xC0000000#32)
        pads_S2048x784_S2048x896_000_01120 h_S_ (ix2 r g)
      = if h : g.val < 784 then M (ix3 ⟨g.val / 16, by omega⟩ r ⟨g.val % 16, by omega⟩) else Ideal.ofBits .f32 3221225472#32 := by
  pointwise

theorem flatRows_at (M : Vec Ideal S256x6272x128 .f32) (f : Fin 1605632) (l : Fin 128) :
    shapeCast S1605632x128 M shapeCasts_S256x6272x128_S1605632x128 (ix2 f l)
      = M (ix3 ⟨f.val / 6272, by omega⟩ ⟨f.val % 6272, by omega⟩ l) := by
  pointwise

theorem list_at (P : Vec Ideal S2048x8 .i32) (k : Fin 16384) :
    shapeCast S16384 P shapeCasts_S2048x8_S16384 (ix1 k) = P (ix2 ⟨k.val / 8, by omega⟩ ⟨k.val % 8, by omega⟩) := by
  pointwise

theorem rows_at (O : Vec Ideal S16384x128 .f32) (r : Fin 2048) (j : Fin 8) (l : Fin 128) :
    shapeCast S2048x8x128 O shapeCasts_S16384x128_S2048x8x128 (ix3 r j l) = O (ix2 ⟨r.val * 8 + j.val, by omega⟩ l) := by
  pointwise

theorem bias_at (B : Vec Ideal S64 .f32) (x : Fin 64) :
    shapeCast S1x64 B shapeCasts_S64_S1x64 (ix2 0 x) = B (ix1 x) := by
  pointwise

theorem gate_at (W : Vec Ideal S1x64 .f32) (B : Vec Ideal S1 .f32) (x : Fin 64) :
    concatenate S1x65 1 [⟨S1x64, W⟩, ⟨S1x1, shapeCast S1x1 B shapeCasts_S1_S1x1⟩] concatenates_S1x64_S1x1_S1x65_d1 (ix2 0 ⟨x.val, by omega⟩)
      = W (ix2 0 x) := by
  pointwise

theorem gate_last (W : Vec Ideal S1x64 .f32) (B : Vec Ideal S1 .f32) :
    concatenate S1x65 1 [⟨S1x64, W⟩, ⟨S1x1, shapeCast S1x1 B shapeCasts_S1_S1x1⟩] concatenates_S1x64_S1x1_S1x65_d1 (ix2 0 64)
      = B (ix1 0) := by
  pointwise

theorem out_at (O : Vec Ideal S2048x128 .f32) (b : Fin 4) (s : Fin 512) (x : Fin 128) :
    shapeCast S4x512x128 O shapeCasts_S2048x128_S4x512x128 (ix3 b s x) = O (ix2 ⟨b.val * 512 + s.val, by omega⟩ x) := by
  pointwise

end Cert.Proof.Layouts

end
-- ==== Proof.RankMath.lean ====
module

public import Idealize.ShloMosaic.Lib.Pointwise
public import Idealize.ShloMosaic.Lib.SortFacts

@[expose] public section

/-!
# Ranks

Elements of a finite type are ordered by a value (greater first) and, on equal values, by an
injective key (smaller first).  An element's rank is the number of elements before it.  Ranks are
pairwise different and run through `0, …, n - 1`, so two procedures that both name "the element of
rank `k`" name the same one.
-/

noncomputable section

namespace Cert.Proof.RankMath

variable {ι : Type} [Fintype ι] (s : ι → EReal) (κ : ι → ℕ)

/-- `x` is ahead of `y`: its value is greater, or the values are equal and its key is smaller. -/
def Ahead (x y : ι) : Prop := s y < s x ∨ (s x = s y ∧ κ x < κ y)

variable {s κ} in
theorem Ahead.irrefl {x : ι} : ¬ Ahead s κ x x := by
  rintro (h | ⟨-, h⟩)
  · exact lt_irrefl _ h
  · exact lt_irrefl _ h

variable {s κ} in
theorem Ahead.trans {x y z : ι} (h : Ahead s κ x y) (h' : Ahead s κ y z) : Ahead s κ x z := by
  rcases h with h | ⟨e, h⟩ <;> rcases h' with h' | ⟨e', h'⟩
  · exact .inl (h'.trans h)
  · exact .inl (e' ▸ h)
  · exact .inl (e ▸ h')
  · exact .inr ⟨e.trans e', h.trans h'⟩

variable {s κ} in
theorem Ahead.le {x y : ι} (h : Ahead s κ x y) : s y ≤ s x := by
  rcases h with h | ⟨e, -⟩
  · exact h.le
  · exact e.ge

theorem ahead_total (hκ : Function.Injective κ) {x y : ι} (h : x ≠ y) :
    Ahead s κ x y ∨ Ahead s κ y x := by
  rcases lt_trichotomy (s x) (s y) with h1 | h1 | h1
  · exact .inr (.inl h1)
  · rcases lt_trichotomy (κ x) (κ y) with h2 | h2 | h2
    · exact .inl (.inr ⟨h1, h2⟩)
    · exact absurd (hκ h2) h
    · exact .inr (.inr ⟨h1.symm, h2⟩)
  · exact .inl (.inl h1)

open Classical in
/-- The number of elements ahead of `x`. -/
def rank (x : ι) : ℕ := (Finset.univ.filter fun e => Ahead s κ e x).card

open Classical in
theorem rank_lt_card (x : ι) : rank s κ x < Fintype.card ι := by
  unfold rank
  rw [← Finset.card_univ]
  refine Finset.card_lt_card (Finset.ssubset_univ_iff.mpr fun h => ?_)
  have : x ∈ Finset.univ.filter fun e => Ahead s κ e x := by rw [h]; exact Finset.mem_univ _
  exact Ahead.irrefl (Finset.mem_filter.mp this).2

variable {s κ} in
open Classical in
theorem rank_lt {x y : ι} (h : Ahead s κ x y) : rank s κ x < rank s κ y := by
  unfold rank
  refine Finset.card_lt_card ⟨fun e he => ?_, fun hs => ?_⟩
  · exact Finset.mem_filter.mpr ⟨Finset.mem_univ _, (Finset.mem_filter.mp he).2.trans h⟩
  · exact Ahead.irrefl (Finset.mem_filter.mp (hs (Finset.mem_filter.mpr ⟨Finset.mem_univ _, h⟩))).2

theorem rank_injective (hκ : Function.Injective κ) : Function.Injective (rank s κ) := by
  intro x y h
  by_contra hne
  rcases ahead_total s κ hκ hne with h' | h'
  · exact absurd h (rank_lt h').ne
  · exact absurd h (rank_lt h').ne'

theorem ahead_of_rank_lt (hκ : Function.Injective κ) {x y : ι} (h : rank s κ x < rank s κ y) :
    Ahead s κ x y := by
  rcases ahead_total s κ hκ (fun e : x = y => absurd h (by rw [e]; exact lt_irrefl _)) with h' | h'
  · exact h'
  · exact absurd (rank_lt h') (by omega)

/-- Every number below the number of elements is some element's rank. -/
theorem exists_rank (hκ : Function.Injective κ) {k : ℕ} (hk : k < Fintype.card ι) :
    ∃ x, rank s κ x = k := by
  let f : ι → Fin (Fintype.card ι) := fun x => ⟨rank s κ x, rank_lt_card s κ x⟩
  have hf : Function.Injective f := fun x y h => rank_injective s κ hκ (Fin.mk.inj_iff.mp h)
  have hb : Function.Bijective f := (Fintype.bijective_iff_injective_and_card f).mpr ⟨hf, by simp⟩
  obtain ⟨x, hx⟩ := hb.2 ⟨k, hk⟩
  exact ⟨x, Fin.mk.inj_iff.mp hx⟩

/-- The element of rank `k`. -/
def nth (hκ : Function.Injective κ) (k : ℕ) (hk : k < Fintype.card ι) : ι :=
  (exists_rank s κ hκ hk).choose

theorem rank_nth (hκ : Function.Injective κ) (k : ℕ) (hk : k < Fintype.card ι) :
    rank s κ (nth s κ hκ k hk) = k := (exists_rank s κ hκ hk).choose_spec

theorem eq_nth (hκ : Function.Injective κ) {k : ℕ} (hk : k < Fintype.card ι) {x : ι}
    (hx : rank s κ x = k) : x = nth s κ hκ k hk :=
  rank_injective s κ hκ (hx.trans (rank_nth s κ hκ k hk).symm)

open Classical in
/-- The elements ahead of `x` are exactly as many as its rank. -/
theorem exists_not_mem_of_card_lt (hκ : Function.Injective κ) (S : Finset ι) (x : ι)
    (h : ∀ y ∈ S, Ahead s κ y x) : S.card ≤ rank s κ x :=
  Finset.card_le_card fun y hy => Finset.mem_filter.mpr ⟨Finset.mem_univ _, h y hy⟩

/-! ## Rounds

The values with the elements of rank below `k` overwritten by a value below all of them: the first
element carrying the greatest value is the element of rank `k`.
-/

open Classical in
/-- The values with the elements of rank below `k` overwritten by `lo`. -/
def masked (lo : EReal) (k : ℕ) (y : ι) : EReal := if rank s κ y < k then lo else s y

theorem masked_zero (lo : EReal) (y : ι) : masked s κ lo 0 y = s y := by simp [masked]

theorem masked_nth (hκ : Function.Injective κ) (lo : EReal) (k : ℕ) (hk : k < Fintype.card ι) :
    masked s κ lo k (nth s κ hκ k hk) = s (nth s κ hκ k hk) := by
  simp [masked, rank_nth]

theorem masked_le (hκ : Function.Injective κ) (lo : EReal) (hlo : ∀ y, lo < s y) (k : ℕ)
    (hk : k < Fintype.card ι) (y : ι) : masked s κ lo k y ≤ s (nth s κ hκ k hk) := by
  unfold masked
  split_ifs with h
  · exact (hlo _).le
  · rcases Nat.lt_or_ge k (rank s κ y) with h' | h'
    · exact (ahead_of_rank_lt s κ hκ (by rw [rank_nth]; exact h')).le
    · exact (congrArg s (eq_nth s κ hκ hk (by omega))).le

/-- Among the elements that carry the greatest value, the element of rank `k` has the least key. -/
theorem key_le (hκ : Function.Injective κ) (lo : EReal) (hlo : ∀ y, lo < s y) (k : ℕ)
    (hk : k < Fintype.card ι) (y : ι) (hy : s (nth s κ hκ k hk) ≤ masked s κ lo k y) :
    κ (nth s κ hκ k hk) ≤ κ y := by
  unfold masked at hy
  split_ifs at hy with h
  · exact absurd hy (not_le.mpr (hlo _))
  · rcases Nat.lt_or_ge k (rank s κ y) with h' | h'
    · rcases ahead_of_rank_lt s κ hκ (show rank s κ (nth s κ hκ k hk) < rank s κ y by
        rw [rank_nth]; exact h') with h2 | ⟨-, h2⟩
      · exact absurd hy (not_le.mpr h2)
      · exact h2.le
    · exact (congrArg κ (eq_nth s κ hκ hk (by omega))).ge

theorem masked_succ (hκ : Function.Injective κ) (lo : EReal) (k : ℕ) (hk : k < Fintype.card ι)
    (y : ι) : masked s κ lo (k + 1) y
      = if κ y = κ (nth s κ hκ k hk) then lo else masked s κ lo k y := by
  unfold masked
  by_cases h : κ y = κ (nth s κ hκ k hk)
  · rw [if_pos h, hκ h, rank_nth, if_pos (by omega)]
  · have hne : rank s κ y ≠ k := fun e => h (congrArg κ (eq_nth s κ hκ hk e))
    rw [if_neg h]
    by_cases h1 : rank s κ y < k
    · rw [if_pos h1, if_pos (by omega)]
    · rw [if_neg h1, if_neg (by omega)]

/-! ## Two stages

The elements fall into groups; a group's value is the greatest value in it, and keys of a group's
elements run below those of the next.  The element of rank `k < n` among the elements of the `n`
foremost groups is the element of rank `k` among all.
-/

section TwoStage

variable {γ : Type} [Fintype γ] {ι' : Type} [Fintype ι']

open Classical in
/-- `grp` sends an element to its group, whose value `G` is attained in it and is the greatest, and
the order of keys between groups is the order of the groups' keys.  `emb` embeds the second stage's
elements as all those of the groups of rank below `n`. -/
theorem rank_twoStage {n : ℕ} (grp : ι → γ) (G : γ → EReal) (κg : γ → ℕ)
    (hκ : Function.Injective κ) (hκg : Function.Injective κg)
    (hG : ∀ e, s e ≤ G (grp e)) (hGa : ∀ g, rank G κg g < n → ∃ e, grp e = g ∧ s e = G g)
    (hkey : ∀ e e', κg (grp e) < κg (grp e') → κ e < κ e')
    (hcard : n ≤ Fintype.card γ)
    (emb : ι' → ι) (hinj : Function.Injective emb)
    (himg : ∀ e, (∃ b, emb b = e) ↔ rank G κg (grp e) < n)
    (b : ι') (hb : rank (s ∘ emb) (κ ∘ emb) b < n) :
    rank s κ (emb b) = rank (s ∘ emb) (κ ∘ emb) b := by
  unfold rank
  rw [← Finset.card_map ⟨emb, hinj⟩]
  congr 1
  ext e
  simp only [Finset.mem_filter, Finset.mem_univ, true_and, Finset.mem_map,
    Function.Embedding.coeFn_mk]
  constructor
  · intro he
    by_cases hin : rank G κg (grp e) < n
    · obtain ⟨b', rfl⟩ := (himg e).mpr hin
      exact ⟨b', he, rfl⟩
    · exfalso
      -- every foremost group holds an element ahead of `e`, hence ahead of `emb b`
      have hex : ∀ i : Fin n, ∃ b' : ι', rank G κg (grp (emb b')) = i ∧ Ahead s κ (emb b') e := by
        intro i
        obtain ⟨g, hg⟩ := exists_rank G κg hκg (k := i) (by omega)
        obtain ⟨e', he', hs'⟩ := hGa g (by omega)
        obtain ⟨b', rfl⟩ := (himg e').mpr (by rw [he']; omega)
        refine ⟨b', by rw [he', hg], ?_⟩
        have hgg : Ahead G κg g (grp e) := ahead_of_rank_lt G κg hκg (by omega)
        rcases hgg with h | ⟨h, hk⟩
        · exact .inl (lt_of_le_of_lt (hG e) (hs' ▸ h))
        · rcases (hG e).lt_or_eq with h2 | h2
          · exact .inl (by rw [hs', h]; exact h2)
          · exact .inr ⟨by rw [hs', h, h2], hkey _ _ (by rw [he']; exact hk)⟩
      choose f hf1 hf2 using hex
      have hfi : Function.Injective f := fun i j h => by
        have := hf1 i; rw [h, hf1 j] at this; exact Fin.ext this.symm
      have := exists_not_mem_of_card_lt (s ∘ emb) (κ ∘ emb) (hκ.comp hinj)
        (Finset.univ.map ⟨f, hfi⟩) b (by
          intro y hy
          obtain ⟨i, -, rfl⟩ := Finset.mem_map.mp hy
          exact (hf2 i).trans he)
      simp only [Finset.card_map, Finset.card_univ, Fintype.card_fin] at this
      omega
  · rintro ⟨b', h, rfl⟩
    exact h

end TwoStage

end Cert.Proof.RankMath
-- ==== Proof.RoundMath.lean ====
module

public import proofs.«01_k».proof.Proof.RankMath

@[expose] public section

/-!
# Rounds and sorts name the elements by rank

The first element that carries the greatest value, found by a fold of the maximum and a fold of the
signed minimum over the keys' words; and the stable sort, whose `j`-th element has rank `j`.
-/

noncomputable section

namespace Cert.Proof.RankMath

open Idealize.ShloMosaic

/-! ## Folds -/

theorem fold_max_eq {α : Type} [Fintype α] (f : α → EReal) (m : EReal) (hle : ∀ a, f a ≤ m)
    (hex : ∃ a, f a = m) : Finset.univ.fold max ⊥ f = m := by
  obtain ⟨a, ha⟩ := hex
  refine le_antisymm (Finset.fold_max_le m |>.mpr ⟨bot_le, fun x _ => hle x⟩) ?_
  exact Finset.le_fold_max m |>.mpr (.inr ⟨a, Finset.mem_univ _, ha.ge⟩)

theorem fold_max_le' {α : Type} [Fintype α] (f : α → EReal) (m : EReal) (hle : ∀ a, f a ≤ m) :
    Finset.univ.fold max ⊥ f ≤ m :=
  Finset.fold_max_le m |>.mpr ⟨bot_le, fun x _ => hle x⟩

theorem le_fold_max' {α : Type} [Fintype α] (f : α → EReal) (a : α) :
    f a ≤ Finset.univ.fold max ⊥ f :=
  Finset.le_fold_max _ |>.mpr (.inr ⟨a, Finset.mem_univ _, le_rfl⟩)

theorem fold_max_mem {α : Type} [Fintype α] [Nonempty α] (f : α → EReal) :
    ∃ a, f a = Finset.univ.fold max ⊥ f := by
  obtain ⟨a, -, ha⟩ := Finset.exists_max_image Finset.univ f Finset.univ_nonempty
  exact ⟨a, (fold_max_eq f (f a) (fun b => ha b (Finset.mem_univ _)) ⟨a, rfl⟩).symm⟩

theorem minsi_ge (m a b : BitVec 32) (ha : m.toInt ≤ a.toInt) (hb : m.toInt ≤ b.toInt) :
    m.toInt ≤ (IntOp.minsi a b).toInt := by
  unfold IntOp.minsi; split_ifs <;> assumption

theorem minsi_left (m b : BitVec 32) (hb : m.toInt ≤ b.toInt) : IntOp.minsi m b = m := by
  unfold IntOp.minsi
  split_ifs with h
  · rfl
  · simp only [BitVec.sle_eq_decide, BitVec.slt_eq_decide, decide_eq_true_eq] at h
    first
    | exact absurd hb h
    | exact BitVec.eq_of_toInt_eq (by omega)

theorem minsi_right (m a : BitVec 32) (ha : m.toInt ≤ a.toInt) : IntOp.minsi a m = m := by
  rw [show IntOp.minsi a m = IntOp.minsi m a from Std.Commutative.comm a m]
  exact minsi_left m a ha

theorem fold_minsi_spec' {α : Type} [DecidableEq α] (f : α → BitVec 32) (m i : BitVec 32)
    (hi : m.toInt ≤ i.toInt) (s : Finset α) : (∀ a ∈ s, m.toInt ≤ (f a).toInt) →
    m.toInt ≤ (s.fold IntOp.minsi i f).toInt ∧
      ((∃ a ∈ s, f a = m) → s.fold IntOp.minsi i f = m) := by
  induction s using Finset.induction_on with
  | empty => exact fun _ => ⟨by rw [Finset.fold_empty]; exact hi, fun ⟨a, ha, _⟩ => absurd ha (Finset.notMem_empty a)⟩
  | insert a s has ih =>
    intro h
    obtain ⟨h1, h2⟩ := ih fun b hb => h b (Finset.mem_insert_of_mem hb)
    have ha := h a (Finset.mem_insert_self _ _)
    rw [Finset.fold_insert has]
    refine ⟨minsi_ge _ _ _ ha h1, ?_⟩
    rintro ⟨b, hb, hbm⟩
    rcases Finset.mem_insert.mp hb with rfl | hb
    · rw [hbm]; exact minsi_left _ _ h1
    · rw [h2 ⟨b, hb, hbm⟩]; exact minsi_right _ _ ha

theorem toInt_le_top (m : BitVec 32) : m.toInt ≤ (2147483647#32 : BitVec 32).toInt := by
  have h : (2147483647#32 : BitVec 32).toInt = 2147483647 := by decide
  rw [h]
  have := BitVec.toInt_lt (x := m)
  omega

theorem fold_minsi_eq {α : Type} [Fintype α] (f : α → BitVec 32) (m : BitVec 32)
    (hle : ∀ a, m.toInt ≤ (f a).toInt) (hex : ∃ a, f a = m) :
    Finset.univ.fold IntOp.minsi 2147483647#32 f = m := by
  classical
  obtain ⟨a, ha⟩ := hex
  exact (fold_minsi_spec' f m _ (toInt_le_top m) Finset.univ fun a _ => hle a).2
    ⟨a, Finset.mem_univ _, ha⟩

theorem fold_minsi_ge {α : Type} [Fintype α] (f : α → BitVec 32) (m : BitVec 32)
    (hle : ∀ a, m.toInt ≤ (f a).toInt) :
    m.toInt ≤ (Finset.univ.fold IntOp.minsi 2147483647#32 f).toInt := by
  classical
  exact (fold_minsi_spec' f m _ (toInt_le_top m) Finset.univ fun a _ => hle a).1

/-! ## One round -/

section Round

variable {ι : Type} [Fintype ι] (s : ι → EReal) (κ : ι → ℕ) (hκ : Function.Injective κ) (lo : EReal)
  (hlo : ∀ y, lo < s y) (k : ℕ) (hk : k < Fintype.card ι)

/-- The words the signed minimum runs over in a round: keys of the elements with the greatest value,
and a word above all keys elsewhere. -/
def cand (cur : ι → EReal) (m : EReal) (w : ι → BitVec 32) (y : ι) : BitVec 32 :=
  if m ≤ cur y then w y else 1073741824#32

include hlo in
theorem cand_ge (w : ι → BitVec 32) (hw : ∀ y, w y = BitVec.ofNat 32 (κ y))
    (hb : ∀ y, κ y < 1073741824) (y : ι) :
    (BitVec.ofNat 32 (κ (nth s κ hκ k hk))).toInt
      ≤ (cand (masked s κ lo k) (s (nth s κ hκ k hk)) w y).toInt := by
  have hn : ∀ n : ℕ, n < 1073741824 → (BitVec.ofNat 32 n).toInt = n := fun n h => by
    have h1 : (BitVec.ofNat 32 n).toNat = n := by
      rw [BitVec.toNat_ofNat, Nat.mod_eq_of_lt (by omega)]
    rw [BitVec.toInt_eq_toNat_of_lt (by omega), h1]
  unfold cand
  by_cases h : s (nth s κ hκ k hk) ≤ masked s κ lo k y
  · rw [if_pos h, hw, hn _ (hb _), hn _ (hb _)]
    exact_mod_cast key_le s κ hκ lo hlo k hk y h
  · rw [if_neg h, hn _ (hb _)]
    have := hb (nth s κ hκ k hk)
    have h2 : (1073741824#32 : BitVec 32).toInt = 1073741824 := by decide
    rw [h2]; exact_mod_cast this.le

theorem cand_nth (w : ι → BitVec 32) (hw : ∀ y, w y = BitVec.ofNat 32 (κ y)) :
    cand (masked s κ lo k) (s (nth s κ hκ k hk)) w (nth s κ hκ k hk)
      = BitVec.ofNat 32 (κ (nth s κ hκ k hk)) := by
  unfold cand
  rw [masked_nth, if_pos le_rfl, hw]

include hlo in
theorem round_max (cur : ι → EReal) (hc : ∀ y, cur y = masked s κ lo k y) :
    Finset.univ.fold max ⊥ cur = s (nth s κ hκ k hk) :=
  fold_max_eq _ _ (fun y => hc y ▸ masked_le s κ hκ lo hlo k hk y)
    ⟨nth s κ hκ k hk, by rw [hc, masked_nth]⟩

include hlo in
theorem round_arg (cur : ι → EReal) (hc : ∀ y, cur y = masked s κ lo k y)
    (w : ι → BitVec 32) (hw : ∀ y, w y = BitVec.ofNat 32 (κ y)) (hb : ∀ y, κ y < 1073741824) :
    Finset.univ.fold IntOp.minsi 2147483647#32 (cand cur (s (nth s κ hκ k hk)) w)
      = BitVec.ofNat 32 (κ (nth s κ hκ k hk)) := by
  obtain rfl : cur = masked s κ lo k := funext hc
  exact fold_minsi_eq _ _ (cand_ge s κ hκ lo hlo k hk w hw hb) ⟨_, cand_nth s κ hκ lo k hk w hw⟩

theorem round_next (cur : ι → EReal) (hc : ∀ y, cur y = masked s κ lo k y)
    (w : ι → BitVec 32) (hw : ∀ y, w y = BitVec.ofNat 32 (κ y)) (hb : ∀ y, κ y < 1073741824) (y : ι) :
    Scalar.select (IntOp.cmpi .eq (w y) (BitVec.ofNat 32 (κ (nth s κ hκ k hk)))) lo (cur y)
      = masked s κ lo (k + 1) y := by
  rw [masked_succ s κ hκ lo k hk, hc, hw]
  have hinj : BitVec.ofNat 32 (κ y) = BitVec.ofNat 32 (κ (nth s κ hκ k hk))
      ↔ κ y = κ (nth s κ hκ k hk) := by
    refine ⟨fun h => ?_, fun h => h ▸ rfl⟩
    have := congrArg BitVec.toNat h
    rw [BitVec.toNat_ofNat, BitVec.toNat_ofNat, Nat.mod_eq_of_lt, Nat.mod_eq_of_lt] at this
    · exact this
    · have := hb (nth s κ hκ k hk); omega
    · have := hb y; omega
  unfold Scalar.select IntOp.cmpi
  by_cases h : κ y = κ (nth s κ hκ k hk)
  · rw [if_pos h, h]; simp
  · rw [if_neg h]
    have h' := beq_eq_false_iff_ne.mpr (mt hinj.mp h)
    dsimp only
    rw [h', if_neg (by decide)]

end Round

/-! ## One round over pairs, the folds running over one coordinate after the other -/

section RoundPair

variable {α β : Type} [Fintype α] [Fintype β] (s : α × β → EReal) (κ : α × β → ℕ)
  (hκ : Function.Injective κ) (lo : EReal)
  (hlo : ∀ y, lo < s y) (k : ℕ) (hk : k < Fintype.card (α × β))

include hlo in
theorem round_max₂ (cur : α → β → EReal) (hc : ∀ a b, cur a b = masked s κ lo k (a, b)) :
    Finset.univ.fold max ⊥ (fun a => Finset.univ.fold max ⊥ (cur a)) = s (nth s κ hκ k hk) := by
  have hle : ∀ a b, cur a b ≤ s (nth s κ hκ k hk) := fun a b =>
    hc a b ▸ masked_le s κ hκ lo hlo k hk (a, b)
  refine fold_max_eq _ _ (fun a => fold_max_le' _ _ (hle a)) ⟨(nth s κ hκ k hk).1, ?_⟩
  exact fold_max_eq _ _ (hle _) ⟨(nth s κ hκ k hk).2, by rw [hc, Prod.mk.eta, masked_nth]⟩

include hlo in
theorem round_arg₂ (cur : α → β → EReal) (hc : ∀ a b, cur a b = masked s κ lo k (a, b))
    (w : α → β → BitVec 32) (hw : ∀ a b, w a b = BitVec.ofNat 32 (κ (a, b)))
    (hb : ∀ y, κ y < 1073741824) :
    Finset.univ.fold IntOp.minsi 2147483647#32 (fun a => Finset.univ.fold IntOp.minsi 2147483647#32
        (cand (cur a) (s (nth s κ hκ k hk)) (w a)))
      = BitVec.ofNat 32 (κ (nth s κ hκ k hk)) := by
  have hge : ∀ a b, (BitVec.ofNat 32 (κ (nth s κ hκ k hk))).toInt
      ≤ (cand (cur a) (s (nth s κ hκ k hk)) (w a) b).toInt := fun a b => by
    have := cand_ge s κ hκ lo hlo k hk (fun y => w y.1 y.2) (fun y => hw y.1 y.2) hb (a, b)
    unfold cand at this ⊢
    rw [hc]; exact this
  refine fold_minsi_eq _ _ (fun a => fold_minsi_ge _ _ (hge a)) ⟨(nth s κ hκ k hk).1, ?_⟩
  refine fold_minsi_eq _ _ (hge _) ⟨(nth s κ hκ k hk).2, ?_⟩
  have := cand_nth s κ hκ lo k hk (fun y => w y.1 y.2) (fun y => hw y.1 y.2)
  unfold cand at this ⊢
  rw [hc, Prod.mk.eta]; exact this

theorem round_next₂ (cur : α → β → EReal) (hc : ∀ a b, cur a b = masked s κ lo k (a, b))
    (w : α → β → BitVec 32) (hw : ∀ a b, w a b = BitVec.ofNat 32 (κ (a, b)))
    (hb : ∀ y, κ y < 1073741824) (a : α) (b : β) :
    Scalar.select (IntOp.cmpi .eq (w a b) (BitVec.ofNat 32 (κ (nth s κ hκ k hk)))) lo (cur a b)
      = masked s κ lo (k + 1) (a, b) :=
  round_next s κ hκ lo k hk (fun y => cur y.1 y.2) (fun y => hc y.1 y.2) (fun y => w y.1 y.2)
    (fun y => hw y.1 y.2) hb (a, b)

end RoundPair

/-! ## The stable sort -/

section SortRank

theorem rank_of_ahead {ι : Type} [Fintype ι] (s : ι → EReal) (κ : ι → ℕ) {n : ℕ} (σ : Fin n → ι)
    (hn : Fintype.card ι = n) (h : ∀ i j, i < j → Ahead s κ (σ i) (σ j)) (j : Fin n) :
    rank s κ (σ j) = j := by
  let f : Fin n → Fin n := fun i => ⟨rank s κ (σ i), hn ▸ rank_lt_card s κ (σ i)⟩
  have hf : StrictMono f := fun i j hij => Fin.mk_lt_mk.mpr (rank_lt (h i j hij))
  have hs : Function.Surjective f := Finite.injective_iff_surjective.mp hf.injective
  have := (hf.range_inj strictMono_id).mp (by rw [hs.range_eq, Set.range_id])
  exact congrArg Fin.val (congrFun this j)

theorem mem_insertBefore {n : ℕ} (before : Fin n → Fin n → Bool) (a x : Fin n) (l : List (Fin n)) :
    x ∈ insertBefore before a l ↔ x = a ∨ x ∈ l := by
  rw [(perm_insertBefore before a l).mem_iff, List.mem_cons]

variable {n : ℕ} (s : Fin n → EReal)

theorem pairwise_insert (a : Fin n) (l : List (Fin n)) (hl : l.Pairwise (Ahead s Fin.val))
    (ha : ∀ b ∈ l, a < b) :
    (insertBefore (fun k k' => decide (s k' < s k)) a l).Pairwise (Ahead s Fin.val) := by
  induction l with
  | nil => exact List.pairwise_singleton _ _
  | cons b l ih =>
    obtain ⟨hb, hl'⟩ := List.pairwise_cons.mp hl
    unfold insertBefore
    by_cases h : s a < s b
    · rw [if_pos (by simpa using h)]
      refine List.pairwise_cons.mpr ⟨fun x hx => ?_, ih hl' fun c hc => ha c (List.mem_cons_of_mem _ hc)⟩
      rcases (mem_insertBefore _ _ _ _).mp hx with rfl | hx
      · exact .inl h
      · exact hb x hx
    · rw [if_neg (by simpa using h)]
      have hab : Ahead s Fin.val a b := by
        rcases (not_lt.mp h).lt_or_eq with h2 | h2
        · exact .inl h2
        · exact .inr ⟨h2.symm, ha b List.mem_cons_self⟩
      refine List.pairwise_cons.mpr ⟨fun x hx => ?_, hl⟩
      rcases List.mem_cons.mp hx with rfl | hx
      · exact hab
      · exact hab.trans (hb x hx)

theorem pairwise_sort (l : List (Fin n)) (hl : l.Pairwise (· < ·)) :
    (stableSort (fun k k' => decide (s k' < s k)) l).Pairwise (Ahead s Fin.val) := by
  induction l with
  | nil => exact List.Pairwise.nil
  | cons a l ih =>
    obtain ⟨ha, hl'⟩ := List.pairwise_cons.mp hl
    exact pairwise_insert s a _ (ih hl') fun b hb => ha b ((perm_stableSort _ l).mem_iff.mp hb)

/-- The `j`-th element of the stable sort by falling values has rank `j`. -/
theorem rank_sortedFrom (j : Fin n) :
    rank s Fin.val (sortedFrom (fun k k' => decide (s k' < s k)) j) = j := by
  refine rank_of_ahead s Fin.val (sortedFrom fun k k' => decide (s k' < s k)) (Fintype.card_fin n)
    (fun i j hij => ?_) j
  have := pairwise_sort s (List.finRange n) (List.pairwise_lt_finRange n)
  exact List.pairwise_iff_get.mp this _ _ (Fin.lt_def.mpr hij)

end SortRank

end Cert.Proof.RankMath
-- ==== Proof.TwoStage.lean ====
module

public import proofs.«01_k».proof.Proof.RoundMath

@[expose] public section

set_option maxRecDepth 16384

/-!
# The foremost elements, by groups

A row of 100000 values, all above a value `lo`, is continued by `lo` to 896 groups of 128. The eight
groups of greatest maximum hold the eight foremost elements; each of these is one of the 100000, and
its place among the elements of the eight groups is its place in the row.
-/

noncomputable section

namespace Cert.Proof.TwoStage

open Cert.Proof.RankMath

variable (lo : EReal) (σ : Fin 100000 → EReal)

/-- The row continued. -/
def ext (e : Fin 114688) : EReal := if h : e.val < 100000 then σ ⟨e.val, h⟩ else lo

/-- The element at a place of a group. -/
def elt (g : Fin 896) (l : Fin 128) : Fin 114688 := ⟨g.val * 128 + l.val, by omega⟩

/-- The group of an element. -/
def grp (e : Fin 114688) : Fin 896 := ⟨e.val / 128, by omega⟩

/-- A group's greatest value. -/
def best (g : Fin 896) : EReal := Finset.univ.fold max ⊥ fun l => ext lo σ (elt g l)

/-- The group of rank `q`. -/
def topG (q : Fin 8) : Fin 896 :=
  nth (best lo σ) Fin.val Fin.val_injective q.val (by rw [Fintype.card_fin]; omega)

/-- The elements of the eight foremost groups. -/
def emb (y : Fin 8 × Fin 128) : Fin 114688 := elt (topG lo σ y.1) y.2

theorem grp_elt (g : Fin 896) (l : Fin 128) : grp (elt g l) = g :=
  Fin.ext (show (g.val * 128 + l.val) / 128 = g.val by omega)

theorem elt_grp (e : Fin 114688) : elt (grp e) ⟨e.val % 128, Nat.mod_lt _ (by decide)⟩ = e :=
  Fin.ext (show e.val / 128 * 128 + e.val % 128 = e.val by omega)

theorem topG_injective : Function.Injective (topG lo σ) := fun a b h => by
  have ha := rank_nth (best lo σ) Fin.val Fin.val_injective a.val (by rw [Fintype.card_fin]; omega)
  have hb := rank_nth (best lo σ) Fin.val Fin.val_injective b.val (by rw [Fintype.card_fin]; omega)
  have h' := congrArg (rank (best lo σ) Fin.val) h
  unfold topG at h'
  exact Fin.ext (ha.symm.trans (h'.trans hb))

theorem rank_topG (q : Fin 8) : rank (best lo σ) Fin.val (topG lo σ q) = q.val :=
  rank_nth (best lo σ) Fin.val Fin.val_injective q.val (by rw [Fintype.card_fin]; omega)

theorem ext_real {e : Fin 114688} (h : e.val < 100000) : ext lo σ e = σ ⟨e.val, h⟩ := dif_pos h
theorem ext_pad {e : Fin 114688} (h : ¬ e.val < 100000) : ext lo σ e = lo := dif_neg h

theorem best_pad {g : Fin 896} (h : ¬ g.val < 782) : best lo σ g = lo :=
  fold_max_eq _ lo (fun l => (ext_pad lo σ (e := elt g l) (show ¬ g.val * 128 + l.val < 100000 by omega)).le)
    ⟨0, ext_pad lo σ (e := elt g 0) (show ¬ g.val * 128 + (0 : Fin 128).val < 100000 by omega)⟩

variable (hσ : ∀ e, lo < σ e)

include hσ in
theorem le_ext (e : Fin 114688) : lo ≤ ext lo σ e := by
  by_cases h : e.val < 100000
  · rw [ext_real lo σ h]; exact (hσ _).le
  · rw [ext_pad lo σ h]

include hσ in
theorem lt_best {g : Fin 896} (h : g.val < 782) : lo < best lo σ g := by
  refine lt_of_lt_of_le ?_ (le_fold_max' (fun l => ext lo σ (elt g l)) 0)
  have h0 : (elt g 0).val < 100000 := show g.val * 128 + (0 : Fin 128).val < 100000 by
    have : (0 : Fin 128).val = 0 := rfl
    omega
  show lo < ext lo σ (elt g 0)
  rw [ext_real lo σ h0]
  exact hσ _

include hσ in
theorem le_best (g : Fin 896) : lo ≤ best lo σ g :=
  (le_ext lo σ hσ (elt g 0)).trans (le_fold_max' (fun l => ext lo σ (elt g l)) 0)

include hσ in
/-- A group of rank below 8 holds elements of the row. -/
theorem topG_lt (q : Fin 8) : (topG lo σ q).val < 782 := by
  by_contra h
  have hc := exists_not_mem_of_card_lt (best lo σ) Fin.val Fin.val_injective
    ((Finset.univ : Finset (Fin 8)).map (Fin.castLEEmb (by decide : 8 ≤ 896))) (topG lo σ q) fun y hy => by
      obtain ⟨k, -, rfl⟩ := Finset.mem_map.mp hy
      refine .inl ?_
      rw [best_pad lo σ h]
      exact lt_best lo σ hσ (show k.val < 782 by omega)
  rw [Finset.card_map, Finset.card_univ, Fintype.card_fin, rank_topG] at hc
  omega

theorem emb_injective : Function.Injective (emb lo σ) := fun y z h => by
  have h1 : topG lo σ y.1 = topG lo σ z.1 := by rw [← grp_elt (topG lo σ y.1) y.2, ← grp_elt (topG lo σ z.1) z.2]; exact congrArg grp h
  have h2 : (topG lo σ y.1).val * 128 + y.2.val = (topG lo σ z.1).val * 128 + z.2.val := congrArg Fin.val h
  rw [h1] at h2
  exact Prod.ext (topG_injective lo σ h1) (Fin.ext (by omega))

theorem mem_emb (e : Fin 114688) : (∃ b, emb lo σ b = e) ↔ rank (best lo σ) Fin.val (grp e) < 8 := by
  constructor
  · rintro ⟨b, rfl⟩
    unfold emb
    rw [grp_elt, rank_topG]
    exact b.1.isLt
  · intro h
    refine ⟨(⟨_, h⟩, ⟨e.val % 128, Nat.mod_lt _ (by decide)⟩), ?_⟩
    have hg : grp e = topG lo σ ⟨rank (best lo σ) Fin.val (grp e), h⟩ :=
      eq_nth (best lo σ) Fin.val Fin.val_injective _ rfl
    unfold emb
    rw [← hg]
    exact elt_grp e

/-- The place among the elements of the eight groups is the place in the continued row, -/
theorem rank_emb (y : Fin 8 × Fin 128) (hy : rank (ext lo σ ∘ emb lo σ) (Fin.val ∘ emb lo σ) y < 8) :
    rank (ext lo σ) Fin.val (emb lo σ y) = rank (ext lo σ ∘ emb lo σ) (Fin.val ∘ emb lo σ) y :=
  rank_twoStage (ext lo σ) Fin.val grp (best lo σ) Fin.val Fin.val_injective Fin.val_injective
    (fun e => by
      have := le_fold_max' (fun l => ext lo σ (elt (grp e) l)) ⟨e.val % 128, Nat.mod_lt _ (by decide)⟩
      rw [elt_grp] at this
      exact this)
    (fun g _ => by
      obtain ⟨l, hl⟩ := fold_max_mem fun l => ext lo σ (elt g l)
      exact ⟨elt g l, grp_elt g l, hl⟩)
    (fun e e' h => by
      have : e.val / 128 < e'.val / 128 := h
      show e.val < e'.val
      omega)
    (by rw [Fintype.card_fin]; decide) (emb lo σ) (emb_injective lo σ) (mem_emb lo σ) y hy

include hσ in
/-- an element of rank below 8 is of the row, -/
theorem real_of_rank {e : Fin 114688} (h : rank (ext lo σ) Fin.val e < 8) : e.val < 100000 := by
  by_contra hn
  have hc := exists_not_mem_of_card_lt (ext lo σ) Fin.val Fin.val_injective
    ((Finset.univ : Finset (Fin 8)).map (Fin.castLEEmb (by decide : 8 ≤ 114688))) e fun y hy => by
      obtain ⟨k, -, rfl⟩ := Finset.mem_map.mp hy
      refine .inl ?_
      have hk : (Fin.castLEEmb (by decide : 8 ≤ 114688) k).val < 100000 := show k.val < 100000 by omega
      rw [ext_pad lo σ hn, ext_real lo σ hk]
      exact hσ _
  rw [Finset.card_map, Finset.card_univ, Fintype.card_fin] at hc
  omega

include hσ in
/-- and its place there is its place in the row. -/
theorem rank_ext {e : Fin 114688} (h : e.val < 100000) :
    rank (ext lo σ) Fin.val e = rank σ Fin.val ⟨e.val, h⟩ := by
  classical
  unfold rank
  refine Eq.trans (congrArg Finset.card (Finset.ext fun x => ?_))
    (Finset.card_map (Fin.castLEEmb (by decide : 100000 ≤ 114688)))
  simp only [Finset.mem_filter, Finset.mem_univ, true_and, Finset.mem_map]
  constructor
  · intro hx
    have hr : x.val < 100000 := by
      by_contra hn
      rcases hx with hx | ⟨hx, -⟩
      · rw [ext_pad lo σ hn, ext_real lo σ h] at hx
        exact absurd hx (hσ _).not_gt
      · rw [ext_pad lo σ hn, ext_real lo σ h] at hx
        exact absurd hx (hσ _).ne
    refine ⟨⟨x.val, hr⟩, ?_, rfl⟩
    unfold Ahead at hx ⊢
    rw [ext_real lo σ hr, ext_real lo σ h] at hx
    exact hx
  · rintro ⟨y, hy, rfl⟩
    have hr : (Fin.castLEEmb (by decide : 100000 ≤ 114688) y).val < 100000 := y.isLt
    unfold Ahead at hy ⊢
    rw [ext_real lo σ hr, ext_real lo σ h]
    exact hy

include hσ in
/-- The element of rank `q` among those of the eight groups is the row's element of rank `q`. -/
theorem nth_emb (y : Fin 8 × Fin 128) (q : Fin 8)
    (hy : rank (ext lo σ ∘ emb lo σ) (Fin.val ∘ emb lo σ) y = q.val) :
    ∃ h : (emb lo σ y).val < 100000, rank σ Fin.val ⟨(emb lo σ y).val, h⟩ = q.val
      ∧ ext lo σ (emb lo σ y) = σ ⟨(emb lo σ y).val, h⟩ := by
  have h8 : rank (ext lo σ ∘ emb lo σ) (Fin.val ∘ emb lo σ) y < 8 := by rw [hy]; exact q.isLt
  have hr := rank_emb lo σ y h8
  have h := real_of_rank lo σ hσ (by rw [hr]; exact h8)
  exact ⟨h, (rank_ext lo σ hσ h).symm.trans (hr.trans hy), ext_real lo σ h⟩

end Cert.Proof.TwoStage

end
-- ==== Proof.UnitMath.lean ====
module

public import Idealize.ShloMosaic.PureOps.Ideal.Laws
public import Mathlib.Analysis.InnerProductSpace.Basic

@[expose] public section

/-!
# Normalised rows over the extended reals

A row divided by the greater of its norm and a small positive number is a real row of squared length
at most one, whatever the row holds; so the similarity of two such rows is a real of modulus at most one.
-/

noncomputable section

namespace Cert.Proof.UnitMath

open Idealize.ShloMosaic

theorem eps_pos : ∃ e : ℝ, 0 < e ∧ Ideal.ofBits .f32 730643660#32 = (e : EReal) := by
  refine ⟨_, ?_, by simp [Ideal.ofBits, Ideal.ieee]; rfl⟩
  positivity

theorem two_bits : Ideal.ofBits .f32 3221225472#32 = ((-2 : ℝ) : EReal) := by
  simp [Ideal.ofBits, Ideal.ieee]
  rw [← EReal.coe_mul, EReal.coe_eq_coe_iff]
  norm_num

theorem three_bits : Ideal.ofBits .f32 3225419776#32 = ((-3 : ℝ) : EReal) := by
  simp [Ideal.ofBits, Ideal.ieee]
  rw [← EReal.coe_mul, EReal.coe_eq_coe_iff]
  norm_num

variable {n : ℕ}

/-- A row over the greater of its norm and the small number. -/
def unit (v : Fin n → EReal) (k : Fin n) : EReal :=
  Ideal.div (v k) (max (Ideal.sqrt (∑ x, v x * v x)) (Ideal.ofBits .f32 730643660#32))

theorem sq_nonneg' (a : EReal) : 0 ≤ a * a := by
  rcases le_total 0 a with h | h
  · exact mul_nonneg h h
  · exact EReal.mul_nonneg_iff.mpr (Or.inr ⟨h, h⟩)

theorem coe_sum (f : Fin n → ℝ) : ∑ x, ((f x : ℝ) : EReal) = ((∑ x, f x : ℝ) : EReal) := by
  classical
  induction (Finset.univ : Finset (Fin n)) using Finset.induction_on with
  | empty => simp
  | insert a s ha ih => rw [Finset.sum_insert ha, Finset.sum_insert ha, ih, EReal.coe_add]

theorem unit_real (v : Fin n → EReal) :
    ∃ u : Fin n → ℝ, (∀ k, unit v k = (u k : EReal)) ∧ ∑ k, u k * u k ≤ 1 := by
  obtain ⟨e, he, hb⟩ := eps_pos
  by_cases ht : ∑ x, v x * v x = ⊤
  · refine ⟨fun _ => 0, fun k => ?_, by simp⟩
    unfold unit
    have hs : Ideal.sqrt ⊤ = ⊤ := rfl
    have hm : max ⊤ (Ideal.ofBits .f32 730643660#32) = (⊤ : EReal) := max_eq_left le_top
    rw [ht, hs, hm]
    simp [Ideal.div]
  · have hfin : ∀ x, v x ≠ ⊤ ∧ v x ≠ ⊥ := fun x => by
      have hle : v x * v x ≤ ∑ x, v x * v x :=
        Finset.single_le_sum (f := fun x => v x * v x) (fun i _ => sq_nonneg' (v i)) (Finset.mem_univ x)
      constructor
      · intro h; rw [h] at hle; exact ht (top_le_iff.mp (by simpa using hle))
      · intro h; rw [h] at hle; exact ht (top_le_iff.mp (by simpa using hle))
    obtain ⟨f, rfl⟩ : ∃ f : Fin n → ℝ, v = fun x => (f x : EReal) :=
      ⟨fun x => (v x).toReal, funext fun x => (EReal.coe_toReal (hfin x).1 (hfin x).2).symm⟩
    have hs : ∑ x, (f x : EReal) * (f x : EReal) = ((∑ x, f x * f x : ℝ) : EReal) := by
      rw [← coe_sum]; simp [EReal.coe_mul]
    have h0 : 0 ≤ ∑ x, f x * f x := Finset.sum_nonneg fun x _ => mul_self_nonneg _
    set M : ℝ := max (Real.sqrt (∑ x, f x * f x)) e with hM
    have hMp : 0 < M := lt_of_lt_of_le he (le_max_right _ _)
    have hden : max (Ideal.sqrt (∑ x, (f x : EReal) * (f x : EReal))) (Ideal.ofBits .f32 730643660#32)
        = (M : EReal) := by
      rw [hs, hb, Ideal.sqrt_coe, if_neg (not_lt.mpr h0), hM]
      exact (EReal.coe_strictMono.monotone.map_max).symm
    refine ⟨fun k => f k * (1 / M), fun k => ?_, ?_⟩
    · unfold unit
      rw [hden, Ideal.div_coe hMp.ne', EReal.coe_mul]
    · have : ∀ k, f k * (1 / M) * (f k * (1 / M)) = f k * f k * (1 / M ^ 2) := fun k => by
        field_simp
      simp only [this, ← Finset.sum_mul]
      rw [mul_one_div, div_le_one (by positivity)]
      calc ∑ x, f x * f x = Real.sqrt (∑ x, f x * f x) ^ 2 := (Real.sq_sqrt h0).symm
        _ ≤ M ^ 2 := by
          apply pow_le_pow_left₀ (Real.sqrt_nonneg _)
          exact le_max_left _ _

/-- The similarity of two normalised rows is at least −1. -/
theorem sim_ge (a b : Fin n → EReal) : ((-1 : ℝ) : EReal) ≤ ∑ k, unit a k * unit b k := by
  obtain ⟨u, hu, hu1⟩ := unit_real a
  obtain ⟨w, hw, hw1⟩ := unit_real b
  have h : ∑ k, unit a k * unit b k = ((∑ k, u k * w k : ℝ) : EReal) := by
    rw [← coe_sum]
    exact Finset.sum_congr rfl fun k _ => by rw [hu, hw, EReal.coe_mul]
  rw [h, EReal.coe_le_coe_iff]
  have h2 : 0 ≤ ∑ k, (u k + w k) * (u k + w k) := Finset.sum_nonneg fun k _ => mul_self_nonneg _
  have h3 : ∑ k, (u k + w k) * (u k + w k)
      = ∑ k, u k * u k + 2 * ∑ k, u k * w k + ∑ k, w k * w k := by
    rw [Finset.mul_sum, ← Finset.sum_add_distrib, ← Finset.sum_add_distrib]
    exact Finset.sum_congr rfl fun k _ => by ring
  linarith

theorem sim_gt_two (a b : Fin n → EReal) :
    Ideal.ofBits .f32 3221225472#32 < ∑ k, unit a k * unit b k := by
  rw [two_bits]
  exact lt_of_lt_of_le (EReal.coe_lt_coe_iff.mpr (by norm_num)) (sim_ge a b)

theorem three_lt_two : Ideal.ofBits .f32 3225419776#32 < Ideal.ofBits .f32 3221225472#32 := by
  rw [two_bits, three_bits]
  exact EReal.coe_lt_coe_iff.mpr (by norm_num)

theorem bot_lt_two : (⊥ : EReal) < Ideal.ofBits .f32 3221225472#32 := by
  rw [two_bits]
  exact EReal.bot_lt_coe _

/-- The two ways to write the Gauss error function's part of the activation. -/
theorem one_add_erf (h c : EReal) : Ideal.erfc (-h * c) = 1 + Ideal.erf (h * c) := by
  unfold Ideal.erfc
  rw [EReal.neg_mul, Ideal.erf_neg, sub_eq_add_neg, neg_neg]

end Cert.Proof.UnitMath
-- ==== Proof.Round2.lean ====
module

public import proofs.«01_k».proof.Proof.Call2
public import proofs.«01_k».proof.Proof.RoundMath
public import Idealize.ShloMosaic.Lib.Pointwise
public import Idealize.ShloMosaic.PureOps.Ideal.Laws
public import Idealize.ShloMosaic.Lib.Pipeline.ValueKit.Basic

@[expose] public section

set_option maxRecDepth 16384

/-!
# The eight foremost groups

What the second kernel's body leaves over the extended reals: the word of the group of rank `q` by
its greatest similarity, and the row of the gather's table that holds it.
-/

noncomputable section

namespace Cert.Proof.Round2

open Idealize.ShloMosaic Cert.KernelIdeal Cert.KernelIdeal.Gen Cert.Proof.RankMath Cert.Proof.Call2

/-- The column numbers. -/
def cols : IVec S2048x896 32 := iota .tc S2048x896 32 [1] iota_S2048x896_d1_w32

/-- Each row's greatest entry, along the row. -/
def maxAlong (v : FVec Ideal S2048x896 .f32) : FVec Ideal S2048x896 .f32 :=
  broadcastTo S2048x896 (shapeCast S2048x1 (multiReduction .maximumf [1] S2048 v 0xFF800000#32
    reduces_S2048x896_S2048 (.inl rfl) rfl) shapeCasts_S2048_S2048x1) broadcasts_S2048x1_S2048x896

/-- The columns that carry the row's greatest entry, and a word above all columns elsewhere. -/
def cands (v : FVec Ideal S2048x896 .f32) : IVec S2048x896 32 :=
  select (cmpf .oge v (maxAlong v)) cols (broadcast S2048x896 1073741824#32)

/-- The least word of a row. -/
def minOf (v : IVec S2048x896 32) : IVec S2048x1 32 :=
  shapeCast S2048x1 (multiReductionI .minsi [1] S2048 v 2147483647#32 reduces_S2048x896_S2048 rfl)
    shapeCasts_S2048_S2048x1

/-- A round's pick, -/
def pick (v : FVec Ideal S2048x896 .f32) : IVec S2048x1 32 := minOf (cands v)

/-- and the entries it leaves to the next. -/
def next (v : FVec Ideal S2048x896 .f32) : FVec Ideal S2048x896 .f32 :=
  select (cmpi .eq cols (broadcastTo S2048x896 (pick v) broadcasts_S2048x1_S2048x896))
    (broadcast S2048x896 (Scalar.ofBits .f32 0xC0400000#32)) v

/-- The entries before round `k`. -/
def curs (x : FVec Ideal S2048x896 .f32) : ℕ → FVec Ideal S2048x896 .f32
  | 0 => x
  | k + 1 => next (curs x k)

theorem bot_bits : Ideal.ofBits .f32 4286578688#32 = ⊥ := by
  simp [Ideal.ofBits, Ideal.ieee]

theorem maxAlong_at (v : FVec Ideal S2048x896 .f32) (r : Fin 2048) (c : Fin 896) :
    maxAlong v (ix2 r c) = Finset.univ.fold max ⊥ fun c => v (ix2 r c) := by
  unfold maxAlong
  pointwise
  rw [bot_bits]

theorem minOf_at (v : IVec S2048x896 32) (r : Fin 2048) :
    minOf v (ix2 r 0) = Finset.univ.fold IntOp.minsi 2147483647#32 fun c => v (ix2 r c) := by
  unfold minOf
  pointwise

theorem cols_at (r : Fin 2048) (c : Fin 896) : cols (ix2 r c) = BitVec.ofNat 32 c.val := by
  unfold cols
  pointwise

theorem cand_at {S : Shape} (v M : FVec Ideal S .f32) (W : IVec S 32) (B : BitVec 32) (i : S.Idx) :
    select (cmpf .oge v M) W (broadcast S B) i = if M i ≤ v i then W i else B := by
  show Scalar.select (Ideal.cmp .oge (v i) (M i)) (W i) B = _
  unfold Ideal.cmp Scalar.select
  by_cases h : M i ≤ v i <;> simp [h]

theorem cands_at (v : FVec Ideal S2048x896 .f32) (r : Fin 2048) (c : Fin 896) :
    cands v (ix2 r c) = cand (fun c => v (ix2 r c)) (maxAlong v (ix2 r c))
      (fun c => BitVec.ofNat 32 c.val) c := by
  unfold cands cand
  rw [cand_at, cols_at]

theorem next_at (v : FVec Ideal S2048x896 .f32) (r : Fin 2048) (c : Fin 896) :
    next v (ix2 r c) = Scalar.select (IntOp.cmpi .eq (BitVec.ofNat 32 c.val) (pick v (ix2 r 0)))
      (Ideal.ofBits .f32 0xC0400000#32) (v (ix2 r c)) := by
  have h : broadcastTo S2048x896 (pick v) broadcasts_S2048x1_S2048x896 (ix2 r c) = pick v (ix2 r 0) := by
    pointwise
  rw [← cols_at r c, ← h]
  rfl

section Rounds

variable (x : FVec Ideal S2048x896 .f32) (r : Fin 2048)
  (hlo : ∀ c, Ideal.ofBits .f32 0xC0400000#32 < x (ix2 r c))

/-- The `q`-th foremost column of row `r`. -/
def top (q : ℕ) (hq : q < 896) : Fin 896 :=
  nth (fun c => x (ix2 r c)) Fin.val Fin.val_injective q (by rw [Fintype.card_fin]; exact hq)

include hlo in
theorem pick_of (k : ℕ) (hk : k < 896) (cur : FVec Ideal S2048x896 .f32)
    (hc : ∀ c, cur (ix2 r c)
      = masked (fun c => x (ix2 r c)) Fin.val (Ideal.ofBits .f32 0xC0400000#32) k c) :
    pick cur (ix2 r 0) = BitVec.ofNat 32 (top x r k hk).val := by
  have hm : ∀ c, maxAlong cur (ix2 r c) = x (ix2 r (top x r k hk)) := fun c => by
    rw [maxAlong_at]
    exact round_max (fun c => x (ix2 r c)) Fin.val Fin.val_injective _ hlo k _ _ hc
  unfold pick
  rw [minOf_at]
  simp only [cands_at, hm]
  exact round_arg (fun c => x (ix2 r c)) Fin.val Fin.val_injective _ hlo k _ _ hc
    (fun c => BitVec.ofNat 32 c.val) (fun _ => rfl) fun c => by have := c.isLt; omega

include hlo in
theorem curs_at (k : ℕ) (hk : k < 896) (c : Fin 896) : curs x k (ix2 r c)
    = masked (fun c => x (ix2 r c)) Fin.val (Ideal.ofBits .f32 0xC0400000#32) k c := by
  induction k generalizing c with
  | zero => rw [masked_zero]; rfl
  | succ k ih =>
    have ih := ih (by omega)
    show next (curs x k) (ix2 r c) = _
    rw [next_at, pick_of x r hlo k (by omega) _ ih]
    exact round_next (fun c => x (ix2 r c)) Fin.val Fin.val_injective _ k _ _ ih
      (fun c => BitVec.ofNat 32 c.val) (fun _ => rfl) (fun c => by have := c.isLt; omega) c

include hlo in
theorem pick_at (k : ℕ) (hk : k < 896) :
    pick (curs x k) (ix2 r 0) = BitVec.ofNat 32 (top x r k hk).val :=
  pick_of x r hlo k hk _ (curs_at x r hlo k hk)

end Rounds

/-- Eight columns side by side. -/
def cat (v0 v1 v2 v3 v4 v5 v6 v7 : IVec S2048x1 32) : IVec S2048x8 32 :=
  concatenate S2048x8 1 [⟨S2048x1, v0⟩, ⟨S2048x1, v1⟩, ⟨S2048x1, v2⟩, ⟨S2048x1, v3⟩, ⟨S2048x1, v4⟩,
    ⟨S2048x1, v5⟩, ⟨S2048x1, v6⟩, ⟨S2048x1, v7⟩]
    concatenates_S2048x1_S2048x1_S2048x1_S2048x1_S2048x1_S2048x1_S2048x1_S2048x1_S2048x8_d1

theorem cat_at (v : Fin 8 → IVec S2048x1 32) (r : Fin 2048) (q : Fin 8) :
    cat (v 0) (v 1) (v 2) (v 3) (v 4) (v 5) (v 6) (v 7) (ix2 r q) = v q (ix2 r 0) := by
  unfold cat
  pointwise
  obtain ⟨q, hq⟩ := q
  interval_cases q <;> rfl

/-- The gather table's row of row `r` and group `g`. -/
def flatOf (r : ℕ) (g : ℕ) : ℕ := r / 8 * 6272 + g * 8 + r % 8

theorem ids_eq' (x : Vec Ideal S2048x896 .f32) :
    k2_pay1 (k2_v2 x) (k2_v11 x) (k2_v23 x) (k2_v35 x) (k2_v47 x) (k2_v59 x) (k2_v71 x) (k2_v83 x)
        (k2_v87 x) (k2_v88 x)
      = cat (pick (curs (k2_pay3 (View.ld x r2_0)) 0)) (pick (curs (k2_pay3 (View.ld x r2_0)) 1))
        (pick (curs (k2_pay3 (View.ld x r2_0)) 2)) (pick (curs (k2_pay3 (View.ld x r2_0)) 3))
        (pick (curs (k2_pay3 (View.ld x r2_0)) 4)) (pick (curs (k2_pay3 (View.ld x r2_0)) 5))
        (pick (curs (k2_pay3 (View.ld x r2_0)) 6)) (pick (curs (k2_pay3 (View.ld x r2_0)) 7)) := by
  rfl

theorem load_eq (x : Vec Ideal S2048x896 .f32) : k2_pay3 (View.ld x r2_0) = x := by
  rw [View.ld_unit_lit _ _ (by decide)]
  funext j
  idx_vars j
  unfold k2_pay3
  pointwise

/-- The words the body leaves in the first output. -/
theorem ids_at (x : Vec Ideal S2048x896 .f32) (r : Fin 2048) (q : Fin 8)
    (hlo : ∀ c, Ideal.ofBits .f32 0xC0400000#32 < x (ix2 r c)) :
    out2_1 (F := Ideal) x (ix2 r q) = BitVec.ofNat 32 (top x r q.val (by omega)).val := by
  unfold out2_1
  rw [View.canon_cons_unit_lit _ _ _ (by decide), ids_eq', load_eq]
  exact (cat_at (fun q => pick (curs x q.val)) r q).trans (pick_at x r hlo q.val (by omega))

theorem flat_word (r : Fin 2048) (g : Fin 896) :
    IntOp.addi (IntOp.addi (IntOp.muli (IntOp.shrsi .vector (BitVec.ofNat 32 r.val) 3#32) 6272#32)
      (IntOp.muli (BitVec.ofNat 32 g.val) 8#32)) (IntOp.andi (BitVec.ofNat 32 r.val) 7#32)
      = BitVec.ofNat 32 (flatOf r.val g.val) := by
  have hr := r.isLt
  have hg := g.isLt
  have h1 : IntOp.shrsi .vector (BitVec.ofNat 32 r.val) 3#32 = BitVec.ofNat 32 (r.val / 8) := by
    apply BitVec.eq_of_toNat_eq
    have hm : (BitVec.ofNat 32 r.val).msb = false := by
      rw [BitVec.msb_eq_false_iff_two_mul_lt]
      simp only [BitVec.toNat_ofNat]
      omega
    simp [IntOp.shrsi, BitVec.toNat_sshiftRight_of_msb_false hm, Nat.shiftRight_eq_div_pow]
    omega
  have h2 : IntOp.andi (BitVec.ofNat 32 r.val) 7#32 = BitVec.ofNat 32 (r.val % 8) := by
    apply BitVec.eq_of_toNat_eq
    have : (r.val % 4294967296) &&& 7 = (r.val % 4294967296) % 2 ^ 3 := Nat.and_two_pow_sub_one_eq_mod _ 3
    simp only [IntOp.andi, BitVec.toNat_and, BitVec.toNat_ofNat, Nat.reducePow, Nat.reduceMod, this]
    omega
  rw [h1, h2]
  apply BitVec.eq_of_toNat_eq
  simp only [IntOp.addi, IntOp.muli, BitVec.toNat_add, BitVec.toNat_mul, BitVec.toNat_ofNat, Nat.reducePow,
    Nat.reduceMod, flatOf]
  omega

/-- The words the body leaves in the second output. -/
theorem flats_at (x : Vec Ideal S2048x896 .f32) (r : Fin 2048) (q : Fin 8)
    (hlo : ∀ c, Ideal.ofBits .f32 0xC0400000#32 < x (ix2 r c)) :
    out2_2 (F := Ideal) x (ix2 r q) = BitVec.ofNat 32 (flatOf r.val (top x r q.val (by omega)).val) := by
  have h := ids_at x r q hlo
  unfold out2_1 at h
  rw [View.canon_cons_unit_lit _ _ _ (by decide)] at h
  unfold out2_2
  rw [View.canon_cons_unit_lit _ _ _ (by decide)]
  unfold k2_pay2
  rw [← flat_word, ← h]
  generalize k2_pay1 (k2_v2 x) (k2_v11 x) (k2_v23 x) (k2_v35 x) (k2_v47 x) (k2_v59 x) (k2_v71 x) (k2_v83 x)
        (k2_v87 x) (k2_v88 x) = G
  unfold k2_v3
  pointwise

end Cert.Proof.Round2
-- ==== Proof.Round4.lean ====
module

public import proofs.«01_k».proof.Proof.Call4
public import proofs.«01_k».proof.Proof.RoundMath
public import Idealize.ShloMosaic.Lib.Pointwise
public import Idealize.ShloMosaic.PureOps.Ideal.Laws
public import Idealize.ShloMosaic.Lib.Pipeline.ValueKit.Basic

@[expose] public section

set_option maxRecDepth 16384

/-!
# The eight foremost keys

What the fourth kernel's body leaves over the extended reals: among the 8 × 128 similarities gathered
for a query, the word of the key of rank `q`, and the softmax of the eight greatest.
-/

noncomputable section

namespace Cert.Proof.Round4

open Idealize.ShloMosaic Cert.KernelIdeal Cert.KernelIdeal.Gen Cert.Proof.RankMath Cert.Proof.Call4

/-- The greatest entry of a row, -/
def maxOf (v : FVec Ideal S256x8x128 .f32) : FVec Ideal S256x1 .f32 :=
  shapeCast S256x1 (multiReduction .maximumf [1] S256
    (multiReduction .maximumf [2] S256x8 v 0xFF800000#32 reduces_S256x8x128_S256x8 (.inl rfl) rfl)
    0xFF800000#32 reduces_S256x8_S256 (.inl rfl) rfl) shapeCasts_S256_S256x1

/-- along the row. -/
def maxAlong (v : FVec Ideal S256x8x128 .f32) : FVec Ideal S256x8x128 .f32 :=
  broadcastTo S256x8x128 (shapeCast S256x1x1 (maxOf v) shapeCasts_S256x1_S256x1x1)
    broadcasts_S256x1x1_S256x8x128

/-- The keys that carry the row's greatest entry, and a word above all keys elsewhere. -/
def cands (w : IVec S256x8x128 32) (v : FVec Ideal S256x8x128 .f32) : IVec S256x8x128 32 :=
  select (cmpf .oge v (maxAlong v)) w (broadcast S256x8x128 1073741824#32)

/-- The least word of a row. -/
def minOf (v : IVec S256x8x128 32) : IVec S256x1 32 :=
  shapeCast S256x1 (multiReductionI .minsi [1] S256
    (multiReductionI .minsi [2] S256x8 v 2147483647#32 reduces_S256x8x128_S256x8 rfl)
    2147483647#32 reduces_S256x8_S256 rfl) shapeCasts_S256_S256x1

/-- A round's pick, -/
def pick (w : IVec S256x8x128 32) (v : FVec Ideal S256x8x128 .f32) : IVec S256x1 32 := minOf (cands w v)

/-- and the entries it leaves to the next. -/
def next (w : IVec S256x8x128 32) (v : FVec Ideal S256x8x128 .f32) : FVec Ideal S256x8x128 .f32 :=
  select (cmpi .eq w (broadcastTo S256x8x128 (shapeCast S256x1x1 (pick w v) shapeCasts_S256x1_S256x1x1)
      broadcasts_S256x1x1_S256x8x128))
    (broadcast S256x8x128 (Scalar.ofBits .f32 0xC0400000#32)) v

/-- The entries before round `k`. -/
def curs (w : IVec S256x8x128 32) (x : FVec Ideal S256x8x128 .f32) : ℕ → FVec Ideal S256x8x128 .f32
  | 0 => x
  | k + 1 => next w (curs w x k)

theorem bot_bits : Ideal.ofBits .f32 4286578688#32 = ⊥ := by
  simp [Ideal.ofBits, Ideal.ieee]

theorem maxOf_at (v : FVec Ideal S256x8x128 .f32) (r : Fin 256) :
    maxOf v (ix2 r 0) = Finset.univ.fold max ⊥ fun a => Finset.univ.fold max ⊥ fun b => v (ix3 r a b) := by
  unfold maxOf
  pointwise
  rw [bot_bits]

theorem maxAlong_at (v : FVec Ideal S256x8x128 .f32) (r : Fin 256) (a : Fin 8) (b : Fin 128) :
    maxAlong v (ix3 r a b) = maxOf v (ix2 r 0) := by
  unfold maxAlong
  generalize maxOf v = M
  pointwise

theorem minOf_at (v : IVec S256x8x128 32) (r : Fin 256) :
    minOf v (ix2 r 0) = Finset.univ.fold IntOp.minsi 2147483647#32 fun a =>
      Finset.univ.fold IntOp.minsi 2147483647#32 fun b => v (ix3 r a b) := by
  unfold minOf
  pointwise

theorem cand_at {S : Shape} (v M : FVec Ideal S .f32) (W : IVec S 32) (B : BitVec 32) (i : S.Idx) :
    select (cmpf .oge v M) W (broadcast S B) i = if M i ≤ v i then W i else B := by
  show Scalar.select (Ideal.cmp .oge (v i) (M i)) (W i) B = _
  unfold Ideal.cmp Scalar.select
  by_cases h : M i ≤ v i <;> simp [h]

theorem cands_at (w : IVec S256x8x128 32) (v : FVec Ideal S256x8x128 .f32) (r : Fin 256) (a : Fin 8)
    (b : Fin 128) : cands w v (ix3 r a b)
      = cand (fun b => v (ix3 r a b)) (maxOf v (ix2 r 0)) (fun b => w (ix3 r a b)) b := by
  unfold cands cand
  rw [cand_at, maxAlong_at]

theorem next_at (w : IVec S256x8x128 32) (v : FVec Ideal S256x8x128 .f32) (r : Fin 256) (a : Fin 8)
    (b : Fin 128) : next w v (ix3 r a b)
      = Scalar.select (IntOp.cmpi .eq (w (ix3 r a b)) (pick w v (ix2 r 0)))
          (Ideal.ofBits .f32 0xC0400000#32) (v (ix3 r a b)) := by
  have h : broadcastTo S256x8x128 (shapeCast S256x1x1 (pick w v) shapeCasts_S256x1_S256x1x1)
      broadcasts_S256x1x1_S256x8x128 (ix3 r a b) = pick w v (ix2 r 0) := by
    generalize pick w v = M
    pointwise
  rw [← h]
  rfl

section Rounds

variable (w : IVec S256x8x128 32) (x : FVec Ideal S256x8x128 .f32) (r : Fin 256)
  (κ : Fin 8 × Fin 128 → ℕ) (hκ : κ.Injective) (hb : ∀ y, κ y < 1073741824)
  (hw : ∀ a b, w (ix3 r a b) = BitVec.ofNat 32 (κ (a, b)))
  (hlo : ∀ y : Fin 8 × Fin 128, Ideal.ofBits .f32 0xC0400000#32 < x (ix3 r y.1 y.2))

/-- The similarities of row `r`. -/
def row : Fin 8 × Fin 128 → EReal := fun y => x (ix3 r y.1 y.2)

/-- The place of the `q`-th foremost key of row `r`. -/
def top (q : ℕ) (hq : q < 1024) : Fin 8 × Fin 128 :=
  nth (row x r) κ hκ q (by rw [Fintype.card_prod, Fintype.card_fin, Fintype.card_fin]; exact hq)

include hlo in
theorem maxOf_of (k : ℕ) (hk : k < 1024) (cur : FVec Ideal S256x8x128 .f32)
    (hc : ∀ a b, cur (ix3 r a b) = masked (row x r) κ (Ideal.ofBits .f32 0xC0400000#32) k (a, b)) :
    maxOf cur (ix2 r 0) = row x r (top x r κ hκ k hk) := by
  rw [maxOf_at]
  exact round_max₂ (row x r) κ hκ _ hlo k _ (fun a b => cur (ix3 r a b)) hc

include hlo hw hb in
theorem pick_of (k : ℕ) (hk : k < 1024) (cur : FVec Ideal S256x8x128 .f32)
    (hc : ∀ a b, cur (ix3 r a b) = masked (row x r) κ (Ideal.ofBits .f32 0xC0400000#32) k (a, b)) :
    pick w cur (ix2 r 0) = BitVec.ofNat 32 (κ (top x r κ hκ k hk)) := by
  unfold pick
  rw [minOf_at]
  simp only [cands_at, maxOf_of x r κ hκ hlo k hk cur hc]
  exact round_arg₂ (row x r) κ hκ _ hlo k _ (fun a b => cur (ix3 r a b)) hc
    (fun a b => w (ix3 r a b)) hw hb

include hlo hw hb hκ in
theorem curs_at (k : ℕ) (hk : k < 1024) (a : Fin 8) (b : Fin 128) : curs w x k (ix3 r a b)
    = masked (row x r) κ (Ideal.ofBits .f32 0xC0400000#32) k (a, b) := by
  induction k generalizing a b with
  | zero => rw [masked_zero]; rfl
  | succ k ih =>
    have ih := ih (by omega)
    show next w (curs w x k) (ix3 r a b) = _
    rw [next_at, pick_of w x r κ hκ hb hw hlo k (by omega) _ ih]
    exact round_next₂ (row x r) κ hκ _ k _ (fun a b => curs w x k (ix3 r a b)) ih
      (fun a b => w (ix3 r a b)) hw hb a b

include hlo hw hb in
theorem pick_at (k : ℕ) (hk : k < 1024) :
    pick w (curs w x k) (ix2 r 0) = BitVec.ofNat 32 (κ (top x r κ hκ k hk)) :=
  pick_of w x r κ hκ hb hw hlo k hk _ (curs_at w x r κ hκ hb hw hlo k hk)

include hlo hw hb in
theorem max_at (k : ℕ) (hk : k < 1024) :
    maxOf (curs w x k) (ix2 r 0) = row x r (top x r κ hκ k hk) :=
  maxOf_of x r κ hκ hlo k hk _ (curs_at w x r κ hκ hb hw hlo k hk)

end Rounds

/-- Eight columns side by side. -/
def cat {α : Type} (v0 v1 v2 v3 v4 v5 v6 v7 : S256x1.Idx → α) : S256x8.Idx → α :=
  concatenate S256x8 1 [⟨S256x1, v0⟩, ⟨S256x1, v1⟩, ⟨S256x1, v2⟩, ⟨S256x1, v3⟩, ⟨S256x1, v4⟩,
    ⟨S256x1, v5⟩, ⟨S256x1, v6⟩, ⟨S256x1, v7⟩]
    concatenates_S256x1_S256x1_S256x1_S256x1_S256x1_S256x1_S256x1_S256x1_S256x8_d1

theorem cat_at {α : Type} (v : Fin 8 → S256x1.Idx → α) (r : Fin 256) (q : Fin 8) :
    cat (v 0) (v 1) (v 2) (v 3) (v 4) (v 5) (v 6) (v 7) (ix2 r q) = v q (ix2 r 0) := by
  unfold cat
  pointwise
  obtain ⟨q, hq⟩ := q
  interval_cases q <;> rfl

/-- The softmax along the rows. -/
def soft (v : FVec Ideal S256x8 .f32) : FVec Ideal S256x8 .f32 :=
  have e : FVec Ideal S256x8 .f32 := exp (subf v (broadcastTo S256x8 (shapeCast S256x1
    (multiReduction .maximumf [1] S256 v 0xFF800000#32 reduces_S256x8_S256 (.inl rfl) rfl)
    shapeCasts_S256_S256x1) broadcasts_S256x1_S256x8))
  divf e (broadcastTo S256x8 (shapeCast S256x1
    (multiReduction .add [1] S256 e 0x00000000#32 reduces_S256x8_S256 (.inl rfl) rfl)
    shapeCasts_S256_S256x1) broadcasts_S256x1_S256x8)

theorem soft_at (v : FVec Ideal S256x8 .f32) (r : Fin 256) (q : Fin 8) : soft v (ix2 r q)
    = Ideal.div (Ideal.exp (v (ix2 r q) - Finset.univ.fold max ⊥ fun x => v (ix2 r x)))
        (∑ y, Ideal.exp (v (ix2 r y) - Finset.univ.fold max ⊥ fun x => v (ix2 r x))) := by
  unfold soft
  pointwise
  rw [bot_bits]

theorem vals_eq' (x0 : Vec Ideal S256x8x128 .f32) (x1 : Vec Ideal S256x8 .i32) :
    k4_pay1 (k4_v12 x0 x1) (k4_v28 x0 x1) (k4_v44 x0 x1) (k4_v60 x0 x1) (k4_v76 x0 x1) (k4_v92 x0 x1)
        (k4_v108 x0 x1) (k4_v124 x0 x1)
      = soft (cat (maxOf (curs (k4_v9 x0 x1) (k4_pay3 (View.ld x0 r4_0)) 0))
          (maxOf (curs (k4_v9 x0 x1) (k4_pay3 (View.ld x0 r4_0)) 1))
          (maxOf (curs (k4_v9 x0 x1) (k4_pay3 (View.ld x0 r4_0)) 2))
          (maxOf (curs (k4_v9 x0 x1) (k4_pay3 (View.ld x0 r4_0)) 3))
          (maxOf (curs (k4_v9 x0 x1) (k4_pay3 (View.ld x0 r4_0)) 4))
          (maxOf (curs (k4_v9 x0 x1) (k4_pay3 (View.ld x0 r4_0)) 5))
          (maxOf (curs (k4_v9 x0 x1) (k4_pay3 (View.ld x0 r4_0)) 6))
          (maxOf (curs (k4_v9 x0 x1) (k4_pay3 (View.ld x0 r4_0)) 7))) := by
  rfl

theorem keys_eq' (x0 : Vec Ideal S256x8x128 .f32) (x1 : Vec Ideal S256x8 .i32) :
    k4_pay2 (k4_v9 x0 x1) (k4_v20 x0 x1) (k4_v36 x0 x1) (k4_v52 x0 x1) (k4_v68 x0 x1) (k4_v84 x0 x1)
        (k4_v100 x0 x1) (k4_v116 x0 x1) (k4_v127 x0 x1) 1073741824#32
      = cat (pick (k4_v9 x0 x1) (curs (k4_v9 x0 x1) (k4_pay3 (View.ld x0 r4_0)) 0))
          (pick (k4_v9 x0 x1) (curs (k4_v9 x0 x1) (k4_pay3 (View.ld x0 r4_0)) 1))
          (pick (k4_v9 x0 x1) (curs (k4_v9 x0 x1) (k4_pay3 (View.ld x0 r4_0)) 2))
          (pick (k4_v9 x0 x1) (curs (k4_v9 x0 x1) (k4_pay3 (View.ld x0 r4_0)) 3))
          (pick (k4_v9 x0 x1) (curs (k4_v9 x0 x1) (k4_pay3 (View.ld x0 r4_0)) 4))
          (pick (k4_v9 x0 x1) (curs (k4_v9 x0 x1) (k4_pay3 (View.ld x0 r4_0)) 5))
          (pick (k4_v9 x0 x1) (curs (k4_v9 x0 x1) (k4_pay3 (View.ld x0 r4_0)) 6))
          (pick (k4_v9 x0 x1) (curs (k4_v9 x0 x1) (k4_pay3 (View.ld x0 r4_0)) 7)) := by
  rfl

theorem load_eq (x : Vec Ideal S256x8x128 .f32) : k4_pay3 (View.ld x r4_0) = x := by
  rw [View.ld_unit_lit _ _ (by decide)]
  funext j
  idx_vars j
  unfold k4_pay3
  pointwise

theorem word_at (x0 : Vec Ideal S256x8x128 .f32) (x1 : Vec Ideal S256x8 .i32) (r : Fin 256) (a : Fin 8)
    (b : Fin 128) (p : ℕ) (hp : x1 (ix2 r a) = BitVec.ofNat 32 p) :
    k4_v9 x0 x1 (ix3 r a b) = BitVec.ofNat 32 (p * 128 + b.val) := by
  unfold k4_v9
  rw [View.ld_unit_lit _ _ (by decide)]
  unfold k4_pay4
  pointwise
  rw [hp]
  apply BitVec.eq_of_toNat_eq
  simp only [IntOp.addi, IntOp.muli, BitVec.toNat_add, BitVec.toNat_mul, BitVec.toNat_ofNat, Nat.reducePow,
    Nat.reduceMod]
  omega

section Out

variable (x0 : Vec Ideal S256x8x128 .f32) (x1 : Vec Ideal S256x8 .i32) (r : Fin 256) (p : Fin 8 → ℕ)
  (hp : ∀ a, x1 (ix2 r a) = BitVec.ofNat 32 (p a)) (hlt : ∀ a, p a < 896)
  (hinj : p.Injective)
  (hlo : ∀ y : Fin 8 × Fin 128, Ideal.ofBits .f32 0xC0400000#32 < x0 (ix3 r y.1 y.2))

/-- The number of a key by its group's place and its place in the group. -/
def key (y : Fin 8 × Fin 128) : ℕ := p y.1 * 128 + y.2.val

include hinj in
theorem key_injective : (key p).Injective := fun y z h => by
  unfold key at h
  have h1 := y.2.isLt
  have h2 := z.2.isLt
  have h3 : p y.1 = p z.1 := by omega
  exact Prod.ext (hinj h3) (Fin.ext (by omega))

include hlt in
theorem key_lt (y : Fin 8 × Fin 128) : key p y < 1073741824 := by
  have h1 := y.2.isLt
  have h2 := hlt y.1
  unfold key
  omega

include hp hlt hlo in
/-- The words the body leaves in the second output. -/
theorem keys_at (q : Fin 8) : out4_3 (F := Ideal) x0 x1 (ix2 r q)
    = BitVec.ofNat 32 (key p (top x0 r (key p) (key_injective p hinj) q.val (by omega))) := by
  unfold out4_3
  rw [View.canon_cons_unit_lit _ _ _ (by decide), keys_eq', load_eq]
  exact (cat_at (fun q => pick (k4_v9 x0 x1) (curs (k4_v9 x0 x1) x0 q.val)) r q).trans
    (pick_at _ _ r (key p) _ (key_lt p hlt) (fun a b => word_at x0 x1 r a b _ (hp a)) hlo _ _)

include hp hlt hlo in
/-- The weights the body leaves in the first output. -/
theorem weights_at (q : Fin 8) (v : Fin 8 → EReal)
    (hv : ∀ q : Fin 8, v q = row x0 r (top x0 r (key p) (key_injective p hinj) q.val (by omega))) :
    out4_2 (F := Ideal) x0 x1 (ix2 r q)
      = Ideal.div (Ideal.exp (v q - Finset.univ.fold max ⊥ v))
          (∑ y, Ideal.exp (v y - Finset.univ.fold max ⊥ v)) := by
  unfold out4_2
  rw [View.canon_cons_unit_lit _ _ _ (by decide), vals_eq', load_eq, soft_at]
  have h : ∀ q, cat (maxOf (curs (k4_v9 x0 x1) x0 0)) (maxOf (curs (k4_v9 x0 x1) x0 1))
      (maxOf (curs (k4_v9 x0 x1) x0 2)) (maxOf (curs (k4_v9 x0 x1) x0 3))
      (maxOf (curs (k4_v9 x0 x1) x0 4)) (maxOf (curs (k4_v9 x0 x1) x0 5))
      (maxOf (curs (k4_v9 x0 x1) x0 6)) (maxOf (curs (k4_v9 x0 x1) x0 7)) (ix2 r q) = v q := fun q =>
    ((cat_at (fun q => maxOf (curs (k4_v9 x0 x1) x0 q.val)) r q).trans
      (max_at _ _ r (key p) (key_injective p hinj) (key_lt p hlt)
        (fun a b => word_at x0 x1 r a b _ (hp a)) hlo _ _)).trans (hv q).symm
  simp only [h]

end Out

end Cert.Proof.Round4
-- ==== Proof.Round6.lean ====
module

public import proofs.«01_k».proof.Proof.Call6
public import Idealize.ShloMosaic.Lib.Pointwise
public import Idealize.ShloMosaic.PureOps.Ideal.Laws
public import Idealize.ShloMosaic.Lib.Pipeline.ValueKit

@[expose] public section

set_option maxRecDepth 16384

/-!
# The gated sum

What the last kernel's body leaves over the extended reals, entry by entry.
-/

noncomputable section

namespace Cert.Proof.Round6

open Idealize.ShloMosaic Cert.KernelIdeal Cert.KernelIdeal.Gen Cert.Proof.Call6

theorem pay1_at (v : Vec Ideal S2048x128 .f32) (r : Fin 2048) (k : Fin 128) : k6_pay1 v (ix2 r k) = v (ix2 r k) := by
  unfold k6_pay1
  pointwise
theorem pay2_at (v : Vec Ideal S2048x8 .f32) (r : Fin 2048) (k : Fin 8) : k6_pay2 v (ix2 r k) = v (ix2 r k) := by
  unfold k6_pay2
  pointwise
theorem pay3_at (w : Vec Ideal S2048x8 .f32) (v0 v1 v2 v3 v4 : Vec Ideal S2048x1x128 .f32) (r : Fin 2048) (k : Fin 128) :
    k6_pay3 w v0 v1 v2 v3 v4 (ix2 r k)
      = w (ix2 r 0) * v0 (ix3 r 0 k) + w (ix2 r 1) * v1 (ix3 r 0 k) + w (ix2 r 2) * v2 (ix3 r 0 k) + w (ix2 r 3) * v3 (ix3 r 0 k)
        + w (ix2 r 4) * v4 (ix3 r 0 k) := by
  unfold k6_pay3
  pointwise
  simp only [pay2_at]
theorem pay4_at (w : Vec Ideal S2048x8 .f32) (v : Vec Ideal S2048x1x128 .f32) (r : Fin 2048) (k : Fin 128) :
    k6_pay4 w v (ix2 r k) = w (ix2 r 5) * v (ix3 r 0 k) := by
  unfold k6_pay4
  pointwise
  simp only [pay2_at]

/-- The projected retrieval, from the two halves of the weighted sum. -/
def ret (w : FVec Ideal S2048x8 .f32) (p q : FVec Ideal S2048x128 .f32) (v6 v7 : Vec Ideal S2048x1x128 .f32) (wo : Vec Ideal S128x128 .f32)
    (r : Fin 2048) (k : Fin 128) : EReal :=
  ∑ x, (p (ix2 r x) + q (ix2 r x) + w (ix2 r 6) * v6 (ix3 r 0 x) + w (ix2 r 7) * v7 (ix3 r 0 x)) * wo (ix2 k x)

/-- The gate's hidden layer. -/
def hid (x : Fin 128 → EReal) (R : Fin 128 → EReal) (g : Vec Ideal S64x256 .f32) (b : Fin 64 → EReal) (k : Fin 64) : EReal :=
  ∑ y : Fin 128, x y * g (ix2 k ⟨y.val, by omega⟩) + ∑ y : Fin 128, R y * g (ix2 k ⟨128 + y.val, by omega⟩) + b k

/-- The gated result. -/
def gated (x R : Fin 128 → EReal) (H : Fin 64 → EReal) (g : Fin 64 → EReal) (b : EReal) (k : Fin 128) : EReal :=
  x k + Ideal.logistic (∑ y : Fin 64, Ideal.ofBits .f32 1056964608#32 * H y * (1 + Ideal.erf (H y * Ideal.ofBits .f32 1060439283#32)) * g y + b)
    * R k

theorem pay5_at (x : FVec Ideal S2048x128 .f32) (w : FVec Ideal S2048x8 .f32) (p q : FVec Ideal S2048x128 .f32)
    (v6 v7 : Vec Ideal S2048x1x128 .f32) (wo : Vec Ideal S128x128 .f32) (g : Vec Ideal S64x256 .f32) (b : Vec Ideal S1x64 .f32)
    (g' : Vec Ideal S1x65 .f32) (r : Fin 2048) (k : Fin 128) :
    k6_pay5 x w p q v6 v7 wo g b g' (ix2 r k)
      = gated (fun k => x (ix2 r k)) (ret w p q v6 v7 wo r)
          (hid (fun k => x (ix2 r k)) (ret w p q v6 v7 wo r) g fun k => b (ix2 0 k)) (fun k => g' (ix2 0 ⟨k.val, by omega⟩)) (g' (ix2 0 64)) k := by
  unfold k6_pay5
  pointwise
  simp only [Ideal.erf_def, Fin.sum_univ_one]
  rfl

/-- One of the eight rows of a query. -/
theorem slice_at (x : Vec Ideal S2048x8x128 .f32) (p : ℕ) (hp : p < 8)
    (h : ∀ a, (![0, p, 0] : Fin 3 → ℕ) a + S2048x1x128.size a ≤ S2048x8x128.size a) (r : Fin 2048) (k : Fin 128) :
    View.ld x (Rect.unit (s := S2048x8x128) ![0, p, 0] S2048x1x128.size h) (ix3 r 0 k) = x (ix3 r ⟨p, hp⟩ k) := by
  refine View.ld_unit_apply_of x _ _ h _ _ fun a => ?_
  have h3 : ∀ a : Fin 3, a = 0 ∨ a = 1 ∨ a = 2 := by decide
  rcases h3 a with rfl | rfl | rfl
  · exact (Nat.zero_add _).symm
  · exact (Nat.add_zero _).symm
  · exact (Nat.zero_add _).symm

variable (x0 : Vec Ideal S2048x128 .f32) (x1 : Vec Ideal S2048x8x128 .f32) (x2 : Vec Ideal S2048x8 .f32) (x3 : Vec Ideal S128x128 .f32)
  (x4 : Vec Ideal S64x256 .f32) (x5 : Vec Ideal S1x64 .f32) (x6 : Vec Ideal S1x65 .f32)

/-- The weighted sum of the eight rows, projected. -/
def retOf (w : Fin 8 → EReal) (v : Fin 8 → Fin 128 → EReal) (wo : Vec Ideal S128x128 .f32) (k : Fin 128) : EReal :=
  ∑ x, (∑ y, w y * v y x) * wo (ix2 k x)

theorem ret_eq (r : Fin 2048) :
    ret (k6_pay2 x2) (k6_pay3 x2 (View.ld x1 r6_2) (View.ld x1 r6_3) (View.ld x1 r6_4) (View.ld x1 r6_5) (View.ld x1 r6_6))
        (k6_pay4 x2 (View.ld x1 r6_7)) (View.ld x1 r6_8) (View.ld x1 r6_9) x3 r
      = retOf (fun y => x2 (ix2 r y)) (fun y k => x1 (ix3 r y k)) x3 := by
  funext k
  unfold ret retOf
  refine Finset.sum_congr rfl fun x _ => ?_
  rw [pay3_at, pay4_at, pay2_at, pay2_at, slice_at x1 0 (by decide), slice_at x1 1 (by decide), slice_at x1 2 (by decide),
    slice_at x1 3 (by decide), slice_at x1 4 (by decide), slice_at x1 5 (by decide), slice_at x1 6 (by decide), slice_at x1 7 (by decide),
    Fin.sum_univ_eight]
  rfl

/-- The body's output at an entry. -/
theorem out_at (r : Fin 2048) (k : Fin 128) : out6_7 (F := Ideal) x0 x1 x2 x3 x4 x5 x6 (ix2 r k)
    = gated (fun k => x0 (ix2 r k)) (retOf (fun y => x2 (ix2 r y)) (fun y k => x1 (ix3 r y k)) x3)
        (hid (fun k => x0 (ix2 r k)) (retOf (fun y => x2 (ix2 r y)) (fun y k => x1 (ix3 r y k)) x3) x4 fun k => x5 (ix2 0 k))
        (fun k => x6 (ix2 0 ⟨k.val, by omega⟩)) (x6 (ix2 0 64)) k := by
  unfold out6_7
  rw [View.canon_cons_unit_lit _ _ _ (by decide)]
  unfold k6_v76 k6_v1 k6_v3 k6_v32 k6_v37
  rw [pay5_at, View.ld_unit_lit _ _ (by decide), View.ld_unit_lit _ _ (by decide), View.ld_unit_lit _ _ (by decide),
    View.ld_unit_lit _ _ (by decide), View.ld_unit_lit _ _ (by decide), View.ld_unit_lit _ _ (by decide), ret_eq]
  simp only [pay1_at]

end Cert.Proof.Round6

end
-- ==== Proof.Vals0.lean ====
module

public import proofs.«01_k».proof.Proof.Call0
public import proofs.«01_k».proof.Proof.UnitMath
public import Idealize.ShloMosaic.Lib.Pointwise
public import Idealize.ShloMosaic.Lib.Pipeline.ValueKit

@[expose] public section

set_option maxRecDepth 16384

/-!
# The normalised queries

What the first kernel leaves in its result over the extended reals: each projected query over the
greater of its norm and a small positive number.
-/

noncomputable section

namespace Cert.Proof.Call0

open Cert.KernelIdeal Cert.KernelIdeal.Gen Cert.Proof.UnitMath
open Cert.Proof.Whole (UU)
open Idealize.ShloMosaic Idealize.ShloMosaic.TcCoe Idealize.SL.Sem
open Idealize.ShloMosaic.SparseCore.Cfg (HIx)

variable (V : (c : Dev nD) → (b : Ref sig .tc) → Buf (Elt Ideal) ((c : Thread nD τ).loc b))
  (O : CellTallies nD τ sig (HIx 2)) (R : Set (SemLoc sig × HIx 2)) (c : Dev nD)

theorem qn_pay (x0 : Vec Ideal S2048x128 .f32) (x1 : Vec Ideal S128x128 .f32) (i : Fin 2048) (j : Fin 128) :
    out0_2 (F := Ideal) x0 x1 (ix2 i j) = unit (fun d => ∑ x, x0 (ix2 i x) * x1 (ix2 d x)) j := by
  unfold out0_2
  rw [View.canon_cons_unit_lit _ _ _ (by decide), View.ld_unit_lit _ _ (by decide),
    View.ld_unit_lit _ _ (by decide)]
  unfold unit k0_pay1
  pointwise

/-- The normalised queries. -/
def qn (X : S2048x128.Idx → EReal) (W : S128x128.Idx → EReal) (i : S2048x128.Idx) : EReal :=
  unit (fun d => ∑ x, X (ix2 (i 0) x) * W (ix2 d x)) (i 1)

theorem emb_0 (t : Fin cfg0.N) (y : S2048x128.Idx) : (win0_0.blk t).view.emb y = y := by
  have e : ∀ t : Fin grid0.N, win0_0.index t = ![0, 0] := by decide +kernel
  blk_ext [e t]

theorem emb_1 (t : Fin cfg0.N) (y : S128x128.Idx) : (win0_1.blk t).view.emb y = y := by
  have e : ∀ t : Fin grid0.N, win0_1.index t = ![0, 0] := by decide +kernel
  blk_ext [e t]

theorem emb_2 (t : Fin cfg0.N) (y : S2048x128.Idx) : (win0_2.blk t).view.emb y = y := by
  have e : ∀ t : Fin grid0.N, win0_2.index t = ![0, 0] := by decide +kernel
  blk_ext [e t]

theorem iblk_0 (t : Fin cfg0.N) : iblk V c 0 t = V c main_v0 :=
  funext fun y => congrArg (V c main_v0) (emb_0 t y)

theorem iblk_1 (t : Fin cfg0.N) : iblk V c 1 t = V c main_arg3 :=
  funext fun y => congrArg (V c main_arg3) (emb_1 t y)

theorem arr_qn : (dat V O R c).arrAt 2 cfg0.N = qn (V c main_v0) (V c main_arg3) := by
  refine (dat V O R c).arrAt_eq_of_covers 2 _ (by decide +kernel) fun t hf y => ?_
  blk_simp
  rw [after0_2, iblk_0, iblk_1]
  refine Eq.trans ?_ (congrArg (qn (V c main_v0) (V c main_arg3)) (emb_2 t y)).symm
  idx_vars y
  exact qn_pay _ _ _ _

end Cert.Proof.Call0
-- ==== Proof.Vals1.lean ====
module

public import proofs.«01_k».proof.Proof.Call1
public import proofs.«01_k».proof.Proof.UnitMath
public import Idealize.ShloMosaic.Lib.Pointwise
public import Idealize.ShloMosaic.Lib.Pipeline.ValueKit

@[expose] public section

set_option maxRecDepth 16384

/-!
# The similarities and the groups' greatest

What the first gridded kernel leaves over the extended reals, from the normalised queries and the keys:
every query's similarity with every key, laid out in groups of 128 keys, and each group's greatest.
-/

noncomputable section

namespace Cert.Proof.Call1

open Cert.KernelIdeal Cert.KernelIdeal.Gen Cert.Proof.UnitMath
open Cert.Proof.Whole (UU)
open Idealize.ShloMosaic Idealize.ShloMosaic.TcCoe Idealize.SL.Sem
open Idealize.ShloMosaic.SparseCore.Cfg (HIx)

/-! ## The body's tiles -/

/-- The 128 columns from `off` on, the rows in eights. -/
def tile (off : ℕ) (h : S2048x2048.Slices ![0, off] S2048x128) (v : FVec Ideal S2048x2048 .f32) :
    FVec Ideal S256x8x128 .f32 :=
  shapeCast S256x8x128 (extractStridedSlice S2048x128 ![0, off] v h) shapeCasts_S2048x128_S256x8x128

/-- The greatest of the 128 columns from `off` on. -/
def colMax (off : ℕ) (h : S2048x2048.Slices ![0, off] S2048x128) (v : FVec Ideal S2048x2048 .f32) :
    FVec Ideal S2048x1 .f32 :=
  shapeCast S2048x1 (multiReduction .maximumf [1] S2048 (extractStridedSlice S2048x128 ![0, off] v h)
    0xFF800000#32 reduces_S2048x128_S2048 (.inl rfl) rfl) shapeCasts_S2048_S2048x1

theorem bot_bits : Ideal.ofBits .f32 4286578688#32 = ⊥ := by
  simp [Ideal.ofBits, Ideal.ieee]

theorem tile_at (off : ℕ) (h) (v : FVec Ideal S2048x2048 .f32) (hoff : off + 128 ≤ 2048) (a : Fin 256)
    (b : Fin 8) (l : Fin 128) : tile off h v (ix3 a b l)
      = v (ix2 ⟨a.val * 8 + b.val, by omega⟩ ⟨off + l.val, by omega⟩) := by
  unfold tile
  pointwise

theorem colMax_at (off : ℕ) (h) (v : FVec Ideal S2048x2048 .f32) (hoff : off + 128 ≤ 2048) (r : Fin 2048) :
    colMax off h v (ix2 r 0) = Finset.univ.fold max ⊥ fun l : Fin 128 => v (ix2 r ⟨off + l.val, by omega⟩) := by
  unfold colMax
  pointwise
  rw [bot_bits]

theorem ix2_ext {m n : ℕ} {a a' : Fin m} {b b' : Fin n} (h : a.val = a'.val) (h' : b.val = b'.val) :
    ix2 a b = ix2 a' b' := by rw [Fin.ext h, Fin.ext h']

/-! ## What the body leaves, by the block of similarities -/

variable (i : grid1.Coords) (Q : Vec Ideal S2048x128 .bf16) (K : Vec Ideal S2048x128 .f32)

theorem out2_at (y : S256x128x128.Idx) : out1_2 (F := Ideal) i Q K y
    = k1_v21 (F := Ideal) i Q K (ix2 ⟨(y 0).val * 8 + (y 1).val % 8, by have := (y 0).isLt; simp at this; omega⟩
        ⟨(y 1).val / 8 * 128 + (y 2).val, by
          have := (y 1).isLt; have := (y 2).isLt; simp at *; omega⟩) := by
  canon_tiles x h using cover1_2 ..
  all_goals idx_vars x
  · exact (tile_at 1920 slices_S2048x2048_o0_1920_S2048x128 (k1_v21 i Q K) (by decide) x0 x1 x2).trans
      (congrArg (k1_v21 (F := Ideal) i Q K) (ix2_ext (by simp at *; omega) (by simp at *; omega)))
  · exact (tile_at 1792 slices_S2048x2048_o0_1792_S2048x128 (k1_v21 i Q K) (by decide) x0 x1 x2).trans
      (congrArg (k1_v21 (F := Ideal) i Q K) (ix2_ext (by simp at *; omega) (by simp at *; omega)))
  · exact (tile_at 1664 slices_S2048x2048_o0_1664_S2048x128 (k1_v21 i Q K) (by decide) x0 x1 x2).trans
      (congrArg (k1_v21 (F := Ideal) i Q K) (ix2_ext (by simp at *; omega) (by simp at *; omega)))
  · exact (tile_at 1536 slices_S2048x2048_o0_1536_S2048x128 (k1_v21 i Q K) (by decide) x0 x1 x2).trans
      (congrArg (k1_v21 (F := Ideal) i Q K) (ix2_ext (by simp at *; omega) (by simp at *; omega)))
  · exact (tile_at 1408 slices_S2048x2048_o0_1408_S2048x128 (k1_v21 i Q K) (by decide) x0 x1 x2).trans
      (congrArg (k1_v21 (F := Ideal) i Q K) (ix2_ext (by simp at *; omega) (by simp at *; omega)))
  · exact (tile_at 1280 slices_S2048x2048_o0_1280_S2048x128 (k1_v21 i Q K) (by decide) x0 x1 x2).trans
      (congrArg (k1_v21 (F := Ideal) i Q K) (ix2_ext (by simp at *; omega) (by simp at *; omega)))
  · exact (tile_at 1152 slices_S2048x2048_o0_1152_S2048x128 (k1_v21 i Q K) (by decide) x0 x1 x2).trans
      (congrArg (k1_v21 (F := Ideal) i Q K) (ix2_ext (by simp at *; omega) (by simp at *; omega)))
  · exact (tile_at 1024 slices_S2048x2048_o0_1024_S2048x128 (k1_v21 i Q K) (by decide) x0 x1 x2).trans
      (congrArg (k1_v21 (F := Ideal) i Q K) (ix2_ext (by simp at *; omega) (by simp at *; omega)))
  · exact (tile_at 896 slices_S2048x2048_o0_896_S2048x128 (k1_v21 i Q K) (by decide) x0 x1 x2).trans
      (congrArg (k1_v21 (F := Ideal) i Q K) (ix2_ext (by simp at *; omega) (by simp at *; omega)))
  · exact (tile_at 768 slices_S2048x2048_o0_768_S2048x128 (k1_v21 i Q K) (by decide) x0 x1 x2).trans
      (congrArg (k1_v21 (F := Ideal) i Q K) (ix2_ext (by simp at *; omega) (by simp at *; omega)))
  · exact (tile_at 640 slices_S2048x2048_o0_640_S2048x128 (k1_v21 i Q K) (by decide) x0 x1 x2).trans
      (congrArg (k1_v21 (F := Ideal) i Q K) (ix2_ext (by simp at *; omega) (by simp at *; omega)))
  · exact (tile_at 512 slices_S2048x2048_o0_512_S2048x128 (k1_v21 i Q K) (by decide) x0 x1 x2).trans
      (congrArg (k1_v21 (F := Ideal) i Q K) (ix2_ext (by simp at *; omega) (by simp at *; omega)))
  · exact (tile_at 384 slices_S2048x2048_o0_384_S2048x128 (k1_v21 i Q K) (by decide) x0 x1 x2).trans
      (congrArg (k1_v21 (F := Ideal) i Q K) (ix2_ext (by simp at *; omega) (by simp at *; omega)))
  · exact (tile_at 256 slices_S2048x2048_o0_256_S2048x128 (k1_v21 i Q K) (by decide) x0 x1 x2).trans
      (congrArg (k1_v21 (F := Ideal) i Q K) (ix2_ext (by simp at *; omega) (by simp at *; omega)))
  · exact (tile_at 128 slices_S2048x2048_o0_128_S2048x128 (k1_v21 i Q K) (by decide) x0 x1 x2).trans
      (congrArg (k1_v21 (F := Ideal) i Q K) (ix2_ext (by simp at *; omega) (by simp at *; omega)))
  · exact (tile_at 0 slices_S2048x2048_o0_0_S2048x128 (k1_v21 i Q K) (by decide) x0 x1 x2).trans
      (congrArg (k1_v21 (F := Ideal) i Q K) (ix2_ext (by simp at *; omega) (by simp at *; omega)))

/-- The groups' greatest side by side. -/
def cols (s : FVec Ideal S2048x2048 .f32) : FVec Ideal S1x2048x16 .f32 :=
  shapeCast S1x2048x16 (concatenate S2048x16 1 [
    ⟨S2048x1, colMax 0 slices_S2048x2048_o0_0_S2048x128 s⟩,
    ⟨S2048x1, colMax 128 slices_S2048x2048_o0_128_S2048x128 s⟩,
    ⟨S2048x1, colMax 256 slices_S2048x2048_o0_256_S2048x128 s⟩,
    ⟨S2048x1, colMax 384 slices_S2048x2048_o0_384_S2048x128 s⟩,
    ⟨S2048x1, colMax 512 slices_S2048x2048_o0_512_S2048x128 s⟩,
    ⟨S2048x1, colMax 640 slices_S2048x2048_o0_640_S2048x128 s⟩,
    ⟨S2048x1, colMax 768 slices_S2048x2048_o0_768_S2048x128 s⟩,
    ⟨S2048x1, colMax 896 slices_S2048x2048_o0_896_S2048x128 s⟩,
    ⟨S2048x1, colMax 1024 slices_S2048x2048_o0_1024_S2048x128 s⟩,
    ⟨S2048x1, colMax 1152 slices_S2048x2048_o0_1152_S2048x128 s⟩,
    ⟨S2048x1, colMax 1280 slices_S2048x2048_o0_1280_S2048x128 s⟩,
    ⟨S2048x1, colMax 1408 slices_S2048x2048_o0_1408_S2048x128 s⟩,
    ⟨S2048x1, colMax 1536 slices_S2048x2048_o0_1536_S2048x128 s⟩,
    ⟨S2048x1, colMax 1664 slices_S2048x2048_o0_1664_S2048x128 s⟩,
    ⟨S2048x1, colMax 1792 slices_S2048x2048_o0_1792_S2048x128 s⟩,
    ⟨S2048x1, colMax 1920 slices_S2048x2048_o0_1920_S2048x128 s⟩]
    concatenates_S2048x1_S2048x1_S2048x1_S2048x1_S2048x1_S2048x1_S2048x1_S2048x1_S2048x1_S2048x1_S2048x1_S2048x1_S2048x1_S2048x1_S2048x1_S2048x1_S2048x16_d1)
    shapeCasts_S2048x16_S1x2048x16

theorem cast_at (v : FVec Ideal S2048x16 .f32) (r : Fin 2048) (q : Fin 16) :
    shapeCast S1x2048x16 v shapeCasts_S2048x16_S1x2048x16 (ix3 0 r q) = v (ix2 r q) := by
  pointwise

theorem cols_at (s : FVec Ideal S2048x2048 .f32) (r : Fin 2048) (q : Fin 16) : cols s (ix3 0 r q)
    = Finset.univ.fold max ⊥ fun l : Fin 128 => s (ix2 r ⟨q.val * 128 + l.val, by omega⟩) := by
  unfold cols
  rw [cast_at]
  concat_tiles x h
  all_goals idx_vars x
  all_goals
    obtain rfl : x0 = r := Fin.ext h0
    obtain rfl : x1 = 0 := Fin.ext h1
    rw [colMax_at _ _ _ (by decide)]
    refine Finset.fold_congr fun l _ => congrArg s (ix2_ext rfl ?_)
    simp only [h]

theorem out3_at (r : Fin 2048) (q : Fin 16) : out1_3 (F := Ideal) i Q K (ix3 0 r q)
    = Finset.univ.fold max ⊥ fun l : Fin 128 => k1_v21 (F := Ideal) i Q K (ix2 r ⟨q.val * 128 + l.val, by omega⟩) := by
  unfold out1_3
  rw [View.canon_cons_unit_lit _ _ _ (by decide)]
  exact cols_at (k1_v21 i Q K) r q

/-- The similarities of the block's keys. -/
theorem sims_at (r : Fin 2048) (e : Fin 2048) : k1_v21 (F := Ideal) i Q K (ix2 r e)
    = if (i 0).val * 2048 + e.val < 100000 then ∑ x, Q (ix2 r x) * unit (fun x => K (ix2 e x)) x
      else Ideal.ofBits .f32 3221225472#32 := by
  unfold k1_v21
  rw [View.ld_unit_lit _ _ (by decide), View.ld_unit_lit _ _ (by decide)]
  unfold unit k1_pay4
  pointwise
  have hi : (i 0).val < 49 := (i 0).isLt
  have hc : IntOp.cmpi .slt (IntOp.addi (Scalar.muli (BitVec.ofNat 32 (i 0).val) 2048#32) (BitVec.ofNat 32 e.val))
      100000#32 = BitVec.ofBool (decide ((i 0).val * 2048 + e.val < 100000)) := by
    have hw : IntOp.addi (Scalar.muli (BitVec.ofNat 32 (i 0).val) 2048#32) (BitVec.ofNat 32 e.val)
        = BitVec.ofNat 32 ((i 0).val * 2048 + e.val) := by
      apply BitVec.eq_of_toNat_eq
      simp only [IntOp.addi, Scalar.muli, IntOp.muli, BitVec.toNat_add, BitVec.toNat_mul, BitVec.toNat_ofNat,
        Nat.reducePow, Nat.reduceMod]
      omega
    rw [hw]
    unfold IntOp.cmpi
    congr 1
    rw [Bool.eq_iff_iff]
    simp only [decide_eq_true_eq, BitVec.slt_iff_toInt_lt]
    rw [BitVec.toInt_eq_toNat_of_lt (by simp only [BitVec.toNat_ofNat]; omega),
      BitVec.toInt_eq_toNat_of_lt (by decide)]
    simp only [BitVec.toNat_ofNat]
    omega
  rw [hc]
  unfold Scalar.select
  by_cases h : (i 0).val * 2048 + e.val < 100000 <;> simp [h]

/-! ## The arrays -/

/-- A query's similarity with key `e`, below every similarity when there is no such key. -/
def simAt (Q : S2048x128.Idx → EReal) (K : S100352x128.Idx → EReal) (r : Fin 2048) (e : Fin 100352) : EReal :=
  if e.val < 100000 then ∑ x, Q (ix2 r x) * unit (fun x => K (ix2 e x)) x else Ideal.ofBits .f32 3221225472#32

/-- Block `t` of the keys. -/
def keysOf (K : S100352x128.Idx → EReal) (t : Fin 49) : Vec Ideal S2048x128 .f32 := fun y =>
  K (ix2 ⟨t.val * 2048 + (y 0).val, by have := (y 0).isLt; have := t.isLt; simp at *; omega⟩ (y 1))

variable (V : (c : Dev nD) → (b : Ref sig .tc) → Buf (Elt Ideal) ((c : Thread nD τ).loc b))
  (O : CellTallies nD τ sig (HIx 2)) (R : Set (SemLoc sig × HIx 2)) (c : Dev nD)

theorem iblk_0 (t : Fin cfg1.N) : iblk V c 0 t = V c main_v1 := by
  have e : ∀ t : Fin grid1.N, win1_0.index t = ![0, 0] := by decide +kernel
  funext y
  refine congrArg (V c main_v1) ?_
  blk_ext [e t]

theorem iblk_1 (t : Fin cfg1.N) : iblk V c 1 t = keysOf (V c main_v2) (t.cast N_1) := by
  have e : ∀ t : Fin grid1.N, win1_1.index t = ![t.val, 0] := by decide +kernel
  funext y
  refine congrArg (V c main_v2) ?_
  blk_ext [e t]
  rfl

theorem coords_0 (t : Fin cfg1.N) : (grid1.coords t 0).val = (t.cast N_1).val :=
  (by decide +kernel : ∀ t : Fin grid1.N, (grid1.coords t 0).val = t.val) t

/-- The similarities of a block of keys are those of the keys there. -/
theorem sims_of (t : Fin cfg1.N) (Q : S2048x128.Idx → EReal) (K : S100352x128.Idx → EReal) (r e : Fin 2048)
    (e' : Fin 100352) (he : e'.val = (t.cast N_1).val * 2048 + e.val) :
    k1_v21 (F := Ideal) (grid1.coords t) Q (keysOf K (t.cast N_1)) (ix2 r e) = simAt Q K r e' := by
  rw [sims_at, coords_0]
  unfold simAt
  have hk : ∀ x, keysOf K (t.cast N_1) (ix2 e x) = K (ix2 e' x) := fun x =>
    congrArg K (ix2_ext he.symm rfl)
  simp only [hk, he]

/-- The similarities, in the layout of the gather's table, -/
def simsArr (Q : S2048x128.Idx → EReal) (K : S100352x128.Idx → EReal) : S256x6272x128.Idx → EReal := fun i =>
  simAt Q K ⟨(i 0).val * 8 + (i 1).val % 8, by have := (i 0).isLt; simp at this; omega⟩
    ⟨(i 1).val / 8 * 128 + (i 2).val, by have := (i 1).isLt; have := (i 2).isLt; simp at *; omega⟩

/-- and the greatest of each group. -/
def maxArr (Q : S2048x128.Idx → EReal) (K : S100352x128.Idx → EReal) : S49x2048x16.Idx → EReal := fun i =>
  Finset.univ.fold max ⊥ fun l : Fin 128 =>
    simAt Q K (i 1) ⟨((i 0).val * 16 + (i 2).val) * 128 + l.val, by
      have := (i 0).isLt; have := (i 2).isLt; simp at *; omega⟩

theorem arr_2 : (dat V O R c).arrAt 2 cfg1.N = simsArr (V c main_v1) (V c main_v2) := by
  have e : ∀ t : Fin grid1.N, win1_2.index t = ![0, t.val, 0] := by decide +kernel
  refine (dat V O R c).arrAt_eq_of_covers 2 _ (by decide +kernel) fun t hf y => ?_
  blk_simp
  rw [after1_2, iblk_0, iblk_1]
  have ht := (t.cast N_1).isLt
  have hy : (win1_2.blk t).view.emb y = ix3 (y 0) ⟨(t.cast N_1).val * 128 + (y 1).val, by
      have := (y 1).isLt; simp at *; omega⟩ (y 2) := by
    blk_ext [e t]
    rfl
  rw [hy]
  refine (out2_at _ _ _ _).trans ?_
  idx_vars y
  refine (sims_of t _ _ _ _ ⟨(t.cast N_1).val * 2048 + (y1.val / 8 * 128 + y2.val), by omega⟩ rfl).trans ?_
  show _ = simAt (V c main_v1) (V c main_v2) ⟨y0.val * 8 + ((t.cast N_1).val * 128 + y1.val) % 8, _⟩
    ⟨((t.cast N_1).val * 128 + y1.val) / 8 * 128 + y2.val, _⟩
  congr 1
  · exact Fin.ext (by
      show y0.val * 8 + y1.val % 8 = y0.val * 8 + ((t.cast N_1).val * 128 + y1.val) % 8
      omega)
  · exact Fin.ext (by
      show (t.cast N_1).val * 2048 + (y1.val / 8 * 128 + y2.val)
        = ((t.cast N_1).val * 128 + y1.val) / 8 * 128 + y2.val
      omega)

theorem arr_3 : (dat V O R c).arrAt 3 cfg1.N = maxArr (V c main_v1) (V c main_v2) := by
  have e : ∀ t : Fin grid1.N, win1_3.index t = ![t.val, 0, 0] := by decide +kernel
  refine (dat V O R c).arrAt_eq_of_covers 3 _ (by decide +kernel) fun t hf y => ?_
  blk_simp
  rw [after1_3, iblk_0, iblk_1]
  have hy : (win1_3.blk t).view.emb y = ix3 (t.cast N_1) (y 1) (y 2) := by
    blk_ext [e t]
    rfl
  rw [hy]
  have h0 : y = ix3 0 (y 1) (y 2) := by
    funext a
    match a with
    | ⟨0, _⟩ => exact Subsingleton.elim (α := Fin 1) _ _
    | ⟨1, _⟩ => rfl
    | ⟨2, _⟩ => rfl
  refine Eq.trans (congrArg _ h0) ((out3_at _ _ _ _ _).trans ?_)
  refine Finset.fold_congr fun l _ => sims_of t _ _ _ _ _ ?_
  show ((t.cast N_1).val * 16 + (y 2).val) * 128 + l.val = (t.cast N_1).val * 2048 + ((y 2).val * 128 + l.val)
  omega

end Cert.Proof.Call1
-- ==== Proof.Vals2.lean ====
module

public import proofs.«01_k».proof.Proof.Call2
public import Idealize.ShloMosaic.Lib.Pointwise
public import Idealize.ShloMosaic.Lib.Pipeline.ValueKit

@[expose] public section

set_option maxRecDepth 16384

/-!
# The groups' arrays

The second kernel has one point, so each result is what its body leaves.
-/

noncomputable section

namespace Cert.Proof.Call2

open Cert.KernelIdeal Cert.KernelIdeal.Gen
open Cert.Proof.Whole (UU)
open Idealize.ShloMosaic Idealize.ShloMosaic.TcCoe Idealize.SL.Sem
open Idealize.ShloMosaic.SparseCore.Cfg (HIx)

variable (V : (c : Dev nD) → (b : Ref sig .tc) → Buf (Elt Ideal) ((c : Thread nD τ).loc b))
  (O : CellTallies nD τ sig (HIx 2)) (R : Set (SemLoc sig × HIx 2)) (c : Dev nD)

theorem emb_0 (t : Fin cfg2.N) (y : S2048x896.Idx) : (win2_0.blk t).view.emb y = y := by
  have e : ∀ t : Fin grid2.N, win2_0.index t = ![0, 0] := by decide +kernel
  blk_ext [e t]

theorem emb_1 (t : Fin cfg2.N) (y : S2048x8.Idx) : (win2_1.blk t).view.emb y = y := by
  have e : ∀ t : Fin grid2.N, win2_1.index t = ![0, 0] := by decide +kernel
  blk_ext [e t]

theorem emb_2 (t : Fin cfg2.N) (y : S2048x8.Idx) : (win2_2.blk t).view.emb y = y := by
  have e : ∀ t : Fin grid2.N, win2_2.index t = ![0, 0] := by decide +kernel
  blk_ext [e t]

theorem iblk_0 (t : Fin cfg2.N) : iblk V c 0 t = V c main_v6 :=
  funext fun y => congrArg (V c main_v6) (emb_0 t y)

theorem arr_1 : (dat V O R c).arrAt 1 cfg2.N = out2_1 (F := Ideal) (V c main_v6) := by
  refine (dat V O R c).arrAt_eq_of_covers 1 _ (by decide +kernel) fun t hf y => ?_
  blk_simp
  rw [after2_1, iblk_0]
  exact (congrArg (out2_1 (F := Ideal) (V c main_v6)) (emb_1 t y)).symm

theorem arr_2 : (dat V O R c).arrAt 2 cfg2.N = out2_2 (F := Ideal) (V c main_v6) := by
  refine (dat V O R c).arrAt_eq_of_covers 2 _ (by decide +kernel) fun t hf y => ?_
  blk_simp
  rw [after2_2, iblk_0]
  exact (congrArg (out2_2 (F := Ideal) (V c main_v6)) (emb_2 t y)).symm

end Cert.Proof.Call2
-- ==== Proof.Vals4.lean ====
module

public import proofs.«01_k».proof.Proof.Call4
public import Idealize.ShloMosaic.Lib.Pointwise
public import Idealize.ShloMosaic.Lib.Pipeline.ValueKit

@[expose] public section

set_option maxRecDepth 16384

/-!
# The keys' arrays

The fourth kernel takes the queries in eight blocks of 256, and leaves its results in the same blocks.
-/

noncomputable section

namespace Cert.Proof.Call4

open Cert.KernelIdeal Cert.KernelIdeal.Gen
open Cert.Proof.Whole (UU)
open Idealize.ShloMosaic Idealize.ShloMosaic.TcCoe Idealize.SL.Sem
open Idealize.ShloMosaic.SparseCore.Cfg (HIx)

variable (V : (c : Dev nD) → (b : Ref sig .tc) → Buf (Elt Ideal) ((c : Thread nD τ).loc b))
  (O : CellTallies nD τ sig (HIx 2)) (R : Set (SemLoc sig × HIx 2)) (c : Dev nD)

/-- Block `t` of the gathered similarities, -/
def rowsOf (X : S2048x8x128.Idx → EReal) (t : Fin 8) : Vec Ideal S256x8x128 .f32 := fun y =>
  X (ix3 ⟨t.val * 256 + (y 0).val, by have := (y 0).isLt; have := t.isLt; simp at *; omega⟩ (y 1) (y 2))

/-- and of their groups. -/
def idsOf (P : S2048x8.Idx → BitVec 32) (t : Fin 8) : Vec Ideal S256x8 .i32 := fun y =>
  P (ix2 ⟨t.val * 256 + (y 0).val, by have := (y 0).isLt; have := t.isLt; simp at *; omega⟩ (y 1))

theorem iblk_0 (t : Fin cfg4.N) : iblk V c 0 t = rowsOf (V c main_v11) (t.cast N_4) := by
  have e : ∀ t : Fin grid4.N, win4_0.index t = ![t.val, 0, 0] := by decide +kernel
  funext y
  refine congrArg (V c main_v11) ?_
  blk_ext [e t]
  rfl

theorem iblk_1 (t : Fin cfg4.N) : iblk V c 1 t = idsOf (V c main_v7_0) (t.cast N_4) := by
  have e : ∀ t : Fin grid4.N, win4_1.index t = ![t.val, 0] := by decide +kernel
  funext y
  refine congrArg (V c main_v7_0) ?_
  blk_ext [e t]
  rfl

/-- The block and the row in it of a query. -/
def blkNo (i : Fin 2048) : Fin 8 := ⟨i.val / 256, by have := i.isLt; omega⟩
def blkRow (i : Fin 2048) : Fin 256 := ⟨i.val % 256, by omega⟩

theorem blkNo_at (t : Fin 8) (r : Fin 256) (h) : blkNo ⟨t.val * 256 + r.val, h⟩ = t :=
  Fin.ext (by have := r.isLt; simp only [blkNo]; omega)

theorem blkRow_at (t : Fin 8) (r : Fin 256) (h) : blkRow ⟨t.val * 256 + r.val, h⟩ = r :=
  Fin.ext (by have := r.isLt; simp only [blkRow]; omega)

theorem arr_2 : (dat V O R c).arrAt 2 cfg4.N = fun i => out4_2 (F := Ideal)
    (rowsOf (V c main_v11) (blkNo (i 0))) (idsOf (V c main_v7_0) (blkNo (i 0))) (ix2 (blkRow (i 0)) (i 1)) := by
  have e : ∀ t : Fin grid4.N, win4_2.index t = ![t.val, 0] := by decide +kernel
  refine (dat V O R c).arrAt_eq_of_covers 2 _ (by decide +kernel) fun t hf y => ?_
  blk_simp
  rw [after4_2, iblk_0, iblk_1]
  have hy : (win4_2.blk t).view.emb y = ix2 ⟨(t.cast N_4).val * 256 + (y 0).val, by
      have := (y 0).isLt; have := (t.cast N_4).isLt; simp at *; omega⟩ (y 1) := by
    blk_ext [e t]
    rfl
  rw [hy]
  idx_vars y
  show _ = out4_2 (F := Ideal) (rowsOf (V c main_v11) (blkNo ⟨(t.cast N_4).val * 256 + y0.val, _⟩))
    (idsOf (V c main_v7_0) (blkNo ⟨(t.cast N_4).val * 256 + y0.val, _⟩))
    (ix2 (blkRow ⟨(t.cast N_4).val * 256 + y0.val, _⟩) y1)
  rw [blkNo_at, blkRow_at]

theorem arr_3 : (dat V O R c).arrAt 3 cfg4.N = fun i => out4_3 (F := Ideal)
    (rowsOf (V c main_v11) (blkNo (i 0))) (idsOf (V c main_v7_0) (blkNo (i 0))) (ix2 (blkRow (i 0)) (i 1)) := by
  have e : ∀ t : Fin grid4.N, win4_3.index t = ![t.val, 0] := by decide +kernel
  refine (dat V O R c).arrAt_eq_of_covers 3 _ (by decide +kernel) fun t hf y => ?_
  blk_simp
  rw [after4_3, iblk_0, iblk_1]
  have hy : (win4_3.blk t).view.emb y = ix2 ⟨(t.cast N_4).val * 256 + (y 0).val, by
      have := (y 0).isLt; have := (t.cast N_4).isLt; simp at *; omega⟩ (y 1) := by
    blk_ext [e t]
    rfl
  rw [hy]
  idx_vars y
  show _ = out4_3 (F := Ideal) (rowsOf (V c main_v11) (blkNo ⟨(t.cast N_4).val * 256 + y0.val, _⟩))
    (idsOf (V c main_v7_0) (blkNo ⟨(t.cast N_4).val * 256 + y0.val, _⟩))
    (ix2 (blkRow ⟨(t.cast N_4).val * 256 + y0.val, _⟩) y1)
  rw [blkNo_at, blkRow_at]

end Cert.Proof.Call4
-- ==== Proof.Vals6.lean ====
module

public import proofs.«01_k».proof.Proof.Call6
public import Idealize.ShloMosaic.Lib.Pointwise
public import Idealize.ShloMosaic.Lib.Pipeline.ValueKit

@[expose] public section

set_option maxRecDepth 16384

/-!
# The output's array

The sixth kernel has one point, so its result is what its body leaves.
-/

noncomputable section

namespace Cert.Proof.Call6

open Cert.KernelIdeal Cert.KernelIdeal.Gen
open Cert.Proof.Whole (UU)
open Idealize.ShloMosaic Idealize.ShloMosaic.TcCoe Idealize.SL.Sem
open Idealize.ShloMosaic.SparseCore.Cfg (HIx)

variable (V : (c : Dev nD) → (b : Ref sig .tc) → Buf (Elt Ideal) ((c : Thread nD τ).loc b))
  (O : CellTallies nD τ sig (HIx 2)) (R : Set (SemLoc sig × HIx 2)) (c : Dev nD)

theorem emb_0 (t : Fin cfg6.N) (y : S2048x128.Idx) : (win6_0.blk t).view.emb y = y := by
  have e : ∀ t : Fin grid6.N, win6_0.index t = ![0, 0] := by decide +kernel
  blk_ext [e t]

theorem iblk_0 (t : Fin cfg6.N) : iblk V c 0 t = V c main_v0 :=
  funext fun y => congrArg (V c main_v0) (emb_0 t y)

theorem emb_1 (t : Fin cfg6.N) (y : S2048x8x128.Idx) : (win6_1.blk t).view.emb y = y := by
  have e : ∀ t : Fin grid6.N, win6_1.index t = ![0, 0, 0] := by decide +kernel
  blk_ext [e t]

theorem iblk_1 (t : Fin cfg6.N) : iblk V c 1 t = V c main_v15 :=
  funext fun y => congrArg (V c main_v15) (emb_1 t y)

theorem emb_2 (t : Fin cfg6.N) (y : S2048x8.Idx) : (win6_2.blk t).view.emb y = y := by
  have e : ∀ t : Fin grid6.N, win6_2.index t = ![0, 0] := by decide +kernel
  blk_ext [e t]

theorem iblk_2 (t : Fin cfg6.N) : iblk V c 2 t = V c main_v12_0 :=
  funext fun y => congrArg (V c main_v12_0) (emb_2 t y)

theorem emb_3 (t : Fin cfg6.N) (y : S128x128.Idx) : (win6_3.blk t).view.emb y = y := by
  have e : ∀ t : Fin grid6.N, win6_3.index t = ![0, 0] := by decide +kernel
  blk_ext [e t]

theorem iblk_3 (t : Fin cfg6.N) : iblk V c 3 t = V c main_arg4 :=
  funext fun y => congrArg (V c main_arg4) (emb_3 t y)

theorem emb_4 (t : Fin cfg6.N) (y : S64x256.Idx) : (win6_4.blk t).view.emb y = y := by
  have e : ∀ t : Fin grid6.N, win6_4.index t = ![0, 0] := by decide +kernel
  blk_ext [e t]

theorem iblk_4 (t : Fin cfg6.N) : iblk V c 4 t = V c main_arg5 :=
  funext fun y => congrArg (V c main_arg5) (emb_4 t y)

theorem emb_5 (t : Fin cfg6.N) (y : S1x64.Idx) : (win6_5.blk t).view.emb y = y := by
  have e : ∀ t : Fin grid6.N, win6_5.index t = ![0, 0] := by decide +kernel
  blk_ext [e t]

theorem iblk_5 (t : Fin cfg6.N) : iblk V c 5 t = V c main_v18 :=
  funext fun y => congrArg (V c main_v18) (emb_5 t y)

theorem emb_6 (t : Fin cfg6.N) (y : S1x65.Idx) : (win6_6.blk t).view.emb y = y := by
  have e : ∀ t : Fin grid6.N, win6_6.index t = ![0, 0] := by decide +kernel
  blk_ext [e t]

theorem iblk_6 (t : Fin cfg6.N) : iblk V c 6 t = V c main_v17 :=
  funext fun y => congrArg (V c main_v17) (emb_6 t y)

theorem emb_7 (t : Fin cfg6.N) (y : S2048x128.Idx) : (win6_7.blk t).view.emb y = y := by
  have e : ∀ t : Fin grid6.N, win6_7.index t = ![0, 0] := by decide +kernel
  blk_ext [e t]

theorem arr_7 : (dat V O R c).arrAt 7 cfg6.N = out6_7 (F := Ideal) (V c main_v0) (V c main_v15) (V c main_v12_0) (V c main_arg4) (V c main_arg5) (V c main_v18) (V c main_v17) := by
  refine (dat V O R c).arrAt_eq_of_covers 7 _ (by decide +kernel) fun t hf y => ?_
  blk_simp
  rw [after6_7, iblk_0, iblk_1, iblk_2, iblk_3, iblk_4, iblk_5, iblk_6]
  exact (congrArg (out6_7 (F := Ideal) (V c main_v0) (V c main_v15) (V c main_v12_0) (V c main_arg4) (V c main_arg5) (V c main_v18) (V c main_v17)) (emb_7 t y)).symm

end Cert.Proof.Call6
-- ==== Proof.KernelVals.lean ====
module

public import proofs.«01_k».proof.Proof.WholeReads
public import proofs.«01_k».proof.Proof.Layouts
public import proofs.«01_k».proof.Proof.TwoStage
public import proofs.«01_k».proof.Proof.UnitMath
public import proofs.«01_k».proof.Proof.Round2
public import proofs.«01_k».proof.Proof.Round4
public import proofs.«01_k».proof.Proof.Round6
public import proofs.«01_k».proof.Proof.Vals0
public import proofs.«01_k».proof.Proof.Vals1
public import proofs.«01_k».proof.Proof.Vals2
public import proofs.«01_k».proof.Proof.Vals4
public import proofs.«01_k».proof.Proof.Vals6

@[expose] public section

set_option maxRecDepth 16384

/-!
# The kernel's values from its arguments

Each array the whole kernel keeps, entry by entry, over the extended reals: the similarities, the
groups' maxima, the eight groups of a query, the fetched similarities, the eight keys with their
weights, the fetched values and the result.
-/

noncomputable section

namespace Cert.Proof.KernelVals

open Idealize.ShloMosaic Idealize.ShloMosaic.Pipeline Cert.KernelIdeal Cert.KernelIdeal.Gen
open Cert.Proof.Whole Cert.Proof.UnitMath Cert.Proof.RankMath

/-! ## The search, stated on its own -/

/-- The similarity of a query with the key `e`. -/
def similarity (X : Fin 128 → EReal) (W : Fin 128 → Fin 128 → EReal) (K : Fin 100000 → Fin 128 → EReal) (e : Fin 100000) : EReal :=
  ∑ x, unit (fun d => ∑ y, X y * W d y) x * unit (K e) x

/-- The entry of rank `q`. -/
def pick (σ : Fin 100000 → EReal) (q : Fin 8) : Fin 100000 :=
  nth σ Fin.val Fin.val_injective q.val (by rw [Fintype.card_fin]; omega)

/-- The softmax of eight values. -/
def softmax (v : Fin 8 → EReal) (q : Fin 8) : EReal :=
  Ideal.div (Ideal.exp (v q - Finset.univ.fold max ⊥ v)) (∑ y, Ideal.exp (v y - Finset.univ.fold max ⊥ v))

/-- The value groups without keys carry. -/
abbrev lo : EReal := Ideal.ofBits .f32 3221225472#32

variable (m : (ℓ : Loc nD τ sig) → Buf (Elt Ideal) ℓ) (d : Dev nD)

/-! ## The arguments -/

abbrev A0 : Vec Ideal S4x512x128 .f32 := m (d, Proc.devRef .tc main_arg0)
abbrev A1 : Vec Ideal S100000x128 .f32 := m (d, Proc.devRef .tc main_arg1)
abbrev A2 : Vec Ideal S100000x128 .f32 := m (d, Proc.devRef .tc main_arg2)
abbrev A3 : Vec Ideal S128x128 .f32 := m (d, Proc.devRef .tc main_arg3)
abbrev A4 : Vec Ideal S128x128 .f32 := m (d, Proc.devRef .tc main_arg4)
abbrev A5 : Vec Ideal S64x256 .f32 := m (d, Proc.devRef .tc main_arg5)
abbrev A6 : Vec Ideal S64 .f32 := m (d, Proc.devRef .tc main_arg6)
abbrev A7 : Vec Ideal S1x64 .f32 := m (d, Proc.devRef .tc main_arg7)
abbrev A8 : Vec Ideal S1 .f32 := m (d, Proc.devRef .tc main_arg8)

/-- A query, -/
def query (r : Fin 2048) (y : Fin 128) : EReal := A0 m d (ix3 ⟨r.val / 512, by omega⟩ ⟨r.val % 512, by omega⟩ y)

/-- and its similarities. -/
def σ (r : Fin 2048) : Fin 100000 → EReal :=
  similarity (query m d r) (fun i y => A3 m d (ix2 i y)) (fun e y => A1 m d (ix2 e y))

theorem lt_σ (r : Fin 2048) (e : Fin 100000) : lo < σ m d r e := sim_gt_two _ _

/-! ## The similarities and the groups' maxima -/

theorem v0_at (r : Fin 2048) (x : Fin 128) : (c1 m d (Proc.devRef .tc main_v0) : Vec Ideal S2048x128 .f32) (ix2 r x) = query m d r x := by
  rw [val_v0]
  exact Layouts.queries_at _ r x

theorem v1_eq : (c2 m d (Proc.devRef .tc main_v1) : Vec Ideal S2048x128 .f32) = Call0.qn (vref (c1 m) d main_v0) (vref (c1 m) d main_arg3) :=
  (left_2 m d 2).trans (Call0.arr_qn _ _ _ d)

theorem v1_at (r : Fin 2048) (x : Fin 128) : (c3 m d (Proc.devRef .tc main_v1) : Vec Ideal S2048x128 .f32) (ix2 r x)
    = unit (fun i => ∑ y, query m d r y * A3 m d (ix2 i y)) x := by
  rw [show (c3 m d (Proc.devRef .tc main_v1) : Vec Ideal S2048x128 .f32) = c2 m d (Proc.devRef .tc main_v1) from keep_3 m d main_v1 (by decide), v1_eq]
  unfold Call0.qn
  refine congrArg (fun f => unit f x) (funext fun i => Finset.sum_congr rfl fun y _ => ?_)
  exact congrArg₂ (fun a b : EReal => a * b) (v0_at m d r y) (congrFun (arg_1 m d main_arg3 (by decide)) (ix2 i y))

theorem v2_at (e : Fin 100352) (h : e.val < 100000) (x : Fin 128) : (c3 m d (Proc.devRef .tc main_v2) : Vec Ideal S100352x128 .f32) (ix2 e x)
    = A1 m d (ix2 ⟨e.val, h⟩ x) := by
  rw [val_v2, Layouts.keys_at _ _ e h x]
  exact congrFun (arg_2 m d main_arg1 (by decide)) _

theorem simAt_eq (r : Fin 2048) (e : Fin 100352) (e' : Fin 114688) (he : e.val = e'.val) :
    Call1.simAt (vref (c3 m) d main_v1) (vref (c3 m) d main_v2) r e = TwoStage.ext lo (σ m d r) e' := by
  unfold Call1.simAt
  by_cases h : e.val < 100000
  · have h' : e'.val < 100000 := he ▸ h
    rw [if_pos h, TwoStage.ext_real _ _ h']
    refine Finset.sum_congr rfl fun x _ => congrArg₂ (fun a b : EReal => a * b) (v1_at m d r x) (congrArg (fun f => unit f x) (funext fun y => ?_))
    refine (v2_at m d e h y).trans ?_
    exact congrArg (fun e => A1 m d (ix2 e y)) (Fin.ext he)
  · rw [if_neg h, TwoStage.ext_pad _ _ (he ▸ h)]

theorem v3_0_eq : (c4 m d (Proc.devRef .tc main_v3_0) : Vec Ideal S256x6272x128 .f32) = Call1.simsArr (vref (c3 m) d main_v1) (vref (c3 m) d main_v2) :=
  (left_4 m d 2).trans (Call1.arr_2 _ _ _ d)

theorem v3_1_eq : (c4 m d (Proc.devRef .tc main_v3_1) : Vec Ideal S49x2048x16 .f32) = Call1.maxArr (vref (c3 m) d main_v1) (vref (c3 m) d main_v2) :=
  (left_4 m d 3).trans (Call1.arr_3 _ _ _ d)

theorem v6_at (r : Fin 2048) (g : Fin 896) : (c5 m d (Proc.devRef .tc main_v6) : Vec Ideal S2048x896 .f32) (ix2 r g)
    = TwoStage.best lo (σ m d r) g := by
  rw [val_v6, Layouts.groups_at]
  by_cases h : g.val < 784
  · rw [dif_pos h, v3_1_eq]
    unfold Call1.maxArr TwoStage.best
    refine congrArg (fun f : Fin 128 → EReal => Finset.univ.fold max ⊥ f) (funext fun l => simAt_eq m d r _ _ ?_)
    show (g.val / 16 * 16 + g.val % 16) * 128 + l.val = g.val * 128 + l.val
    omega
  · rw [dif_neg h, TwoStage.best_pad _ _ (by omega)]

theorem v6_lo (r : Fin 2048) (g : Fin 896) :
    Ideal.ofBits .f32 0xC0400000#32 < (c5 m d (Proc.devRef .tc main_v6) : Vec Ideal S2048x896 .f32) (ix2 r g) := by
  rw [v6_at]
  exact lt_of_lt_of_le three_lt_two (TwoStage.le_best _ _ (lt_σ m d r) g)

/-! ## The eight groups -/

theorem top_eq (r : Fin 2048) (q : Fin 8) : Round2.top (c5 m d (Proc.devRef .tc main_v6)) r q.val (by omega) = TwoStage.topG lo (σ m d r) q := by
  have h : (fun c => (c5 m d (Proc.devRef .tc main_v6) : Vec Ideal S2048x896 .f32) (ix2 r c)) = TwoStage.best lo (σ m d r) := funext (v6_at m d r)
  unfold Round2.top TwoStage.topG
  simp only [h]

theorem v7_0_at (r : Fin 2048) (q : Fin 8) : (c6 m d (Proc.devRef .tc main_v7_0) : Vec Ideal S2048x8 .i32) (ix2 r q)
    = BitVec.ofNat 32 (TwoStage.topG lo (σ m d r) q).val := by
  rw [show (c6 m d (Proc.devRef .tc main_v7_0) : Vec Ideal S2048x8 .i32) = Call2.out2_1 (F := Ideal) (vref (c5 m) d main_v6) from
    (left_6 m d 1).trans (Call2.arr_1 _ _ _ d), Round2.ids_at _ r q (v6_lo m d r), top_eq]

theorem v7_1_at (r : Fin 2048) (q : Fin 8) : (c6 m d (Proc.devRef .tc main_v7_1) : Vec Ideal S2048x8 .i32) (ix2 r q)
    = BitVec.ofNat 32 (Round2.flatOf r.val (TwoStage.topG lo (σ m d r) q).val) := by
  rw [show (c6 m d (Proc.devRef .tc main_v7_1) : Vec Ideal S2048x8 .i32) = Call2.out2_2 (F := Ideal) (vref (c5 m) d main_v6) from
    (left_6 m d 2).trans (Call2.arr_2 _ _ _ d), Round2.flats_at _ r q (v6_lo m d r), top_eq]

theorem flat_lt (r : Fin 2048) (q : Fin 8) : Round2.flatOf r.val (TwoStage.topG lo (σ m d r) q).val < 1605632 := by
  have h := TwoStage.topG_lt lo (σ m d r) (lt_σ m d r) q
  have hr := r.isLt
  unfold Round2.flatOf
  omega

/-! ## The fetched similarities -/

theorem fiS_at (k : Fin 16384) : (fiS m d : Vec Ideal S16384 .i32) (ix1 k)
    = BitVec.ofNat 32 (Round2.flatOf (k.val / 8) (TwoStage.topG lo (σ m d ⟨k.val / 8, by omega⟩) ⟨k.val % 8, by omega⟩).val) := by
  unfold fiS
  rw [val_v9, Layouts.list_at, v7_1_at]

theorem fiS_toNat (k : Fin 16384) : ((fiS m d : Vec Ideal S16384 .i32) (ix1 k)).toNat
    = Round2.flatOf (k.val / 8) (TwoStage.topG lo (σ m d ⟨k.val / 8, by omega⟩) ⟨k.val % 8, by omega⟩).val := by
  have h := flat_lt m d ⟨k.val / 8, by omega⟩ ⟨k.val % 8, by omega⟩
  simp only at h
  rw [fiS_at, BitVec.toNat_ofNat]
  omega

theorem inRangeS : GatherSims.InRange (fiS m) := fun d j => by
  have h := flat_lt m d ⟨(j 0).val / 8, by have : (j 0).val < 16384 := (j 0).isLt; omega⟩ ⟨(j 0).val % 8, by omega⟩
  have e : j = ix1 (j 0) := funext fun a => by rw [Subsingleton.elim a 0]; rfl
  rw [e]
  exact lt_of_eq_of_lt (fiS_toNat m d (j 0)) h

theorem v8_at (f : Fin 1605632) (l : Fin 128) (r : Fin 2048) (g : Fin 896) (hg : g.val < 782) (hf : f.val = Round2.flatOf r.val g.val) :
    (ftS m d : Vec Ideal S1605632x128 .f32) (ix2 f l) = TwoStage.ext lo (σ m d r) (TwoStage.elt g l) := by
  have hr := r.isLt
  unfold Round2.flatOf at hf
  unfold ftS
  rw [val_v8, Layouts.flatRows_at,
    show (c6 m d (Proc.devRef .tc main_v3_0) : Vec Ideal S256x6272x128 .f32) = c5 m d (Proc.devRef .tc main_v3_0) from keep_6 m d main_v3_0 (by decide),
    show (c5 m d (Proc.devRef .tc main_v3_0) : Vec Ideal S256x6272x128 .f32) = c4 m d (Proc.devRef .tc main_v3_0) from keep_5 m d main_v3_0 (by decide), v3_0_eq]
  unfold Call1.simsArr
  have e : ∀ h, (⟨f.val / 6272 * 8 + f.val % 6272 % 8, h⟩ : Fin 2048) = r := fun h => Fin.ext (by
    show f.val / 6272 * 8 + f.val % 6272 % 8 = r.val
    omega)
  refine Eq.trans (congrArg (fun r => Call1.simAt (vref (c3 m) d main_v1) (vref (c3 m) d main_v2) r _) (e _)) ?_
  refine simAt_eq m d r _ _ ?_
  show f.val % 6272 / 8 * 128 + l.val = g.val * 128 + l.val
  omega

theorem v11_at (r : Fin 2048) (j : Fin 8) (l : Fin 128) : (c9 m d (Proc.devRef .tc main_v11) : Vec Ideal S2048x8x128 .f32) (ix3 r j l)
    = TwoStage.ext lo (σ m d r) (TwoStage.emb lo (σ m d r) (j, l)) := by
  rw [val_v11, Layouts.rows_at, val_v10]
  have hk : r.val * 8 + j.val < 16384 := by omega
  have hf := fiS_toNat m d ⟨r.val * 8 + j.val, hk⟩
  have e1 : (⟨(r.val * 8 + j.val) / 8, by omega⟩ : Fin 2048) = r := Fin.ext (show (r.val * 8 + j.val) / 8 = r.val by omega)
  have e2 : (⟨(r.val * 8 + j.val) % 8, by omega⟩ : Fin 8) = j := Fin.ext (show (r.val * 8 + j.val) % 8 = j.val by omega)
  have e3 : (r.val * 8 + j.val) / 8 = r.val := by omega
  simp only [e1, e2, e3] at hf
  refine v8_at m d _ l r _ (TwoStage.topG_lt lo (σ m d r) (lt_σ m d r) j) ?_
  show ((fiS m d : Vec Ideal S16384 .i32) (ix1 ⟨r.val * 8 + j.val, hk⟩)).toNat % 1605632 = _
  rw [hf]
  exact Nat.mod_eq_of_lt (flat_lt m d r j)

/-! ## The eight keys and their weights -/

/-- The groups as the fourth kernel is handed them, -/
def groups (r : Fin 2048) (a : Fin 8) : ℕ := (TwoStage.topG lo (σ m d r) a).val

theorem groups_lt (r : Fin 2048) (a : Fin 8) : groups m d r a < 896 := (TwoStage.topG lo (σ m d r) a).isLt

theorem groups_injective (r : Fin 2048) : Function.Injective (groups m d r) := fun a b h =>
  TwoStage.topG_injective lo (σ m d r) (Fin.ext h)

theorem row_split (r : Fin 2048) (h) : (⟨(Call4.blkNo r).val * 256 + (Call4.blkRow r).val, h⟩ : Fin 2048) = r :=
  Fin.ext (show r.val / 256 * 256 + r.val % 256 = r.val by omega)

/-- and the fetched similarities. -/
theorem rowsOf_at (r : Fin 2048) (j : Fin 8) (l : Fin 128) :
    Call4.rowsOf (vref (c9 m) d main_v11) (Call4.blkNo r) (ix3 (Call4.blkRow r) j l)
      = TwoStage.ext lo (σ m d r) (TwoStage.emb lo (σ m d r) (j, l)) := by
  unfold Call4.rowsOf
  refine Eq.trans (congrArg (fun r => vref (c9 m) d main_v11 (ix3 r j l)) (row_split r _)) ?_
  exact v11_at m d r j l

theorem v7_0_keep : (c9 m d (Proc.devRef .tc main_v7_0) : Vec Ideal S2048x8 .i32) = c6 m d (Proc.devRef .tc main_v7_0) :=
  (keep_9 m d main_v7_0 (by decide)).trans ((keep_8 m d main_v7_0 (by decide)).trans (keep_7 m d main_v7_0 (by decide)))

theorem idsOf_at (r : Fin 2048) (a : Fin 8) :
    Call4.idsOf (vref (c9 m) d main_v7_0) (Call4.blkNo r) (ix2 (Call4.blkRow r) a) = BitVec.ofNat 32 (groups m d r a) := by
  unfold Call4.idsOf
  refine Eq.trans (congrArg (fun r => vref (c9 m) d main_v7_0 (ix2 r a)) (row_split r _)) ?_
  exact (congrFun (v7_0_keep m d) (ix2 r a)).trans (v7_0_at m d r a)

theorem rows_lo (r : Fin 2048) (y : Fin 8 × Fin 128) :
    Ideal.ofBits .f32 0xC0400000#32 < Call4.rowsOf (vref (c9 m) d main_v11) (Call4.blkNo r) (ix3 (Call4.blkRow r) y.1 y.2) := by
  rw [rowsOf_at]
  exact lt_of_lt_of_le three_lt_two (TwoStage.le_ext _ _ (lt_σ m d r) _)

/-- The element of rank `q` among the fetched ones is the key of rank `q`. -/
theorem top4 (r : Fin 2048) (q : Fin 8) (hq : q.val < 1024) :
    (TwoStage.emb lo (σ m d r) (Round4.top (Call4.rowsOf (vref (c9 m) d main_v11) (Call4.blkNo r)) (Call4.blkRow r)
        (Round4.key (groups m d r)) (Round4.key_injective _ (groups_injective m d r)) q.val hq)).val = (pick (σ m d r) q).val
      ∧ TwoStage.ext lo (σ m d r) (TwoStage.emb lo (σ m d r) (Round4.top (Call4.rowsOf (vref (c9 m) d main_v11) (Call4.blkNo r)) (Call4.blkRow r)
        (Round4.key (groups m d r)) (Round4.key_injective _ (groups_injective m d r)) q.val hq)) = σ m d r (pick (σ m d r) q) := by
  have hrow : Round4.row (Call4.rowsOf (vref (c9 m) d main_v11) (Call4.blkNo r)) (Call4.blkRow r)
      = TwoStage.ext lo (σ m d r) ∘ TwoStage.emb lo (σ m d r) := funext fun y => rowsOf_at m d r y.1 y.2
  have hr : rank (TwoStage.ext lo (σ m d r) ∘ TwoStage.emb lo (σ m d r)) (Fin.val ∘ TwoStage.emb lo (σ m d r))
      (Round4.top (Call4.rowsOf (vref (c9 m) d main_v11) (Call4.blkNo r)) (Call4.blkRow r)
        (Round4.key (groups m d r)) (Round4.key_injective _ (groups_injective m d r)) q.val hq) = q.val := by
    rw [← hrow]
    exact rank_nth _ (Round4.key (groups m d r)) _ q.val _
  obtain ⟨h, hk, hv⟩ := TwoStage.nth_emb lo (σ m d r) (lt_σ m d r) _ q hr
  have hp := eq_nth (σ m d r) Fin.val Fin.val_injective (k := q.val) (by rw [Fintype.card_fin]; omega) hk
  exact ⟨congrArg Fin.val hp, hv.trans (congrArg (σ m d r) hp)⟩

theorem v12_1_at (r : Fin 2048) (q : Fin 8) : (c10 m d (Proc.devRef .tc main_v12_1) : Vec Ideal S2048x8 .i32) (ix2 r q)
    = BitVec.ofNat 32 (pick (σ m d r) q).val := by
  rw [show (c10 m d (Proc.devRef .tc main_v12_1) : Vec Ideal S2048x8 .i32) = _ from (left_10 m d 3).trans (Call4.arr_3 _ _ _ d)]
  refine (Round4.keys_at _ _ (Call4.blkRow r) (groups m d r) (idsOf_at m d r) (groups_lt m d r) (groups_injective m d r) (rows_lo m d r) q).trans ?_
  exact congrArg (BitVec.ofNat 32) (top4 m d r q (by omega)).1

theorem v12_0_at (r : Fin 2048) (q : Fin 8) : (c10 m d (Proc.devRef .tc main_v12_0) : Vec Ideal S2048x8 .f32) (ix2 r q)
    = softmax (fun q => σ m d r (pick (σ m d r) q)) q := by
  rw [show (c10 m d (Proc.devRef .tc main_v12_0) : Vec Ideal S2048x8 .f32) = _ from (left_10 m d 2).trans (Call4.arr_2 _ _ _ d)]
  refine (Round4.weights_at _ _ (Call4.blkRow r) (groups m d r) (idsOf_at m d r) (groups_lt m d r) (groups_injective m d r) (rows_lo m d r) q
    (fun q => σ m d r (pick (σ m d r) q)) fun q => ?_).trans rfl
  refine (top4 m d r q (by omega)).2.symm.trans ?_
  exact (rowsOf_at m d r _ _).symm

/-! ## The fetched values -/

theorem fiV_at (k : Fin 16384) : (fiV m d : Vec Ideal S16384 .i32) (ix1 k)
    = BitVec.ofNat 32 (pick (σ m d ⟨k.val / 8, by omega⟩) ⟨k.val % 8, by omega⟩).val := by
  unfold fiV
  rw [val_v13, Layouts.list_at, v12_1_at]

theorem fiV_toNat (k : Fin 16384) : ((fiV m d : Vec Ideal S16384 .i32) (ix1 k)).toNat
    = (pick (σ m d ⟨k.val / 8, by omega⟩) ⟨k.val % 8, by omega⟩).val := by
  have h := (pick (σ m d ⟨k.val / 8, by omega⟩) ⟨k.val % 8, by omega⟩).isLt
  rw [fiV_at, BitVec.toNat_ofNat]
  omega

theorem inRangeV : GatherVals.InRange (fiV m) := fun d j => by
  have e : j = ix1 (j 0) := funext fun a => by rw [Subsingleton.elim a 0]; rfl
  rw [e]
  exact lt_of_eq_of_lt (fiV_toNat m d (j 0)) (pick _ _).isLt

theorem v15_at (r : Fin 2048) (j : Fin 8) (l : Fin 128) : (c13 m d (Proc.devRef .tc main_v15) : Vec Ideal S2048x8x128 .f32) (ix3 r j l)
    = A2 m d (ix2 (pick (σ m d r) j) l) := by
  rw [val_v15, Layouts.rows_at, val_v14]
  have hk : r.val * 8 + j.val < 16384 := by omega
  have hf := fiV_toNat m d ⟨r.val * 8 + j.val, hk⟩
  have e1 : (⟨(r.val * 8 + j.val) / 8, by omega⟩ : Fin 2048) = r := Fin.ext (show (r.val * 8 + j.val) / 8 = r.val by omega)
  have e2 : (⟨(r.val * 8 + j.val) % 8, by omega⟩ : Fin 8) = j := Fin.ext (show (r.val * 8 + j.val) % 8 = j.val by omega)
  simp only [e1, e2] at hf
  refine (congrFun (arg_11 m d main_arg2 (by decide)) (ix2 _ l)).trans ?_
  refine congrArg (fun e => A2 m d (ix2 e l)) (Fin.ext ?_)
  show ((fiV m d : Vec Ideal S16384 .i32) (ix1 ⟨r.val * 8 + j.val, hk⟩)).toNat % 100000 = _
  rw [hf]
  exact Nat.mod_eq_of_lt (pick (σ m d r) j).isLt

/-! ## The result -/

theorem v0_keep : (c13 m d (Proc.devRef .tc main_v0) : Vec Ideal S2048x128 .f32) = c1 m d (Proc.devRef .tc main_v0) :=
  (keep_13 m d main_v0 (by decide)).trans <| (keep_12 m d main_v0 (by decide)).trans <| (keep_11 m d main_v0 (by decide)).trans <|
    (keep_10 m d main_v0 (by decide)).trans <| (keep_9 m d main_v0 (by decide)).trans <| (keep_8 m d main_v0 (by decide)).trans <|
    (keep_7 m d main_v0 (by decide)).trans <| (keep_6 m d main_v0 (by decide)).trans <| (keep_5 m d main_v0 (by decide)).trans <|
    (keep_4 m d main_v0 (by decide)).trans <| (keep_3 m d main_v0 (by decide)).trans (keep_2 m d main_v0 (by decide))

theorem v12_0_keep : (c13 m d (Proc.devRef .tc main_v12_0) : Vec Ideal S2048x8 .f32) = c10 m d (Proc.devRef .tc main_v12_0) :=
  (keep_13 m d main_v12_0 (by decide)).trans <| (keep_12 m d main_v12_0 (by decide)).trans (keep_11 m d main_v12_0 (by decide))

/-- The retrieval of a query. -/
def retrieval (r : Fin 2048) : Fin 128 → EReal :=
  Round6.retOf (softmax fun q => σ m d r (pick (σ m d r) q)) (fun q l => A2 m d (ix2 (pick (σ m d r) q) l)) (A4 m d)

/-- The result of a query. -/
def result (r : Fin 2048) (k : Fin 128) : EReal :=
  Round6.gated (query m d r) (retrieval m d r) (Round6.hid (query m d r) (retrieval m d r) (A5 m d) fun k => A6 m d (ix1 k))
    (fun k => A7 m d (ix2 0 k)) (A8 m d (ix1 0)) k

theorem v19_at (r : Fin 2048) (k : Fin 128) : (c14 m d (Proc.devRef .tc main_v19) : Vec Ideal S2048x128 .f32) (ix2 r k) = result m d r k := by
  rw [show (c14 m d (Proc.devRef .tc main_v19) : Vec Ideal S2048x128 .f32) = _ from (left_14 m d 7).trans (Call6.arr_7 _ _ _ d)]
  refine (Round6.out_at _ _ _ _ _ _ _ r k).trans ?_
  have hx : (fun k => (c13 m d (Proc.devRef .tc main_v0) : Vec Ideal S2048x128 .f32) (ix2 r k)) = query m d r := funext fun k =>
    (congrFun (v0_keep m d) (ix2 r k)).trans (v0_at m d r k)
  have hw : (fun y => (c13 m d (Proc.devRef .tc main_v12_0) : Vec Ideal S2048x8 .f32) (ix2 r y)) = softmax fun q => σ m d r (pick (σ m d r) q) :=
    funext fun y => (congrFun (v12_0_keep m d) (ix2 r y)).trans (v12_0_at m d r y)
  have hv : (fun y k => (c13 m d (Proc.devRef .tc main_v15) : Vec Ideal S2048x8x128 .f32) (ix3 r y k)) = fun q l => A2 m d (ix2 (pick (σ m d r) q) l) :=
    funext fun y => funext fun k => v15_at m d r y k
  have h4 : (c13 m d (Proc.devRef .tc main_arg4) : Vec Ideal S128x128 .f32) = A4 m d := arg_13 m d main_arg4 (by decide)
  have h5 : (c13 m d (Proc.devRef .tc main_arg5) : Vec Ideal S64x256 .f32) = A5 m d := arg_13 m d main_arg5 (by decide)
  have h6 : (fun k => (c13 m d (Proc.devRef .tc main_v18) : Vec Ideal S1x64 .f32) (ix2 0 k)) = fun k => A6 m d (ix1 k) := funext fun k => by
    rw [val_v18, Layouts.bias_at]
    exact congrFun (arg_12 m d main_arg6 (by decide)) (ix1 k)
  have h7 : (fun k : Fin 64 => (c13 m d (Proc.devRef .tc main_v17) : Vec Ideal S1x65 .f32) (ix2 0 ⟨k.val, by omega⟩)) = fun k => A7 m d (ix2 0 k) := funext fun k => by
    rw [val_v17, Layouts.gate_at]
    exact congrFun (arg_12 m d main_arg7 (by decide)) (ix2 0 k)
  have h8 : (c13 m d (Proc.devRef .tc main_v17) : Vec Ideal S1x65 .f32) (ix2 0 64) = A8 m d (ix1 0) := by
    rw [val_v17, Layouts.gate_last]
    exact congrFun (arg_12 m d main_arg8 (by decide)) (ix1 0)
  unfold result retrieval
  rw [← hx, ← hw, ← hv, ← h4, ← h5, ← h6, ← h7, ← h8]

theorem v20_at (b : Fin 4) (s : Fin 512) (k : Fin 128) : (c15 m d (Proc.devRef .tc main_v20) : Vec Ideal S4x512x128 .f32) (ix3 b s k)
    = result m d ⟨b.val * 512 + s.val, by omega⟩ k := by
  rw [val_v20, Layouts.out_at, v19_at]

end Cert.Proof.KernelVals

end
-- ==== Proof.RefStages.lean ====
module

public import proofs.«01_k».proof.Proof.Gen.ReferenceIdeal.Run
public import Idealize.ShloMosaic.Lib.Pointwise
public import Idealize.ShloMosaic.Lib.Tactic.CleanTypes
public import Idealize.ShloMosaic.PureOps.Ideal.Laws

@[expose] public section

set_option maxRecDepth 16384

/-!
# The reference's result in stages

The reference's result is one long term of its arguments.  Here it is cut at the places where the
kernel keeps an array of its own: the projected queries, the similarities, the eight greatest
similarities with their indices, the softmax weights, the fetched rows, the projected retrieval, the
gate's hidden layer and the result.
-/

noncomputable section

namespace Cert.Proof.RefStages

open Cert.ReferenceIdeal Cert.ReferenceIdeal.Gen Idealize.ShloMosaic Idealize.ShloMosaic.TcCoe

variable {F : FTy → Type} [FloatOps F]

/-- The projected queries. -/
def rq (a0 : Vec F S4x512x128 .f32) (a3 : Vec F S128x128 .f32) : Vec F S4x512x128 .f32 :=
  Host.dotGeneral dot_S4x512x128_S128x128_S4x512x128_2_0_01_1_n_n none a0
    (transpose S128x128 [1, 0] a3 transposes_S128x128_S128x128_1_0)

/-- The similarities of the normalised queries with the normalised keys. -/
def rsims (a0 : Vec F S4x512x128 .f32) (a1 : Vec F S100000x128 .f32) (a3 : Vec F S128x128 .f32) :
    Vec F S4x512x100000 .f32 :=
  Host.dotGeneral dot_S4x512x128_S128x100000_S4x512x100000_2_0_01_1_n_n none (Host.divf
    (rq a0 a3) (broadcastInDim S4x512x128 ![0, 1, 2] bcast_S4x512x1_S4x512x128_0_1_2 (maximumf
    (Host.sqrt (broadcastInDim S4x512x1 ![0, 1] bcast_S4x512_S4x512x1_0_1 (Host.reduceAdd (mulf
    (rq a0 a3) (rq a0 a3))
    (constant S_ .f32 0x00000000#32) reducesTo_S4x512x128_S4x512_d2 h_S_)))
    (broadcastInDim S4x512x1 ![] bcast_S_S4x512x1 (constant S_ .f32 0x2B8CBCCC#32)))))
    (transpose S128x100000 [1, 0] (Host.divf a1
    (broadcastInDim S100000x128 ![0, 1] bcast_S100000x1_S100000x128_0_1 (maximumf (Host.sqrt
    (broadcastInDim S100000x1 ![0] bcast_S100000_S100000x1_0 (Host.reduceAdd (mulf a1 a1)
    (constant S_ .f32 0x00000000#32) reducesTo_S100000x128_S100000_d1 h_S_)))
    (broadcastInDim S100000x1 ![] bcast_S_S100000x1
    (constant S_ .f32 0x2B8CBCCC#32))))) transposes_S100000x128_S128x100000_1_0)

/-- The eight greatest similarities of each query, -/
def rvals (a0 : Vec F S4x512x128 .f32) (a1 : Vec F S100000x128 .f32) (a3 : Vec F S128x128 .f32) :
    Vec F S4x512x8 .f32 :=
  (Host.topK S4x512x8 2 (FloatOps.cmpfTotal .gt) (rsims a0 a1 a3) sliceFits_S4x512x100000_S4x512x8).1

/-- and the keys they belong to. -/
def ridx (a0 : Vec F S4x512x128 .f32) (a1 : Vec F S100000x128 .f32) (a3 : Vec F S128x128 .f32) :
    Vec F S4x512x8 .i32 :=
  (Host.topK S4x512x8 2 (FloatOps.cmpfTotal .gt) (rsims a0 a1 a3) sliceFits_S4x512x100000_S4x512x8).2

/-- The softmax of eight similarities. -/
def rwts (v : Vec F S4x512x8 .f32) : Vec F S4x512x8 .f32 :=
  Host.divf (Host.exp (subf v (broadcastInDim S4x512x8 ![0, 1, 2] bcast_S4x512x1_S4x512x8_0_1_2
    (broadcastInDim S4x512x1 ![0, 1] bcast_S4x512_S4x512x1_0_1 (maximumf
    (broadcastInDim S4x512 ![] bcast_S_S4x512 (constant S_ .f32 0xFF800000#32))
    (Host.reduce FloatOps.maximumf v
    (constant S_ .f32 0xFF800000#32) reducesTo_S4x512x8_S4x512_d2 h_S_))))))
    (broadcastInDim S4x512x8 ![0, 1, 2] bcast_S4x512x1_S4x512x8_0_1_2
    (broadcastInDim S4x512x1 ![0, 1] bcast_S4x512_S4x512x1_0_1 (Host.reduceAdd (Host.exp (subf v
    (broadcastInDim S4x512x8 ![0, 1, 2] bcast_S4x512x1_S4x512x8_0_1_2
    (broadcastInDim S4x512x1 ![0, 1] bcast_S4x512_S4x512x1_0_1 (maximumf
    (broadcastInDim S4x512 ![] bcast_S_S4x512 (constant S_ .f32 0xFF800000#32))
    (Host.reduce FloatOps.maximumf v
    (constant S_ .f32 0xFF800000#32) reducesTo_S4x512x8_S4x512_d2 h_S_))))))
    (constant S_ .f32 0x00000000#32) reducesTo_S4x512x8_S4x512_d2 h_S_)))

/-- The rows fetched at the indices. -/
def rrows (a2 : Vec F S100000x128 .f32) (ix : Vec F S4x512x8 .i32) : Vec F S4x512x8x128 .f32 :=
  Host.gather gather_S100000x128_S4x512x8x1_S4x512x8x128_3_0_n_n_0_3_1128 a2
    (broadcastInDim S4x512x8x1 ![0, 1, 2] bcast_S4x512x8_S4x512x8x1_0_1_2 (select (cmpi .slt ix
    (broadcastInDim S4x512x8 ![] bcast_S_S4x512x8 (constantI S_ 32 0#32))) (addi ix
    (broadcastInDim S4x512x8 ![] bcast_S_S4x512x8 (constantI S_ 32 100000#32))) ix))

/-- The weighted sum of the rows, projected. -/
def rret (w : Vec F S4x512x8 .f32) (rows : Vec F S4x512x8x128 .f32) (a4 : Vec F S128x128 .f32) :
    Vec F S4x512x128 .f32 :=
  Host.dotGeneral dot_S4x512x128_S128x128_S4x512x128_2_0_01_1_n_n none (Host.reduceAdd (mulf
    (broadcastInDim S4x512x8x128 ![0, 1, 2, 3] bcast_S4x512x8x1_S4x512x8x128_0_1_2_3
    (broadcastInDim S4x512x8x1 ![0, 1, 2] bcast_S4x512x8_S4x512x8x1_0_1_2 w)) rows)
    (constant S_ .f32 0x00000000#32) reducesTo_S4x512x8x128_S4x512x128_d2 h_S_)
    (transpose S128x128 [1, 0] a4 transposes_S128x128_S128x128_1_0)

/-- The gate's hidden layer before its activation. -/
def rhid (a0 : Vec F S4x512x128 .f32) (a5 : Vec F S64x256 .f32) (a6 : Vec F S64 .f32)
    (ret : Vec F S4x512x128 .f32) : Vec F S4x512x64 .f32 :=
  addf (Host.dotGeneral dot_S4x512x256_S256x64_S4x512x64_2_0_01_1_n_n none
    (concatenate S4x512x256 2 [⟨S4x512x128, a0⟩, ⟨S4x512x128, ret⟩] concatenates_S4x512x128_S4x512x128_S4x512x256_d2)
    (transpose S256x64 [1, 0] a5 transposes_S64x256_S256x64_1_0))
    (broadcastInDim S4x512x64 ![0, 1, 2] bcast_S1x1x64_S4x512x64_0_1_2
    (broadcastInDim S1x1x64 ![2] bcast_S64_S1x1x64_2 a6))

/-- The gated result. -/
def rout (a0 : Vec F S4x512x128 .f32) (a5 : Vec F S64x256 .f32) (a6 : Vec F S64 .f32)
    (a7 : Vec F S1x64 .f32) (a8 : Vec F S1 .f32) (ret : Vec F S4x512x128 .f32) :
    Vec F S4x512x128 .f32 :=
  addf a0 (mulf (broadcastInDim S4x512x128 ![0, 1, 2] bcast_S4x512x1_S4x512x128_0_1_2 (Host.divf
    (broadcastInDim S4x512x1 ![] bcast_S_S4x512x1 (constant S_ .f32 0x3F800000#32)) (addf
    (broadcastInDim S4x512x1 ![] bcast_S_S4x512x1 (constant S_ .f32 0x3F800000#32)) (Host.exp
    (Host.negf (addf (Host.dotGeneral dot_S4x512x64_S64x1_S4x512x1_2_0_01_1_n_n none (mulf (mulf
    (broadcastInDim S4x512x64 ![] bcast_S_S4x512x64 (constant S_ .f32 0x3F000000#32))
    (rhid a0 a5 a6 ret)) (Host.erfc (mulf (Host.negf (rhid a0 a5 a6 ret))
    (broadcastInDim S4x512x64 ![] bcast_S_S4x512x64 (constant S_ .f32 0x3F3504F3#32)))))
    (transpose S64x1 [1, 0] a7 transposes_S1x64_S64x1_1_0))
    (broadcastInDim S4x512x1 ![0, 1, 2] bcast_S1x1x1_S4x512x1_0_1_2
    (broadcastInDim S1x1x1 ![2] bcast_S1_S1x1x1_2 a8)))))))) ret)

/-- The result of the reference's run is the last stage over the ones before it. -/
theorem res_eq (m : (ℓ : Loc nD τ sig) → Buf (Elt F) ℓ) (c : Dev nD) :
    Value.res_main_v64 m c
      = rout (m (c.tc.loc main_arg0)) (m (c.tc.loc main_arg5)) (m (c.tc.loc main_arg6))
          (m (c.tc.loc main_arg7)) (m (c.tc.loc main_arg8))
          (rret (rwts (rvals (m (c.tc.loc main_arg0)) (m (c.tc.loc main_arg1))
              (m (c.tc.loc main_arg3))))
            (rrows (m (c.tc.loc main_arg2)) (ridx (m (c.tc.loc main_arg0)) (m (c.tc.loc main_arg1))
              (m (c.tc.loc main_arg3)))) (m (c.tc.loc main_arg4))) := rfl

end Cert.Proof.RefStages
-- ==== Proof.RefReads.lean ====
module

public import proofs.«01_k».proof.Proof.RefStages
public import proofs.«01_k».proof.Proof.RoundMath
public import proofs.«01_k».proof.Proof.UnitMath

@[expose] public section

set_option maxRecDepth 16384

/-!
# The reference's stages, entry by entry
-/

noncomputable section

namespace Cert.Proof.RefReads

open Cert.ReferenceIdeal Cert.ReferenceIdeal.Gen Idealize.ShloMosaic Idealize.ShloMosaic.TcCoe
open Cert.Proof.RefStages Cert.Proof.UnitMath Cert.Proof.RankMath

/-- A query's similarities to all keys. -/
def sims (a0 : Vec Ideal S4x512x128 .f32) (a1 : Vec Ideal S100000x128 .f32) (a3 : Vec Ideal S128x128 .f32)
    (b : Fin 4) (s : Fin 512) (e : Fin 100000) : EReal :=
  ∑ x, unit (fun d => ∑ y, a0 (ix3 b s y) * a3 (ix2 d y)) x * unit (fun y => a1 (ix2 e y)) x

theorem sims_at (a0 : Vec Ideal S4x512x128 .f32) (a1 : Vec Ideal S100000x128 .f32) (a3 : Vec Ideal S128x128 .f32)
    (b : Fin 4) (s : Fin 512) (e : Fin 100000) : rsims a0 a1 a3 (ix3 b s e) = sims a0 a1 a3 b s e := by
  unfold rsims rq
  pointwise
  rfl

/-- An entry's position on the last axis. -/
theorem along_last (J : S4x512x100000.Idx) (b : Fin 4) (s : Fin 512) (h0 : J 0 = b) (h1 : J 1 = s) (k : Fin 100000) :
    J.along (2 : Fin 3) k = ix3 b s k := by
  funext a
  unfold Shape.Idx.along
  have h : ∀ a : Fin 3, a = 0 ∨ a = 1 ∨ a = 2 := by decide
  rcases h a with rfl | rfl | rfl
  · exact (Function.update_of_ne (by decide) _ _).trans h0
  · exact (Function.update_of_ne (by decide) _ _).trans h1
  · exact Function.update_self ..

/-- The words a top-k carries along. -/
def posWord (i : S4x512x100000.Idx) : BitVec 32 :=
  if hd : 2 < S4x512x100000.rank then iotaInDim S4x512x100000 32 ⟨2, hd⟩ i else 0#32

theorem posWord_at (b : Fin 4) (s : Fin 512) (e : Fin 100000) : posWord (ix3 b s e) = BitVec.ofNat 32 e.val := by
  unfold posWord
  rw [dif_pos (by decide)]
  rfl

/-- The comparison the reference sorts by. -/
theorem before_eq (x : Vec Ideal S4x512x100000 .f32) (y : S4x512x100000.Idx → BitVec 32) (J : S4x512x100000.Idx)
    (b : Fin 4) (s : Fin 512) (h0 : J 0 = b) (h1 : J 1 = s) :
    (fun k k' : Fin 100000 => (fun l r : EReal × BitVec 32 => FloatOps.cmpfTotal (F := Ideal) (φ := .f32) .gt l.1 r.1)
        (x (J.along (2 : Fin 3) k), y (J.along (2 : Fin 3) k)) (x (J.along (2 : Fin 3) k'), y (J.along (2 : Fin 3) k')) == 1#1)
      = fun k k' => decide (x (ix3 b s k') < x (ix3 b s k)) := by
  funext k k'
  have h : ∀ p : Bool, (BitVec.ofBool p == 1#1) = p := by decide
  rw [along_last J b s h0 h1, along_last J b s h0 h1]
  exact h _

/-- The `j`-th of the eight greatest is the entry of rank `j`. -/
theorem topK_at (x : Vec Ideal S4x512x100000 .f32) (b : Fin 4) (s : Fin 512) (j : Fin 8) :
    ∃ e : Fin 100000, rank (fun e => x (ix3 b s e)) Fin.val e = j.val
      ∧ (Host.topK S4x512x8 2 (FloatOps.cmpfTotal (F := Ideal) (φ := .f32) .gt) x sliceFits_S4x512x100000_S4x512x8).1 (ix3 b s j) = x (ix3 b s e)
      ∧ (Host.topK S4x512x8 2 (FloatOps.cmpfTotal (F := Ideal) (φ := .f32) .gt) x sliceFits_S4x512x100000_S4x512x8).2 (ix3 b s j) = BitVec.ofNat 32 e.val := by
  have hJ2 : 0 + j.val < 100000 := by omega
  refine ⟨sortedFrom (fun k k' => decide (x (ix3 b s k') < x (ix3 b s k))) ⟨0 + j.val, hJ2⟩,
    (rank_sortedFrom (fun e => x (ix3 b s e)) _).trans (Nat.zero_add _), ?_, ?_⟩
  · unfold Host.topK Host.sort2
    simp only
    rw [dif_pos (by decide)]
    unfold extractStridedSlice
    refine congrArg x ((along_last _ b s (Fin.ext (Nat.zero_add _)) (Fin.ext (Nat.zero_add _)) _).trans ?_)
    refine congrArg (ix3 b s) ?_
    exact congrArg (fun f => sortedFrom f (⟨0 + j.val, hJ2⟩ : Fin 100000))
      (before_eq x posWord _ b s (Fin.ext (Nat.zero_add _)) (Fin.ext (Nat.zero_add _)))
  · unfold Host.topK Host.sort2
    simp only
    rw [dif_pos (by decide)]
    unfold extractStridedSlice
    refine Eq.trans ?_ (posWord_at b s _)
    refine congrArg posWord ((along_last _ b s (Fin.ext (Nat.zero_add _)) (Fin.ext (Nat.zero_add _)) _).trans ?_)
    refine congrArg (ix3 b s) ?_
    exact congrArg (fun f => sortedFrom f (⟨0 + j.val, hJ2⟩ : Fin 100000))
      (before_eq x posWord _ b s (Fin.ext (Nat.zero_add _)) (Fin.ext (Nat.zero_add _)))

/-! ## After the search -/

theorem bot_bits : Ideal.ofBits .f32 4286578688#32 = ⊥ := by simp [Ideal.ofBits, Ideal.ieee]

theorem wts_at (v : Vec Ideal S4x512x8 .f32) (b : Fin 4) (s : Fin 512) (j : Fin 8) : rwts v (ix3 b s j)
    = Ideal.div (Ideal.exp (v (ix3 b s j) - Finset.univ.fold max ⊥ fun x => v (ix3 b s x)))
        (∑ y, Ideal.exp (v (ix3 b s y) - Finset.univ.fold max ⊥ fun x => v (ix3 b s x))) := by
  unfold rwts
  pointwise
  simp only [bot_bits, bot_le, max_eq_right]

/-- The host's gather of rows, the row numbers clamped to the table. -/
theorem hostGather_at (x : Vec Ideal S100000x128 .f32) (i : IVec S4x512x8x1 32) (b : Fin 4) (s : Fin 512) (j : Fin 8) (k : Fin 128) :
    Host.gather gather_S100000x128_S4x512x8x1_S4x512x8x128_3_0_n_n_0_3_1128 x i (ix4 b s j k)
      = x (ix2 ⟨min (i (ix4 b s j (0 : Fin 1))).toInt.toNat 99999, by omega⟩ k) := by
  unfold Host.gather
  congr 1
  funext a
  apply Fin.ext
  have h0 : ∀ a : Fin 2, a = 0 ∨ a = 1 := by decide
  have h4 : ∀ a : Fin 4, a = 0 ∨ a = 1 ∨ a = 2 ∨ a = 3 := by decide
  rcases h0 a with rfl | rfl
  · show GatherDims.start _ (ix4 b s j k) i 0 + GatherDims.batchCoord _ (ix4 b s j k) 0 + GatherDims.offCoord _ (ix4 b s j k) 0 = min _ _
    rw [GatherDims.batchCoord_eq_zero _ _ _ (by decide), GatherDims.offCoord_eq_zero _ _ _ (by decide), GatherDims.start,
      dif_pos (by decide)]
    show min (i _).toInt.toNat 99999 = _
    congr 4
    funext c
    rcases h4 c with rfl | rfl | rfl | rfl
    · unfold GatherDims.siIdx; rw [dif_neg (by decide)]; rfl
    · unfold GatherDims.siIdx; rw [dif_neg (by decide)]; rfl
    · unfold GatherDims.siIdx; rw [dif_neg (by decide)]; rfl
    · unfold GatherDims.siIdx; rw [dif_pos (by decide)]; rfl
  · show GatherDims.start _ (ix4 b s j k) i 1 + GatherDims.batchCoord _ (ix4 b s j k) 1 + GatherDims.offCoord _ (ix4 b s j k) 1 = k.val
    rw [GatherDims.batchCoord_eq_zero _ _ _ (by decide), GatherDims.start, dif_neg (by decide), GatherDims.offCoord, dif_pos (by decide),
      Nat.zero_add]
    rfl

/-- A row fetched at an index in range. -/
theorem rows_at (a2 : Vec Ideal S100000x128 .f32) (ix : Vec Ideal S4x512x8 .i32) (b : Fin 4) (s : Fin 512) (j : Fin 8) (k : Fin 128)
    (e : Fin 100000) (h : ix (ix3 b s j) = BitVec.ofNat 32 e.val) : rrows a2 ix (ix4 b s j k) = a2 (ix2 e k) := by
  have ht : (BitVec.ofNat 32 e.val).toInt = e.val := by
    rw [BitVec.toInt_eq_toNat_of_lt (by rw [BitVec.toNat_ofNat]; omega), BitVec.toNat_ofNat]
    omega
  have hc : IntOp.cmpi .slt (ix (ix3 b s j)) 0#32 = 0#1 := by
    have h2 : ∀ p : Bool, (BitVec.ofBool p = 0#1) ↔ p = false := by decide
    simp only [IntOp.cmpi, h2, BitVec.slt_eq_decide, decide_eq_false_iff_not, not_lt]
    rw [h, ht]
    simp
  have hb : broadcastInDim S4x512x8x1 ![0, 1, 2] bcast_S4x512x8_S4x512x8x1_0_1_2 (select (cmpi .slt ix
      (broadcastInDim S4x512x8 ![] bcast_S_S4x512x8 (constantI S_ 32 0#32))) (addi ix
      (broadcastInDim S4x512x8 ![] bcast_S_S4x512x8 (constantI S_ 32 100000#32))) ix) (ix4 b s j (0 : Fin 1)) = BitVec.ofNat 32 e.val := by
    pointwise
    rw [hc]
    exact (if_neg (by decide)).trans h
  unfold rrows
  rw [hostGather_at]
  refine congrArg (fun r => a2 (ix2 r k)) (Fin.ext ?_)
  refine (congrArg (fun v : BitVec 32 => min v.toInt.toNat 99999) hb).trans ?_
  show min (BitVec.ofNat 32 e.val).toInt.toNat 99999 = e.val
  rw [ht]
  omega

theorem ret_at (w : Vec Ideal S4x512x8 .f32) (rows : Vec Ideal S4x512x8x128 .f32) (a4 : Vec Ideal S128x128 .f32)
    (b : Fin 4) (s : Fin 512) (k : Fin 128) : rret w rows a4 (ix3 b s k)
      = ∑ x, (∑ y, w (ix3 b s y) * rows (ix4 b s y x)) * a4 (ix2 k x) := by
  unfold rret
  pointwise

theorem hid_at (a0 : Vec Ideal S4x512x128 .f32) (a5 : Vec Ideal S64x256 .f32) (a6 : Vec Ideal S64 .f32) (ret : Vec Ideal S4x512x128 .f32)
    (b : Fin 4) (s : Fin 512) (k : Fin 64) : rhid a0 a5 a6 ret (ix3 b s k)
      = ∑ x : Fin 128, a0 (ix3 b s x) * a5 (ix2 k ⟨x.val, by omega⟩) + ∑ x : Fin 128, ret (ix3 b s x) * a5 (ix2 k ⟨128 + x.val, by omega⟩)
        + a6 (ix1 k) := by
  unfold rhid
  pointwise

theorem out_at (a0 : Vec Ideal S4x512x128 .f32) (a5 : Vec Ideal S64x256 .f32) (a6 : Vec Ideal S64 .f32) (a7 : Vec Ideal S1x64 .f32)
    (a8 : Vec Ideal S1 .f32) (ret : Vec Ideal S4x512x128 .f32) (b : Fin 4) (s : Fin 512) (k : Fin 128) :
    rout a0 a5 a6 a7 a8 ret (ix3 b s k)
      = a0 (ix3 b s k) + Ideal.logistic (∑ x : Fin 64, Ideal.ofBits .f32 1056964608#32 * rhid a0 a5 a6 ret (ix3 b s x)
          * (1 + Ideal.erf (rhid a0 a5 a6 ret (ix3 b s x) * Ideal.ofBits .f32 1060439283#32)) * a7 (ix2 0 x) + a8 (ix1 0)) * ret (ix3 b s k) := by
  unfold rout
  pointwise
  simp only [one_add_erf]
  rfl

end Cert.Proof.RefReads

end
-- ==== Proof.WholeClaims.lean ====
module

public import proofs.«01_k».proof.Defs
public import proofs.«01_k».proof.Proof.WholeRun
public import proofs.«01_k».proof.Proof.KernelVals
public import proofs.«01_k».proof.Proof.RefReads

@[expose] public section

set_option maxRecDepth 16384

/-!
# The whole kernel against the reference

The reference's result is, entry by entry, the same function of the arguments as the kernel's: the
softmax of the eight foremost similarities, the weighted sum of their values, projected and gated.
-/

noncomputable section

namespace Cert.Proof.WholeClaims

open Idealize.ShloMosaic Idealize.ShloMosaic.TcCoe Idealize.SL.Sem
open Cert.Proof.RankMath Cert.Proof.UnitMath Cert.Proof.KernelVals Cert.Proof.RefStages

/-! ## The reference's result at an entry -/

section Reference

open Cert.ReferenceIdeal Cert.ReferenceIdeal.Gen

variable (a0 : Vec Ideal S4x512x128 .f32) (a1 a2 : Vec Ideal S100000x128 .f32) (a3 a4 : Vec Ideal S128x128 .f32)
  (a5 : Vec Ideal S64x256 .f32) (a6 : Vec Ideal S64 .f32) (a7 : Vec Ideal S1x64 .f32) (a8 : Vec Ideal S1 .f32)
  (b : Fin 4) (s : Fin 512)

/-- The similarities of the query at `b`, `s`. -/
def sim : Fin 100000 → EReal := similarity (fun y => a0 (ix3 b s y)) (fun i y => a3 (ix2 i y)) (fun e y => a1 (ix2 e y))

theorem found (j : Fin 8) : rvals a0 a1 a3 (ix3 b s j) = sim a0 a1 a3 b s (pick (sim a0 a1 a3 b s) j)
    ∧ ridx a0 a1 a3 (ix3 b s j) = BitVec.ofNat 32 (pick (sim a0 a1 a3 b s) j).val := by
  have hs : (fun e => rsims a0 a1 a3 (ix3 b s e)) = sim a0 a1 a3 b s := funext fun e => RefReads.sims_at a0 a1 a3 b s e
  obtain ⟨e, hr, hv, hi⟩ := RefReads.topK_at (rsims a0 a1 a3) b s j
  rw [hs] at hr
  have he : e = pick (sim a0 a1 a3 b s) j := eq_nth _ Fin.val Fin.val_injective (by rw [Fintype.card_fin]; omega) hr
  subst he
  exact ⟨hv.trans (congrFun hs _), hi⟩

/-- The reference's retrieval, -/
def refRet : Fin 128 → EReal :=
  Round6.retOf (softmax fun q => sim a0 a1 a3 b s (pick (sim a0 a1 a3 b s) q)) (fun q l => a2 (ix2 (pick (sim a0 a1 a3 b s) q) l)) a4

theorem ret_at (k : Fin 128) : rret (rwts (rvals a0 a1 a3)) (rrows a2 (ridx a0 a1 a3)) a4 (ix3 b s k) = refRet a0 a1 a2 a3 a4 b s k := by
  rw [RefReads.ret_at]
  unfold refRet Round6.retOf
  refine Finset.sum_congr rfl fun x _ => congrArg (fun t : EReal => t * a4 (ix2 k x)) ?_
  refine Finset.sum_congr rfl fun y _ => ?_
  have hv : (fun y => rvals a0 a1 a3 (ix3 b s y)) = fun q => sim a0 a1 a3 b s (pick (sim a0 a1 a3 b s) q) := funext fun q => (found a0 a1 a3 b s q).1
  have hw : rwts (rvals a0 a1 a3) (ix3 b s y) = softmax (fun y => rvals a0 a1 a3 (ix3 b s y)) y := RefReads.wts_at _ b s y
  rw [hw, hv, RefReads.rows_at a2 _ b s y x _ (found a0 a1 a3 b s y).2]

/-- and its result. -/
theorem out_at (k : Fin 128) :
    rout a0 a5 a6 a7 a8 (rret (rwts (rvals a0 a1 a3)) (rrows a2 (ridx a0 a1 a3)) a4) (ix3 b s k)
      = Round6.gated (fun y => a0 (ix3 b s y)) (refRet a0 a1 a2 a3 a4 b s)
          (Round6.hid (fun y => a0 (ix3 b s y)) (refRet a0 a1 a2 a3 a4 b s) a5 fun k => a6 (ix1 k)) (fun k => a7 (ix2 0 k)) (a8 (ix1 0)) k := by
  have hr : refRet a0 a1 a2 a3 a4 b s = fun k => rret (rwts (rvals a0 a1 a3)) (rrows a2 (ridx a0 a1 a3)) a4 (ix3 b s k) :=
    funext fun k => (ret_at a0 a1 a2 a3 a4 b s k).symm
  rw [RefReads.out_at, hr]
  simp only [RefReads.hid_at]
  rfl

end Reference

/-! ## The two results are equal -/

section Kernel

open Cert.KernelIdeal Cert.KernelIdeal.Gen

variable (m : (ℓ : Loc nD τ sig) → Buf (Elt Ideal) ℓ) (d : Dev nD)

theorem query_eq (b : Fin 4) (s : Fin 512) (h : b.val * 512 + s.val < 2048) :
    query m d ⟨b.val * 512 + s.val, h⟩ = fun y => A0 m d (ix3 b s y) := by
  funext y
  have e1 : ∀ h', (⟨(b.val * 512 + s.val) / 512, h'⟩ : Fin 4) = b := fun _ => Fin.ext (show (b.val * 512 + s.val) / 512 = b.val by omega)
  have e2 : ∀ h', (⟨(b.val * 512 + s.val) % 512, h'⟩ : Fin 512) = s := fun _ => Fin.ext (show (b.val * 512 + s.val) % 512 = s.val by omega)
  unfold query
  simp only [e1, e2]

theorem result_eq (b : Fin 4) (s : Fin 512) (k : Fin 128) (h : b.val * 512 + s.val < 2048) :
    result m d ⟨b.val * 512 + s.val, h⟩ k
      = Round6.gated (fun y => A0 m d (ix3 b s y)) (refRet (A0 m d) (A1 m d) (A2 m d) (A3 m d) (A4 m d) b s)
          (Round6.hid (fun y => A0 m d (ix3 b s y)) (refRet (A0 m d) (A1 m d) (A2 m d) (A3 m d) (A4 m d) b s) (A5 m d) fun k => A6 m d (ix1 k))
          (fun k => A7 m d (ix2 0 k)) (A8 m d (ix1 0)) k := by
  unfold result retrieval σ
  rw [query_eq]
  rfl

theorem results_eq : (rout (A0 m d) (A5 m d) (A6 m d) (A7 m d) (A8 m d)
      (rret (rwts (rvals (A0 m d) (A1 m d) (A3 m d))) (rrows (A2 m d) (ridx (A0 m d) (A1 m d) (A3 m d))) (A4 m d)) : S4x512x128.Idx → EReal)
    = (Whole.c15 m d (Proc.devRef .tc main_v20) : Vec Ideal S4x512x128 .f32) := by
  funext j
  have hj : j = ix3 (j 0) (j 1) (j 2) := funext fun a => by
    have h3 : ∀ a : Fin 3, a = 0 ∨ a = 1 ∨ a = 2 := by decide
    rcases h3 a with rfl | rfl | rfl <;> rfl
  rw [hj]
  exact (out_at (A0 m d) (A1 m d) (A2 m d) (A3 m d) (A4 m d) (A5 m d) (A6 m d) (A7 m d) (A8 m d) (j 0) (j 1) (j 2)).trans
    ((result_eq m d (j 0) (j 1) (j 2) _).symm.trans (v20_at m d (j 0) (j 1) (j 2)).symm)

end Kernel

/-! ## The claims -/

theorem kept (m : (ℓ : Loc Cert.KernelIdeal.nD Cert.KernelIdeal.τ Cert.KernelIdeal.sig) → Buf (Elt Ideal) ℓ)
    (r : PUnit × MemSt Cert.KernelIdeal.nD Cert.KernelIdeal.τ Cert.KernelIdeal.sig (Elt Ideal)) (h : Whole.QC m r) (c : Dev Cert.KernelIdeal.nD)
    (b : Ref Cert.KernelIdeal.sig .tc) (hb : b ∈ Whole.args) :
    r.2.mem ((c.tc : Thread Cert.KernelIdeal.nD Cert.KernelIdeal.τ).loc b) = m ((c.tc : Thread Cert.KernelIdeal.nD Cert.KernelIdeal.τ).loc b) :=
  (h.1 c _ (Pipeline.devRef_mem_ucRefs ((by decide : ∀ b ∈ Whole.args, b.isScoped = false) b hb))).trans (Whole.arg_15 m c b hb)

theorem frameIdeal : Cert.quiescent_KernelIdeal := fun m g _ =>
  (θ_run Cert.KernelIdeal.defs _ _).mono (fun r h => ⟨fun c => ⟨kept m r h c _ (by decide), kept m r h c _ (by decide), kept m r h c _ (by decide),
      kept m r h c _ (by decide), kept m r h c _ (by decide), kept m r h c _ (by decide), kept m r h c _ (by decide), kept m r h c _ (by decide),
      kept m r h c _ (by decide)⟩, h.2⟩)
    (Whole.run_main (F := Ideal) m g (inRangeS m) (inRangeV m))

theorem frameRef : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic : Cert.algebraic_KernelIdeal_ReferenceIdeal := by
  intro m g m' g' _ hargs
  refine ⟨fun c => Whole.c15 m c (Proc.devRef .tc Cert.KernelIdeal.main_v20), ?_, ?_⟩
  · exact (θ_run Cert.KernelIdeal.defs _ _).mono (fun r h c => ⟨h.1 c _ (Pipeline.devRef_mem_ucRefs (by decide)), kept m r h c _ (by decide), kept m r h c _ (by decide),
      kept m r h c _ (by decide), kept m r h c _ (by decide), kept m r h c _ (by decide), kept m r h c _ (by decide), kept m r h c _ (by decide),
      kept m r h c _ (by decide), kept m r h c _ (by decide)⟩)
      (Whole.run_main (F := Ideal) m g (inRangeS m) (inRangeV m))
  · refine (θ_run Cert.ReferenceIdeal.defs _ _).mono (fun _ h c => ⟨(h c).1.trans ?_, (h c).2⟩) (Cert.ReferenceIdeal.Value.run (F := Ideal) m' g')
    obtain ⟨h0, h1, h2, h3, h4, h5, h6, h7, h8⟩ := hargs c
    rw [res_eq, h0, h1, h2, h3, h4, h5, h6, h7, h8]
    exact results_eq m c

end Cert.Proof.WholeClaims

end
-- ==== Proof.lean ====
/-
  The claims about the whole kernel and about its two row gathers on the SparseCore alone. Over the reals the kernel ends from
  every memory, and its result is the reference's. Each gather ends from every memory whose row numbers are in range, and its
  result is the table's rows the list names.
-/
module

public import proofs.«01_k».proof.Defs
public import proofs.«01_k».proof.Proof.RowsClaims
public import proofs.«01_k».proof.Proof.SimRowsClaims
public import proofs.«01_k».proof.Proof.WholeClaims
public import proofs.«01_k».proof.Proof.Gen.Rows
public import proofs.«01_k».proof.Proof.Gen.Rows.Skeleton
public import proofs.«01_k».proof.Proof.Gen.RowsIdeal
public import proofs.«01_k».proof.Proof.Gen.RowsIdeal.Skeleton
public import proofs.«01_k».proof.Proof.Gen.RowsRefIdeal
public import proofs.«01_k».proof.Proof.Gen.RowsRefIdeal.Run
public import proofs.«01_k».proof.Proof.Gen.Pre_idx_in_rows
public import proofs.«01_k».proof.Proof.Gen.SimRows
public import proofs.«01_k».proof.Proof.Gen.SimRows.Skeleton
public import proofs.«01_k».proof.Proof.Gen.SimRowsIdeal
public import proofs.«01_k».proof.Proof.Gen.SimRowsIdeal.Skeleton
public import proofs.«01_k».proof.Proof.Gen.SimRowsRefIdeal
public import proofs.«01_k».proof.Proof.Gen.SimRowsRefIdeal.Run
public import proofs.«01_k».proof.Proof.Gen.Pre_idx_in_sims
public import proofs.«01_k».proof.Proof.Gen.KernelIdeal
public import proofs.«01_k».proof.Proof.Gen.KernelIdeal.Launch
public import proofs.«01_k».proof.Proof.Gen.KernelIdeal.Points
public import proofs.«01_k».proof.Proof.Gen.KernelIdeal.Skeleton
public import proofs.«01_k».proof.Proof.Gen.ReferenceIdeal
public import proofs.«01_k».proof.Proof.Gen.ReferenceIdeal.Run

@[expose] public section

namespace Cert.Proof

theorem claim : Cert.Claim :=
  ⟨Cert.Rows.Gen.facts, Cert.RowsIdeal.Gen.facts, Cert.RowsRefIdeal.Gen.facts, Cert.SimRows.Gen.facts, Cert.SimRowsIdeal.Gen.facts,
    Cert.SimRowsRefIdeal.Gen.facts, Cert.KernelIdeal.Gen.facts, Cert.ReferenceIdeal.Gen.facts, Cert.Pre_idx_in_rows.Gen.facts, Cert.Pre_idx_in_sims.Gen.facts,
    RowsClaims.frameBits, RowsClaims.frameIdeal, RowsClaims.frameRef, SimRowsClaims.frameBits, SimRowsClaims.frameIdeal,
    SimRowsClaims.frameRef, WholeClaims.frameIdeal, WholeClaims.frameRef, trivial, RowsClaims.algebraic, trivial,
    SimRowsClaims.algebraic, WholeClaims.algebraic⟩

end Cert.Proof

end
